-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v9)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v9) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v50) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v8)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v8) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v37) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v10) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_finite_scores.lean ====
abbrev S2x8192x8x192 : Shape := ⟨4, ![2, 8192, 8, 192]⟩
abbrev S2x8192x8x128 : Shape := ⟨4, ![2, 8192, 8, 128]⟩
abbrev S2x8192x64 : Shape := ⟨3, ![2, 8192, 64]⟩
abbrev S2x256x8x128 : Shape := ⟨4, ![2, 256, 8, 128]⟩
abbrev S2x256x64 : Shape := ⟨3, ![2, 256, 64]⟩
abbrev S_ : Shape := ⟨0, ![]⟩

class Facts : Prop where
  bcast_S_S2x8192x8x192 : S_.BroadcastsInDim S2x8192x8x192 (![] : Fin 0 → Fin S2x8192x8x192.rank)
  reducesTo_S2x8192x8x192_S_d0_1_2_3 : S2x8192x8x192.ReducesTo [0, 1, 2, 3] S_
  h_S_ : 0 < S_.numel
  bcast_S_S2x8192x8x128 : S_.BroadcastsInDim S2x8192x8x128 (![] : Fin 0 → Fin S2x8192x8x128.rank)
  reducesTo_S2x8192x8x128_S_d0_1_2_3 : S2x8192x8x128.ReducesTo [0, 1, 2, 3] S_
  bcast_S_S2x8192x64 : S_.BroadcastsInDim S2x8192x64 (![] : Fin 0 → Fin S2x8192x64.rank)
  reducesTo_S2x8192x64_S_d0_1_2 : S2x8192x64.ReducesTo [0, 1, 2] S_
  bcast_S_S2x256x8x128 : S_.BroadcastsInDim S2x256x8x128 (![] : Fin 0 → Fin S2x256x8x128.rank)
  reducesTo_S2x256x8x128_S_d0_1_2_3 : S2x256x8x128.ReducesTo [0, 1, 2, 3] S_
  bcast_S_S2x256x64 : S_.BroadcastsInDim S2x256x64 (![] : Fin 0 → Fin S2x256x64.rank)
  reducesTo_S2x256x64_S_d0_1_2 : S2x256x64.ReducesTo [0, 1, 2] S_

variable [Facts]

def fn_part1 {F : FTy → Type} [FloatOps F] (main_arg5 : FVec F S2x256x64 .f32) (main_v13 : IVec S_ 1) (main_v16 : IVec S2x256x8x128 1) : IVec S_ 1 :=
  let main_c_5 : IVec S_ 1 := constantI S_ 1 1#1
  let main_v17 : IVec S_ 1 := (fun x v => Host.reduce IntOp.andi x v reducesTo_S2x256x8x128_S_d0_1_2_3 h_S_) main_v16 main_c_5
  let main_v18 : IVec S_ 1 := andi main_v13 main_v17
  let main_v19 : FVec F S2x256x64 .f32 := Host.absf main_arg5
  let main_cst_6 : FVec F S_ .f32 := constant S_ .f32 0x7F800000#32
  let main_v20 : FVec F S2x256x64 .f32 := broadcastInDim S2x256x64 ![] bcast_S_S2x256x64 main_cst_6
  let main_v21 : IVec S2x256x64 1 := cmpf .olt main_v19 main_v20
  let main_c_7 : IVec S_ 1 := constantI S_ 1 1#1
  let main_v22 : IVec S_ 1 := (fun x v => Host.reduce IntOp.andi x v reducesTo_S2x256x64_S_d0_1_2 h_S_) main_v21 main_c_7
  let main_v23 : IVec S_ 1 := andi main_v18 main_v22
  main_v23

def fn {F : FTy → Type} [FloatOps F] (main_arg0 : FVec F S2x8192x8x192 .f32) (main_arg1 : FVec F S2x8192x8x128 .f32) (main_arg2 : FVec F S2x8192x64 .f32) (main_arg3 : FVec F S2x8192x8x128 .f32) (main_arg4 : FVec F S2x256x8x128 .f32) (main_arg5 : FVec F S2x256x64 .f32) (main_arg6 : FVec F S2x256x8x128 .f32) : IVec S_ 1 :=
  let main_v0 : FVec F S2x8192x8x192 .f32 := Host.absf main_arg0
  let main_cst : FVec F S_ .f32 := constant S_ .f32 0x7F800000#32
  let main_v1 : FVec F S2x8192x8x192 .f32 := broadcastInDim S2x8192x8x192 ![] bcast_S_S2x8192x8x192 main_cst
  let main_v2 : IVec S2x8192x8x192 1 := cmpf .olt main_v0 main_v1
  let main_c : IVec S_ 1 := constantI S_ 1 1#1
  let main_v3 : IVec S_ 1 := (fun x v => Host.reduce IntOp.andi x v reducesTo_S2x8192x8x192_S_d0_1_2_3 h_S_) main_v2 main_c
  let main_v4 : FVec F S2x8192x8x128 .f32 := Host.absf main_arg1
  let main_cst_0 : FVec F S_ .f32 := constant S_ .f32 0x7F800000#32
  let main_v5 : FVec F S2x8192x8x128 .f32 := broadcastInDim S2x8192x8x128 ![] bcast_S_S2x8192x8x128 main_cst_0
  let main_v6 : IVec S2x8192x8x128 1 := cmpf .olt main_v4 main_v5
  let main_c_1 : IVec S_ 1 := constantI S_ 1 1#1
  let main_v7 : IVec S_ 1 := (fun x v => Host.reduce IntOp.andi x v reducesTo_S2x8192x8x128_S_d0_1_2_3 h_S_) main_v6 main_c_1
  let main_v8 : IVec S_ 1 := andi main_v3 main_v7
  let main_v9 : FVec F S2x8192x64 .f32 := Host.absf main_arg2
  let main_cst_2 : FVec F S_ .f32 := constant S_ .f32 0x7F800000#32
  let main_v10 : FVec F S2x8192x64 .f32 := broadcastInDim S2x8192x64 ![] bcast_S_S2x8192x64 main_cst_2
  let main_v11 : IVec S2x8192x64 1 := cmpf .olt main_v9 main_v10
  let main_c_3 : IVec S_ 1 := constantI S_ 1 1#1
  let main_v12 : IVec S_ 1 := (fun x v => Host.reduce IntOp.andi x v reducesTo_S2x8192x64_S_d0_1_2 h_S_) main_v11 main_c_3
  let main_v13 : IVec S_ 1 := andi main_v8 main_v12
  let main_v14 : FVec F S2x256x8x128 .f32 := Host.absf main_arg4
  let main_cst_4 : FVec F S_ .f32 := constant S_ .f32 0x7F800000#32
  let main_v15 : FVec F S2x256x8x128 .f32 := broadcastInDim S2x256x8x128 ![] bcast_S_S2x256x8x128 main_cst_4
  let main_v16 : IVec S2x256x8x128 1 := cmpf .olt main_v14 main_v15
  fn_part1 (F := F) main_arg5 main_v13 main_v16
-- ==== Kernel.lean ====
abbrev S2x8192x8x192 : Shape := ⟨4, ![2, 8192, 8, 192]⟩
abbrev S2x8192x8x128 : Shape := ⟨4, ![2, 8192, 8, 128]⟩
abbrev S2x8192x64 : Shape := ⟨3, ![2, 8192, 64]⟩
abbrev S2x256x8x128 : Shape := ⟨4, ![2, 256, 8, 128]⟩
abbrev S2x256x64 : Shape := ⟨3, ![2, 256, 64]⟩
abbrev S_ : Shape := ⟨0, ![]⟩
abbrev S2x8192x8x64 : Shape := ⟨4, ![2, 8192, 8, 64]⟩
abbrev S2x8192x8x256 : Shape := ⟨4, ![2, 8192, 8, 256]⟩
abbrev S2x8x8192x256 : Shape := ⟨4, ![2, 8, 8192, 256]⟩
abbrev S2x8192x1x64 : Shape := ⟨4, ![2, 8192, 1, 64]⟩
abbrev S2x8x8192x128 : Shape := ⟨4, ![2, 8, 8192, 128]⟩
abbrev S2x256x1x64 : Shape := ⟨4, ![2, 256, 1, 64]⟩
abbrev S2x256x8x64 : Shape := ⟨4, ![2, 256, 8, 64]⟩
abbrev S2x256x8x192 : Shape := ⟨4, ![2, 256, 8, 192]⟩
abbrev S2x256x8x256 : Shape := ⟨4, ![2, 256, 8, 256]⟩
abbrev S2x8x256x256 : Shape := ⟨4, ![2, 8, 256, 256]⟩
abbrev S2x8x256x128 : Shape := ⟨4, ![2, 8, 256, 128]⟩
abbrev S2x8192x1024 : Shape := ⟨3, ![2, 8192, 1024]⟩
abbrev S1x1x8192x256 : Shape := ⟨4, ![1, 1, 8192, 256]⟩
abbrev S1x1x2048x256 : Shape := ⟨4, ![1, 1, 2048, 256]⟩
abbrev S1x1x2048x128 : Shape := ⟨4, ![1, 1, 2048, 128]⟩
abbrev S1x1x256x256 : Shape := ⟨4, ![1, 1, 256, 256]⟩
abbrev S1x1x256x128 : Shape := ⟨4, ![1, 1, 256, 128]⟩
abbrev S1x8192x128 : Shape := ⟨3, ![1, 8192, 128]⟩
abbrev S8192x128 : Shape := ⟨2, ![8192, 128]⟩
abbrev S8192x256 : Shape := ⟨2, ![8192, 256]⟩
abbrev S512x2048 : Shape := ⟨2, ![512, 2048]⟩
abbrev S256x256 : Shape := ⟨2, ![256, 256]⟩
abbrev S8192 : Shape := ⟨1, ![8192]⟩
abbrev S8192x1 : Shape := ⟨2, ![8192, 1]⟩
abbrev S256x128 : Shape := ⟨2, ![256, 128]⟩
abbrev S2048x256 : Shape := ⟨2, ![2048, 256]⟩
abbrev S2048x128 : Shape := ⟨2, ![2048, 128]⟩
abbrev S1x1x512x256 : Shape := ⟨4, ![1, 1, 512, 256]⟩
abbrev S512x256 : Shape := ⟨2, ![512, 256]⟩
abbrev S512x128 : Shape := ⟨2, ![512, 128]⟩
abbrev S512 : Shape := ⟨1, ![512]⟩
abbrev S512x1 : Shape := ⟨2, ![512, 1]⟩

abbrev nBuf : Space → Nat
  | .hbm => 40
  | .vmem => 17
  | .smem => 0
  | _ => 0

abbrev bufTy : (tb : Table) → Fin (tcTables nBuf tb) → BufTy
  | .hbm, ⟨0, _⟩ => ⟨S2x8192x8x192, .f32⟩
  | .hbm, ⟨1, _⟩ => ⟨S2x8192x8x128, .f32⟩
  | .hbm, ⟨2, _⟩ => ⟨S2x8192x64, .f32⟩
  | .hbm, ⟨3, _⟩ => ⟨S2x8192x8x128, .f32⟩
  | .hbm, ⟨4, _⟩ => ⟨S2x256x8x128, .f32⟩
  | .hbm, ⟨5, _⟩ => ⟨S2x256x64, .f32⟩
  | .hbm, ⟨6, _⟩ => ⟨S2x256x8x128, .f32⟩
  | .hbm, ⟨7, _⟩ => ⟨S_, .f32⟩
  | .hbm, ⟨8, _⟩ => ⟨S2x8192x8x192, .f32⟩
  | .hbm, ⟨9, _⟩ => ⟨S2x8192x8x192, .f32⟩
  | .hbm, ⟨10, _⟩ => ⟨S_, .f32⟩
  | .hbm, ⟨11, _⟩ => ⟨S_, .f32⟩
  | .hbm, ⟨12, _⟩ => ⟨S2x8192x8x192, .f32⟩
  | .hbm, ⟨13, _⟩ => ⟨S2x8192x8x192, .f32⟩
  | .hbm, ⟨14, _⟩ => ⟨S_, .f32⟩
  | .hbm, ⟨15, _⟩ => ⟨S2x8192x8x64, .f32⟩
  | .hbm, ⟨16, _⟩ => ⟨S2x8192x8x256, .f32⟩
  | .hbm, ⟨17, _⟩ => ⟨S2x8x8192x256, .f32⟩
  | .hbm, ⟨18, _⟩ => ⟨S2x8x8192x256, .bf16⟩
  | .hbm, ⟨19, _⟩ => ⟨S2x8192x1x64, .f32⟩
  | .hbm, ⟨20, _⟩ => ⟨S2x8192x8x64, .f32⟩
  | .hbm, ⟨21, _⟩ => ⟨S2x8192x8x192, .f32⟩
  | .hbm, ⟨22, _⟩ => ⟨S_, .f32⟩
  | .hbm, ⟨23, _⟩ => ⟨S2x8192x8x64, .f32⟩
  | .hbm, ⟨24, _⟩ => ⟨S2x8192x8x256, .f32⟩
  | .hbm, ⟨25, _⟩ => ⟨S2x8x8192x256, .f32⟩
  | .hbm, ⟨26, _⟩ => ⟨S2x8x8192x256, .bf16⟩
  | .hbm, ⟨27, _⟩ => ⟨S2x8x8192x128, .f32⟩
  | .hbm, ⟨28, _⟩ => ⟨S2x8x8192x128, .bf16⟩
  | .hbm, ⟨29, _⟩ => ⟨S2x256x1x64, .f32⟩
  | .hbm, ⟨30, _⟩ => ⟨S2x256x8x64, .f32⟩
  | .hbm, ⟨31, _⟩ => ⟨S2x256x8x192, .f32⟩
  | .hbm, ⟨32, _⟩ => ⟨S_, .f32⟩
  | .hbm, ⟨33, _⟩ => ⟨S2x256x8x64, .f32⟩
  | .hbm, ⟨34, _⟩ => ⟨S2x256x8x256, .f32⟩
  | .hbm, ⟨35, _⟩ => ⟨S2x8x256x256, .f32⟩
  | .hbm, ⟨36, _⟩ => ⟨S2x8x256x256, .bf16⟩
  | .hbm, ⟨37, _⟩ => ⟨S2x8x256x128, .f32⟩
  | .hbm, ⟨38, _⟩ => ⟨S2x8x256x128, .bf16⟩
  | .hbm, ⟨39, _⟩ => ⟨S2x8192x1024, .bf16⟩
  | .local _ .vmem, ⟨0, _⟩ => ⟨S1x1x8192x256, .bf16⟩
  | .local _ .vmem, ⟨1, _⟩ => ⟨S1x1x8192x256, .bf16⟩
  | .local _ .vmem, ⟨2, _⟩ => ⟨S1x1x2048x256, .bf16⟩
  | .local _ .vmem, ⟨3, _⟩ => ⟨S1x1x2048x256, .bf16⟩
  | .local _ .vmem, ⟨4, _⟩ => ⟨S1x1x2048x128, .bf16⟩
  | .local _ .vmem, ⟨5, _⟩ => ⟨S1x1x2048x128, .bf16⟩
  | .local _ .vmem, ⟨6, _⟩ => ⟨S1x1x2048x128, .bf16⟩
  | .local _ .vmem, ⟨7, _⟩ => ⟨S1x1x2048x128, .bf16⟩
  | .local _ .vmem, ⟨8, _⟩ => ⟨S1x1x256x256, .bf16⟩
  | .local _ .vmem, ⟨9, _⟩ => ⟨S1x1x256x256, .bf16⟩
  | .local _ .vmem, ⟨10, _⟩ => ⟨S1x1x256x128, .bf16⟩
  | .local _ .vmem, ⟨11, _⟩ => ⟨S1x1x256x128, .bf16⟩
  | .local _ .vmem, ⟨12, _⟩ => ⟨S1x8192x128, .bf16⟩
  | .local _ .vmem, ⟨13, _⟩ => ⟨S1x8192x128, .bf16⟩
  | .local _ .vmem, ⟨14, _⟩ => ⟨S8192x128, .f32⟩
  | .local _ .vmem, ⟨15, _⟩ => ⟨S8192x256, .f32⟩
  | .local _ .vmem, ⟨16, _⟩ => ⟨S512x2048, .f32⟩
  | _, _ => ⟨S2x8192x8x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨4, ![2, 8, 1, 4], ![false, false, false, false]⟩

def k0_cond2 (i : grid0.Coords) : BitVec 1 :=
  let arg3 : BitVec 32 := BitVec.ofNat 32 (i 3).val
  let c3_i32 : BitVec 32 := 3#32
  let v417 : BitVec 1 := Scalar.cmpi .eq arg3 c3_i32
  let v418 : BitVec 32 := Scalar.extui v417
  let c0_i32_242 : BitVec 32 := 0#32
  let v419 : BitVec 1 := Scalar.cmpi .ne v418 c0_i32_242
  v419

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, arg1.toNat, arg3.toNat, c0_i32.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.subi arg3 c1_i32
  let c0_i32 : BitVec 32 := 0#32
  let v1 : BitVec 32 := Scalar.maxsi v0 c0_i32
  let c0_i32_0 : BitVec 32 := 0#32
  let c0_i32_1 : BitVec 32 := 0#32
  ![arg0.toNat, arg1.toNat, v1.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, arg1.toNat, arg3.toNat, c0_i32.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg1.toNat]

abbrev stage0_0 : Fin 2 → Memref sig .tc .vmem S1x1x8192x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true, false]

abbrev stage0_1 : Fin 2 → Memref sig .tc .vmem S1x1x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false, true]

abbrev stage0_2 : Fin 2 → Memref sig .tc .vmem S1x1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false, true]

abbrev stage0_3 : Fin 2 → Memref sig .tc .vmem S1x1x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false, true]

abbrev stage0_4 : Fin 2 → Memref sig .tc .vmem S1x1x256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false, false]

abbrev stage0_5 : Fin 2 → Memref sig .tc .vmem S1x1x256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false, false]

abbrev stage0_6 : Fin 2 → Memref sig .tc .vmem S1x8192x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true, false]
-- ==== ReferenceIdeal.lean ====
abbrev S2x8192x8x192 : Shape := ⟨4, ![2, 8192, 8, 192]⟩
abbrev S2x8192x8x128 : Shape := ⟨4, ![2, 8192, 8, 128]⟩
abbrev S2x8192x64 : Shape := ⟨3, ![2, 8192, 64]⟩
abbrev S2x256x8x128 : Shape := ⟨4, ![2, 256, 8, 128]⟩
abbrev S2x256x64 : Shape := ⟨3, ![2, 256, 64]⟩
abbrev S2x8192x1x64 : Shape := ⟨4, ![2, 8192, 1, 64]⟩
abbrev S2x8192x8x64 : Shape := ⟨4, ![2, 8192, 8, 64]⟩
abbrev S2x256x1x64 : Shape := ⟨4, ![2, 256, 1, 64]⟩
abbrev S2x256x8x64 : Shape := ⟨4, ![2, 256, 8, 64]⟩
abbrev S2x256x8x192 : Shape := ⟨4, ![2, 256, 8, 192]⟩
abbrev S2x8448x8x192 : Shape := ⟨4, ![2, 8448, 8, 192]⟩
abbrev S2x8448x8x128 : Shape := ⟨4, ![2, 8448, 8, 128]⟩
abbrev S2x8x8192x8448 : Shape := ⟨4, ![2, 8, 8192, 8448]⟩
abbrev S_ : Shape := ⟨0, ![]⟩
abbrev S2x8x8192 : Shape := ⟨3, ![2, 8, 8192]⟩
abbrev S2x8x8192x1 : Shape := ⟨4, ![2, 8, 8192, 1]⟩
abbrev S2x8x128x8192 : Shape := ⟨4, ![2, 8, 128, 8192]⟩
abbrev S2x8192x1024 : Shape := ⟨3, ![2, 8192, 1024]⟩

abbrev nBuf : Space → Nat
  | .hbm => 37
  | .vmem => 0
  | .smem => 0
  | _ => 0

abbrev bufTy : (tb : Table) → Fin (tcTables nBuf tb) → BufTy
  | .hbm, ⟨0, _⟩ => ⟨S2x8192x8x192, .f32⟩
  | .hbm, ⟨1, _⟩ => ⟨S2x8192x8x128, .f32⟩
  | .hbm, ⟨2, _⟩ => ⟨S2x8192x64, .f32⟩
  | .hbm, ⟨3, _⟩ => ⟨S2x8192x8x128, .f32⟩
  | .hbm, ⟨4, _⟩ => ⟨S2x256x8x128, .f32⟩
  | .hbm, ⟨5, _⟩ => ⟨S2x256x64, .f32⟩
  | .hbm, ⟨6, _⟩ => ⟨S2x256x8x128, .f32⟩
  | .hbm, ⟨7, _⟩ => ⟨S2x8192x1x64, .f32⟩
  | .hbm, ⟨8, _⟩ => ⟨S2x8192x8x64, .f32⟩
  | .hbm, ⟨9, _⟩ => ⟨S2x8192x8x192, .f32⟩
  | .hbm, ⟨10, _⟩ => ⟨S2x256x1x64, .f32⟩
  | .hbm, ⟨11, _⟩ => ⟨S2x256x8x64, .f32⟩
  | .hbm, ⟨12, _⟩ => ⟨S2x256x8x192, .f32⟩
  | .hbm, ⟨13, _⟩ => ⟨S2x8448x8x192, .f32⟩
  | .hbm, ⟨14, _⟩ => ⟨S2x8448x8x128, .f32⟩
  | .hbm, ⟨15, _⟩ => ⟨S2x8x8192x8448, .f32⟩
  | .hbm, ⟨16, _⟩ => ⟨S_, .f32⟩
  | .hbm, ⟨17, _⟩ => ⟨S2x8x8192x8448, .f32⟩
  | .hbm, ⟨18, _⟩ => ⟨S2x8x8192x8448, .f32⟩
  | .hbm, ⟨19, _⟩ => ⟨S_, .f32⟩
  | .hbm, ⟨20, _⟩ => ⟨S2x8x8192, .f32⟩
  | .hbm, ⟨21, _⟩ => ⟨S_, .f32⟩
  | .hbm, ⟨22, _⟩ => ⟨S2x8x8192, .f32⟩
  | .hbm, ⟨23, _⟩ => ⟨S2x8x8192, .f32⟩
  | .hbm, ⟨24, _⟩ => ⟨S2x8x8192x1, .f32⟩
  | .hbm, ⟨25, _⟩ => ⟨S2x8x8192x8448, .f32⟩
  | .hbm, ⟨26, _⟩ => ⟨S2x8x8192x8448, .f32⟩
  | .hbm, ⟨27, _⟩ => ⟨S2x8x8192x8448, .f32⟩
  | .hbm, ⟨28, _⟩ => ⟨S_, .f32⟩
  | .hbm, ⟨29, _⟩ => ⟨S2x8x8192, .f32⟩
  | .hbm, ⟨30, _⟩ => ⟨S2x8x8192x1, .f32⟩
  | .hbm, ⟨31, _⟩ => ⟨S2x8x8192x8448, .f32⟩
  | .hbm, ⟨32, _⟩ => ⟨S2x8x8192x8448, .f32⟩
  | .hbm, ⟨33, _⟩ => ⟨S2x8x128x8192, .f32⟩
  | .hbm, ⟨34, _⟩ => ⟨S2x8192x8x128, .f32⟩
  | .hbm, ⟨35, _⟩ => ⟨S2x8192x1024, .f32⟩
  | .hbm, ⟨36, _⟩ => ⟨S2x8192x1024, .bf16⟩
  | _, _ => ⟨S2x8192x8x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩

abbrev nD : Nat := 1
abbrev τ : Topo := Topo.v7x

variable {F : FTy → Type} [FloatOps F]
-- ==== Kernel2.lean ====
abbrev S2x8192x2048 : Shape := ⟨3, ![2, 8192, 2048]⟩
abbrev S2x3x2048 : Shape := ⟨3, ![2, 3, 2048]⟩
abbrev S2048 : Shape := ⟨1, ![2048]⟩
abbrev S2048x11264 : Shape := ⟨2, ![2048, 11264]⟩
abbrev S5632x2048 : Shape := ⟨2, ![5632, 2048]⟩
abbrev S2048x2x11x512 : Shape := ⟨4, ![2048, 2, 11, 512]⟩
abbrev S11x2048x2x512 : Shape := ⟨4, ![11, 2048, 2, 512]⟩
abbrev S11x2048x1024 : Shape := ⟨3, ![11, 2048, 1024]⟩
abbrev S16384x2048 : Shape := ⟨2, ![16384, 2048]⟩
abbrev S1x2048 : Shape := ⟨2, ![1, 2048]⟩
abbrev S11x512x2048 : Shape := ⟨3, ![11, 512, 2048]⟩
abbrev S512x2048 : Shape := ⟨2, ![512, 2048]⟩
abbrev S1x3x2048 : Shape := ⟨3, ![1, 3, 2048]⟩
abbrev S2x2048x1024 : Shape := ⟨3, ![2, 2048, 1024]⟩
abbrev S2x512x2048 : Shape := ⟨3, ![2, 512, 2048]⟩
abbrev S2x2 : Shape := ⟨2, ![2, 2]⟩
abbrev S1x1 : Shape := ⟨2, ![1, 1]⟩
abbrev S_ : Shape := ⟨0, ![]⟩
abbrev S1x2048x1024 : Shape := ⟨3, ![1, 2048, 1024]⟩
abbrev S2048x1024 : Shape := ⟨2, ![2048, 1024]⟩
abbrev S1x512x2048 : Shape := ⟨3, ![1, 512, 2048]⟩
abbrev S512 : Shape := ⟨1, ![512]⟩
abbrev S512x1 : Shape := ⟨2, ![512, 1]⟩
abbrev S1x1x2048 : Shape := ⟨3, ![1, 1, 2048]⟩
abbrev S512x1024 : Shape := ⟨2, ![512, 1024]⟩
abbrev S512x512 : Shape := ⟨2, ![512, 512]⟩

abbrev nBuf : Space → Nat
  | .hbm => 16
  | .vmem => 11
  | .smem => 0
  | _ => 0

abbrev bufTy : (tb : Table) → Fin (tcTables nBuf tb) → BufTy
  | .hbm, ⟨0, _⟩ => ⟨S2x8192x2048, .f32⟩
  | .hbm, ⟨1, _⟩ => ⟨S2x3x2048, .f32⟩
  | .hbm, ⟨2, _⟩ => ⟨S2048, .f32⟩
  | .hbm, ⟨3, _⟩ => ⟨S2048x11264, .f32⟩
  | .hbm, ⟨4, _⟩ => ⟨S5632x2048, .f32⟩
  | .hbm, ⟨5, _⟩ => ⟨S2048, .f32⟩
  | .hbm, ⟨6, _⟩ => ⟨S2048x2x11x512, .f32⟩
  | .hbm, ⟨7, _⟩ => ⟨S11x2048x2x512, .f32⟩
  | .hbm, ⟨8, _⟩ => ⟨S11x2048x1024, .f32⟩
  | .hbm, ⟨9, _⟩ => ⟨S11x2048x1024, .bf16⟩
  | .hbm, ⟨10, _⟩ => ⟨S5632x2048, .bf16⟩
  | .hbm, ⟨11, _⟩ => ⟨S16384x2048, .f32⟩
  | .hbm, ⟨12, _⟩ => ⟨S1x2048, .f32⟩
  | .hbm, ⟨13, _⟩ => ⟨S11x512x2048, .bf16⟩
  | .hbm, ⟨14, _⟩ => ⟨S1x2048, .f32⟩
  | .hbm, ⟨15, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S1x3x2048, .f32⟩
  | .local _ .vmem, ⟨3, _⟩ => ⟨S1x3x2048, .f32⟩
  | .local _ .vmem, ⟨4, _⟩ => ⟨S1x2048, .f32⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .bf16⟩
  | .local _ .vmem, ⟨9, _⟩ => ⟨S2x2048x1024, .bf16⟩
  | .local _ .vmem, ⟨10, _⟩ => ⟨S2x512x2048, .bf16⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32_17 : BitVec 32 := 0#32
  let c11_i32 : BitVec 32 := 11#32
  let v35 : BitVec 32 := Scalar.addi c0_i32_17 c11_i32
  let c1_i32 : BitVec 32 := 1#32
  ⟨c0_i32_17, v35, c1_i32⟩
def k0_cond2 (i : grid0.Coords) (k0_t1 : Fin k0_t1_loop.trips) : BitVec 1 :=
  let arg0 : BitVec 32 := BitVec.ofNat 32 (i 0).val
  let c11_i32_33 : BitVec 32 := 11#32
  let v62 : BitVec 32 := Scalar.muli arg0 c11_i32_33
  let c0_i32_17 : BitVec 32 := 0#32
  let c1_i32 : BitVec 32 := 1#32
  let arg12 : BitVec 32 := Scf.iv c0_i32_17 c1_i32 k0_t1
  let v63 : BitVec 32 := Scalar.addi v62 arg12
  let c1_i32_39 : BitVec 32 := 1#32
  let v74 : BitVec 32 := Scalar.addi v63 c1_i32_39
  let c352_i32 : BitVec 32 := 352#32
  let v75 : BitVec 1 := Scalar.cmpi .slt v74 c352_i32
  let v76 : BitVec 32 := Scalar.extui v75
  let c0_i32_40 : BitVec 32 := 0#32
  let v77 : BitVec 1 := Scalar.cmpi .ne v76 c0_i32_40
  v77

def k0_off1 (i : grid0.Coords) (k0_t1 : Fin k0_t1_loop.trips) : Fin 2 → Nat :=
  let c0_i32_70 : BitVec 32 := 0#32
  let c1_i32_69 : BitVec 32 := 1#32
  let arg0 : BitVec 32 := BitVec.ofNat 32 (i 0).val
  let c11_i32_33 : BitVec 32 := 11#32
  let v62 : BitVec 32 := Scalar.muli arg0 c11_i32_33
  let c0_i32_17 : BitVec 32 := 0#32
  let c1_i32 : BitVec 32 := 1#32
  let arg12 : BitVec 32 := Scf.iv c0_i32_17 c1_i32 k0_t1
  let v63 : BitVec 32 := Scalar.addi v62 arg12
  let c2_i32 : BitVec 32 := 2#32
  let c0_i32_34 : BitVec 32 := 0#32
  let v64 : BitVec 1 := Scalar.cmpi .eq c2_i32 c0_i32_34
  let c1_i32_35 : BitVec 32 := 1#32
  let v65 : BitVec 32 := Scalar.select v64 c1_i32_35 c2_i32
  let v66 : BitVec 32 := Scalar.remsi v63 v65
  let c0_i32_37 : BitVec 32 := 0#32
  let v68 : BitVec 1 := Scalar.cmpi .slt v66 c0_i32_37
  let c0_i32_38 : BitVec 32 := 0#32
  let v69 : BitVec 1 := Scalar.cmpi .slt v65 c0_i32_38
  let v70 : BitVec 1 := Scalar.xori v68 v69
  let c0_i32_36 : BitVec 32 := 0#32
  let v67 : BitVec 1 := Scalar.cmpi .ne v66 c0_i32_36
  let v71 : BitVec 1 := Scalar.andi v70 v67
  let v72 : BitVec 32 := Scalar.addi v66 v65
  let v73 : BitVec 32 := Scalar.select v71 v72 v66
  let v117 : BitVec 32 := Scalar.subi c1_i32_69 v73
  ![0, v117.toNat]
def k0_off2 (i : grid0.Coords) (k0_t1 : Fin k0_t1_loop.trips) : Fin 3 → Nat :=
  let c1_i32_69 : BitVec 32 := 1#32
  let arg0 : BitVec 32 := BitVec.ofNat 32 (i 0).val
  let c11_i32_33 : BitVec 32 := 11#32
  let v62 : BitVec 32 := Scalar.muli arg0 c11_i32_33
  let c0_i32_17 : BitVec 32 := 0#32
  let c1_i32 : BitVec 32 := 1#32
  let arg12 : BitVec 32 := Scf.iv c0_i32_17 c1_i32 k0_t1
  let v63 : BitVec 32 := Scalar.addi v62 arg12
  let c2_i32 : BitVec 32 := 2#32
  let c0_i32_34 : BitVec 32 := 0#32
  let v64 : BitVec 1 := Scalar.cmpi .eq c2_i32 c0_i32_34
  let c1_i32_35 : BitVec 32 := 1#32
  let v65 : BitVec 32 := Scalar.select v64 c1_i32_35 c2_i32
  let v66 : BitVec 32 := Scalar.remsi v63 v65
  let c0_i32_37 : BitVec 32 := 0#32
  let v68 : BitVec 1 := Scalar.cmpi .slt v66 c0_i32_37
  let c0_i32_38 : BitVec 32 := 0#32
  let v69 : BitVec 1 := Scalar.cmpi .slt v65 c0_i32_38
  let v70 : BitVec 1 := Scalar.xori v68 v69
  let c0_i32_36 : BitVec 32 := 0#32
  let v67 : BitVec 1 := Scalar.cmpi .ne v66 c0_i32_36
  let v71 : BitVec 1 := Scalar.andi v70 v67
  let v72 : BitVec 32 := Scalar.addi v66 v65
  let v73 : BitVec 32 := Scalar.select v71 v72 v66
  let v117 : BitVec 32 := Scalar.subi c1_i32_69 v73
  let c0_i32_71 : BitVec 32 := 0#32
  let c0_i32_72 : BitVec 32 := 0#32
  ![v117.toNat, 0, 0]
def k0_off3 (k0_t1 : Fin k0_t1_loop.trips) : Fin 3 → Nat :=
  let c0_i32_17 : BitVec 32 := 0#32
  let c1_i32 : BitVec 32 := 1#32
  let arg12 : BitVec 32 := Scf.iv c0_i32_17 c1_i32 k0_t1
  let c1_i32_65 : BitVec 32 := 1#32
  let v113 : BitVec 32 := Scalar.addi arg12 c1_i32_65
  let c11_i32_66 : BitVec 32 := 11#32
  let v114 : BitVec 1 := Scalar.cmpi .eq v113 c11_i32_66
  let c0_i32_68 : BitVec 32 := 0#32
  let c1_i32_67 : BitVec 32 := 1#32
  let v115 : BitVec 32 := Scalar.addi arg12 c1_i32_67
  let v116 : BitVec 32 := Scalar.select v114 c0_i32_68 v115
  let c0_i32_73 : BitVec 32 := 0#32
  let c0_i32_74 : BitVec 32 := 0#32
  ![v116.toNat, 0, 0]
def k0_off4 (i : grid0.Coords) (k0_t1 : Fin k0_t1_loop.trips) : Fin 2 → Nat :=
  let c1_i32_75 : BitVec 32 := 1#32
  let c1_i32_69 : BitVec 32 := 1#32
  let arg0 : BitVec 32 := BitVec.ofNat 32 (i 0).val
  let c11_i32_33 : BitVec 32 := 11#32
  let v62 : BitVec 32 := Scalar.muli arg0 c11_i32_33
  let c0_i32_17 : BitVec 32 := 0#32
  let c1_i32 : BitVec 32 := 1#32
  let arg12 : BitVec 32 := Scf.iv c0_i32_17 c1_i32 k0_t1
  let v63 : BitVec 32 := Scalar.addi v62 arg12
  let c2_i32 : BitVec 32 := 2#32
  let c0_i32_34 : BitVec 32 := 0#32
  let v64 : BitVec 1 := Scalar.cmpi .eq c2_i32 c0_i32_34
  let c1_i32_35 : BitVec 32 := 1#32
  let v65 : BitVec 32 := Scalar.select v64 c1_i32_35 c2_i32
  let v66 : BitVec 32 := Scalar.remsi v63 v65
  let c0_i32_37 : BitVec 32 := 0#32
  let v68 : BitVec 1 := Scalar.cmpi .slt v66 c0_i32_37
  let c0_i32_38 : BitVec 32 := 0#32
  let v69 : BitVec 1 := Scalar.cmpi .slt v65 c0_i32_38
  let v70 : BitVec 1 := Scalar.xori v68 v69
  let c0_i32_36 : BitVec 32 := 0#32
  let v67 : BitVec 1 := Scalar.cmpi .ne v66 c0_i32_36
  let v71 : BitVec 1 := Scalar.andi v70 v67
  let v72 : BitVec 32 := Scalar.addi v66 v65
  let v73 : BitVec 32 := Scalar.select v71 v72 v66
  let v117 : BitVec 32 := Scalar.subi c1_i32_69 v73
  ![1, v117.toNat]
def k0_off5 (i : grid0.Coords) (k0_t1 : Fin k0_t1_loop.trips) : Fin 3 → Nat :=
  let c1_i32_69 : BitVec 32 := 1#32
  let arg0 : BitVec 32 := BitVec.ofNat 32 (i 0).val
  let c11_i32_33 : BitVec 32 := 11#32
  let v62 : BitVec 32 := Scalar.muli arg0 c11_i32_33
  let c0_i32_17 : BitVec 32 := 0#32
  let c1_i32 : BitVec 32 := 1#32
  let arg12 : BitVec 32 := Scf.iv c0_i32_17 c1_i32 k0_t1
  let v63 : BitVec 32 := Scalar.addi v62 arg12
  let c2_i32 : BitVec 32 := 2#32
  let c0_i32_34 : BitVec 32 := 0#32
  let v64 : BitVec 1 := Scalar.cmpi .eq c2_i32 c0_i32_34
  let c1_i32_35 : BitVec 32 := 1#32
  let v65 : BitVec 32 := Scalar.select v64 c1_i32_35 c2_i32
  let v66 : BitVec 32 := Scalar.remsi v63 v65
  let c0_i32_37 : BitVec 32 := 0#32
  let v68 : BitVec 1 := Scalar.cmpi .slt v66 c0_i32_37
  let c0_i32_38 : BitVec 32 := 0#32
  let v69 : BitVec 1 := Scalar.cmpi .slt v65 c0_i32_38
  let v70 : BitVec 1 := Scalar.xori v68 v69
  let c0_i32_36 : BitVec 32 := 0#32
  let v67 : BitVec 1 := Scalar.cmpi .ne v66 c0_i32_36
  let v71 : BitVec 1 := Scalar.andi v70 v67
  let v72 : BitVec 32 := Scalar.addi v66 v65
  let v73 : BitVec 32 := Scalar.select v71 v72 v66
  let v117 : BitVec 32 := Scalar.subi c1_i32_69 v73
  let c0_i32_76 : BitVec 32 := 0#32
  let c0_i32_77 : BitVec 32 := 0#32
  ![v117.toNat, 0, 0]
def k0_off6 (k0_t1 : Fin k0_t1_loop.trips) : Fin 3 → Nat :=
  let c0_i32_17 : BitVec 32 := 0#32
  let c1_i32 : BitVec 32 := 1#32
  let arg12 : BitVec 32 := Scf.iv c0_i32_17 c1_i32 k0_t1
  let c1_i32_65 : BitVec 32 := 1#32
  let v113 : BitVec 32 := Scalar.addi arg12 c1_i32_65
  let c11_i32_66 : BitVec 32 := 11#32
  let v114 : BitVec 1 := Scalar.cmpi .eq v113 c11_i32_66
  let c0_i32_68 : BitVec 32 := 0#32
  let c1_i32_67 : BitVec 32 := 1#32
  let v115 : BitVec 32 := Scalar.addi arg12 c1_i32_67
  let v116 : BitVec 32 := Scalar.select v114 c0_i32_68 v115
  let c0_i32_78 : BitVec 32 := 0#32
  let c0_i32_79 : BitVec 32 := 0#32
  ![v116.toNat, 0, 0]
def k0_off7 (i : grid0.Coords) (k0_t1 : Fin k0_t1_loop.trips) : Fin 2 → Nat :=
  let c0_i32_41 : BitVec 32 := 0#32
  let arg0 : BitVec 32 := BitVec.ofNat 32 (i 0).val
  let c11_i32_33 : BitVec 32 := 11#32
  let v62 : BitVec 32 := Scalar.muli arg0 c11_i32_33
  let c0_i32_17 : BitVec 32 := 0#32
  let c1_i32 : BitVec 32 := 1#32
  let arg12 : BitVec 32 := Scf.iv c0_i32_17 c1_i32 k0_t1
  let v63 : BitVec 32 := Scalar.addi v62 arg12
  let c2_i32 : BitVec 32 := 2#32
  let c0_i32_34 : BitVec 32 := 0#32
  let v64 : BitVec 1 := Scalar.cmpi .eq c2_i32 c0_i32_34
  let c1_i32_35 : BitVec 32 := 1#32
  let v65 : BitVec 32 := Scalar.select v64 c1_i32_35 c2_i32
  let v66 : BitVec 32 := Scalar.remsi v63 v65
  let c0_i32_37 : BitVec 32 := 0#32
  let v68 : BitVec 1 := Scalar.cmpi .slt v66 c0_i32_37
  let c0_i32_38 : BitVec 32 := 0#32
  let v69 : BitVec 1 := Scalar.cmpi .slt v65 c0_i32_38
  let v70 : BitVec 1 := Scalar.xori v68 v69
  let c0_i32_36 : BitVec 32 := 0#32
  let v67 : BitVec 1 := Scalar.cmpi .ne v66 c0_i32_36
  let v71 : BitVec 1 := Scalar.andi v70 v67
  let v72 : BitVec 32 := Scalar.addi v66 v65
  let v73 : BitVec 32 := Scalar.select v71 v72 v66
  ![0, v73.toNat]
def k0_off8 (i : grid0.Coords) (k0_t1 : Fin k0_t1_loop.trips) : Fin 3 → Nat :=
  let arg0 : BitVec 32 := BitVec.ofNat 32 (i 0).val
  let c11_i32_33 : BitVec 32 := 11#32
  let v62 : BitVec 32 := Scalar.muli arg0 c11_i32_33
  let c0_i32_17 : BitVec 32 := 0#32
  let c1_i32 : BitVec 32 := 1#32
  let arg12 : BitVec 32 := Scf.iv c0_i32_17 c1_i32 k0_t1
  let v63 : BitVec 32 := Scalar.addi v62 arg12
  let c2_i32 : BitVec 32 := 2#32
  let c0_i32_34 : BitVec 32 := 0#32
  let v64 : BitVec 1 := Scalar.cmpi .eq c2_i32 c0_i32_34
  let c1_i32_35 : BitVec 32 := 1#32
  let v65 : BitVec 32 := Scalar.select v64 c1_i32_35 c2_i32
  let v66 : BitVec 32 := Scalar.remsi v63 v65
  let c0_i32_37 : BitVec 32 := 0#32
  let v68 : BitVec 1 := Scalar.cmpi .slt v66 c0_i32_37
  let c0_i32_38 : BitVec 32 := 0#32
  let v69 : BitVec 1 := Scalar.cmpi .slt v65 c0_i32_38
  let v70 : BitVec 1 := Scalar.xori v68 v69
  let c0_i32_36 : BitVec 32 := 0#32
  let v67 : BitVec 1 := Scalar.cmpi .ne v66 c0_i32_36
  let v71 : BitVec 1 := Scalar.andi v70 v67
  let v72 : BitVec 32 := Scalar.addi v66 v65
  let v73 : BitVec 32 := Scalar.select v71 v72 v66
  let c0_i32_42 : BitVec 32 := 0#32
  let c0_i32_43 : BitVec 32 := 0#32
  ![v73.toNat, 0, 0]
def k0_off9 (k0_t1 : Fin k0_t1_loop.trips) : Fin 3 → Nat :=
  let c0_i32_17 : BitVec 32 := 0#32
  let c1_i32 : BitVec 32 := 1#32
  let arg12 : BitVec 32 := Scf.iv c0_i32_17 c1_i32 k0_t1
  let c0_i32_44 : BitVec 32 := 0#32
  let c0_i32_45 : BitVec 32 := 0#32
  ![arg12.toNat, 0, 0]
def k0_off10 (i : grid0.Coords) (k0_t1 : Fin k0_t1_loop.trips) : Fin 2 → Nat :=
  let c1_i32_46 : BitVec 32 := 1#32
  let arg0 : BitVec 32 := BitVec.ofNat 32 (i 0).val
  let c11_i32_33 : BitVec 32 := 11#32
  let v62 : BitVec 32 := Scalar.muli arg0 c11_i32_33
  let c0_i32_17 : BitVec 32 := 0#32
  let c1_i32 : BitVec 32 := 1#32
  let arg12 : BitVec 32 := Scf.iv c0_i32_17 c1_i32 k0_t1
  let v63 : BitVec 32 := Scalar.addi v62 arg12
  let c2_i32 : BitVec 32 := 2#32
  let c0_i32_34 : BitVec 32 := 0#32
  let v64 : BitVec 1 := Scalar.cmpi .eq c2_i32 c0_i32_34
  let c1_i32_35 : BitVec 32 := 1#32
  let v65 : BitVec 32 := Scalar.select v64 c1_i32_35 c2_i32
  let v66 : BitVec 32 := Scalar.remsi v63 v65
  let c0_i32_37 : BitVec 32 := 0#32
  let v68 : BitVec 1 := Scalar.cmpi .slt v66 c0_i32_37
  let c0_i32_38 : BitVec 32 := 0#32
  let v69 : BitVec 1 := Scalar.cmpi .slt v65 c0_i32_38
  let v70 : BitVec 1 := Scalar.xori v68 v69
  let c0_i32_36 : BitVec 32 := 0#32
  let v67 : BitVec 1 := Scalar.cmpi .ne v66 c0_i32_36
  let v71 : BitVec 1 := Scalar.andi v70 v67
  let v72 : BitVec 32 := Scalar.addi v66 v65
  let v73 : BitVec 32 := Scalar.select v71 v72 v66
  ![1, v73.toNat]
def k0_off11 (i : grid0.Coords) (k0_t1 : Fin k0_t1_loop.trips) : Fin 3 → Nat :=
  let arg0 : BitVec 32 := BitVec.ofNat 32 (i 0).val
  let c11_i32_33 : BitVec 32 := 11#32
  let v62 : BitVec 32 := Scalar.muli arg0 c11_i32_33
  let c0_i32_17 : BitVec 32 := 0#32
  let c1_i32 : BitVec 32 := 1#32
  let arg12 : BitVec 32 := Scf.iv c0_i32_17 c1_i32 k0_t1
  let v63 : BitVec 32 := Scalar.addi v62 arg12
  let c2_i32 : BitVec 32 := 2#32
  let c0_i32_34 : BitVec 32 := 0#32
  let v64 : BitVec 1 := Scalar.cmpi .eq c2_i32 c0_i32_34
  let c1_i32_35 : BitVec 32 := 1#32
  let v65 : BitVec 32 := Scalar.select v64 c1_i32_35 c2_i32
  let v66 : BitVec 32 := Scalar.remsi v63 v65
  let c0_i32_37 : BitVec 32 := 0#32
  let v68 : BitVec 1 := Scalar.cmpi .slt v66 c0_i32_37
  let c0_i32_38 : BitVec 32 := 0#32
  let v69 : BitVec 1 := Scalar.cmpi .slt v65 c0_i32_38
  let v70 : BitVec 1 := Scalar.xori v68 v69
  let c0_i32_36 : BitVec 32 := 0#32
  let v67 : BitVec 1 := Scalar.cmpi .ne v66 c0_i32_36
  let v71 : BitVec 1 := Scalar.andi v70 v67
  let v72 : BitVec 32 := Scalar.addi v66 v65
  let v73 : BitVec 32 := Scalar.select v71 v72 v66
  let c0_i32_47 : BitVec 32 := 0#32
  let c0_i32_48 : BitVec 32 := 0#32
  ![v73.toNat, 0, 0]
def k0_off12 (k0_t1 : Fin k0_t1_loop.trips) : Fin 3 → Nat :=
  let c0_i32_17 : BitVec 32 := 0#32
  let c1_i32 : BitVec 32 := 1#32
  let arg12 : BitVec 32 := Scf.iv c0_i32_17 c1_i32 k0_t1
  let c0_i32_49 : BitVec 32 := 0#32
  let c0_i32_50 : BitVec 32 := 0#32
  ![arg12.toNat, 0, 0]
def k0_off13 (i : grid0.Coords) (k0_t1 : Fin k0_t1_loop.trips) : Fin 3 → Nat :=
  let arg0 : BitVec 32 := BitVec.ofNat 32 (i 0).val
  let c11_i32_33 : BitVec 32 := 11#32
  let v62 : BitVec 32 := Scalar.muli arg0 c11_i32_33
  let c0_i32_17 : BitVec 32 := 0#32
  let c1_i32 : BitVec 32 := 1#32
  let arg12 : BitVec 32 := Scf.iv c0_i32_17 c1_i32 k0_t1
  let v63 : BitVec 32 := Scalar.addi v62 arg12
  let c2_i32 : BitVec 32 := 2#32
  let c0_i32_34 : BitVec 32 := 0#32
  let v64 : BitVec 1 := Scalar.cmpi .eq c2_i32 c0_i32_34
  let c1_i32_35 : BitVec 32 := 1#32
  let v65 : BitVec 32 := Scalar.select v64 c1_i32_35 c2_i32
  let v66 : BitVec 32 := Scalar.remsi v63 v65
  let c0_i32_37 : BitVec 32 := 0#32
  let v68 : BitVec 1 := Scalar.cmpi .slt v66 c0_i32_37
  let c0_i32_38 : BitVec 32 := 0#32
  let v69 : BitVec 1 := Scalar.cmpi .slt v65 c0_i32_38
  let v70 : BitVec 1 := Scalar.xori v68 v69
  let c0_i32_36 : BitVec 32 := 0#32
  let v67 : BitVec 1 := Scalar.cmpi .ne v66 c0_i32_36
  let v71 : BitVec 1 := Scalar.andi v70 v67
  let v72 : BitVec 32 := Scalar.addi v66 v65
  let v73 : BitVec 32 := Scalar.select v71 v72 v66
  let v91 : Index := Scalar.indexCast v73
  let c0_53 : Index := 0#32
  let c0_54 : Index := 0#32
  ![v91.toNat, 0, 0]
def k0_off14 (i : grid0.Coords) (k0_t1 : Fin k0_t1_loop.trips) : Fin 3 → Nat :=
  let arg0 : BitVec 32 := BitVec.ofNat 32 (i 0).val
  let c11_i32_33 : BitVec 32 := 11#32
  let v62 : BitVec 32 := Scalar.muli arg0 c11_i32_33
  let c0_i32_17 : BitVec 32 := 0#32
  let c1_i32 : BitVec 32 := 1#32
  let arg12 : BitVec 32 := Scf.iv c0_i32_17 c1_i32 k0_t1
  let v63 : BitVec 32 := Scalar.addi v62 arg12
  let c2_i32 : BitVec 32 := 2#32
  let c0_i32_34 : BitVec 32 := 0#32
  let v64 : BitVec 1 := Scalar.cmpi .eq c2_i32 c0_i32_34
  let c1_i32_35 : BitVec 32 := 1#32
  let v65 : BitVec 32 := Scalar.select v64 c1_i32_35 c2_i32
  let v66 : BitVec 32 := Scalar.remsi v63 v65
  let c0_i32_37 : BitVec 32 := 0#32
  let v68 : BitVec 1 := Scalar.cmpi .slt v66 c0_i32_37
  let c0_i32_38 : BitVec 32 := 0#32
  let v69 : BitVec 1 := Scalar.cmpi .slt v65 c0_i32_38
  let v70 : BitVec 1 := Scalar.xori v68 v69
  let c0_i32_36 : BitVec 32 := 0#32
  let v67 : BitVec 1 := Scalar.cmpi .ne v66 c0_i32_36
  let v71 : BitVec 1 := Scalar.andi v70 v67
  let v72 : BitVec 32 := Scalar.addi v66 v65
  let v73 : BitVec 32 := Scalar.select v71 v72 v66
  let v107 : Index := Scalar.indexCast v73
  let c0_60 : Index := 0#32
  let c0_61 : Index := 0#32
  ![v107.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x3x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference2Ideal.lean ====
abbrev S2x8192x2048 : Shape := ⟨3, ![2, 8192, 2048]⟩
abbrev S2x3x2048 : Shape := ⟨3, ![2, 3, 2048]⟩
abbrev S2048 : Shape := ⟨1, ![2048]⟩
abbrev S2048x11264 : Shape := ⟨2, ![2048, 11264]⟩
abbrev S5632x2048 : Shape := ⟨2, ![5632, 2048]⟩
abbrev S2x3x1x2048 : Shape := ⟨4, ![2, 3, 1, 2048]⟩
abbrev S2x1x1x2048 : Shape := ⟨4, ![2, 1, 1, 2048]⟩
abbrev S2x1x2048 : Shape := ⟨3, ![2, 1, 2048]⟩
abbrev S_ : Shape := ⟨0, ![]⟩
abbrev S2x8192 : Shape := ⟨2, ![2, 8192]⟩
abbrev S2x8192x1 : Shape := ⟨3, ![2, 8192, 1]⟩
abbrev S1x1x2048 : Shape := ⟨3, ![1, 1, 2048]⟩
abbrev S2x8192x11264 : Shape := ⟨3, ![2, 8192, 11264]⟩
abbrev S2x8192x5632 : Shape := ⟨3, ![2, 8192, 5632]⟩
abbrev S16384x2048 : Shape := ⟨2, ![16384, 2048]⟩

abbrev nBuf : Space → Nat
  | .hbm => 73
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S2x3x2048, .f32⟩
  | .hbm, ⟨2, _⟩ => ⟨S2048, .f32⟩
  | .hbm, ⟨3, _⟩ => ⟨S2048x11264, .f32⟩
  | .hbm, ⟨4, _⟩ => ⟨S5632x2048, .f32⟩
  | .hbm, ⟨5, _⟩ => ⟨S2048, .f32⟩
  | .hbm, ⟨6, _⟩ => ⟨S2x3x1x2048, .f32⟩
  | .hbm, ⟨7, _⟩ => ⟨S2x1x1x2048, .f32⟩
  | .hbm, ⟨8, _⟩ => ⟨S2x1x2048, .f32⟩
  | .hbm, ⟨9, _⟩ => ⟨S_, .f32⟩
  | .hbm, ⟨10, _⟩ => ⟨S2x1x2048, .f32⟩
  | .hbm, ⟨11, _⟩ => ⟨S2x1x2048, .f32⟩
  | .hbm, ⟨12, _⟩ => ⟨S2x8192x2048, .f32⟩
  | .hbm, ⟨13, _⟩ => ⟨S_, .f32⟩
  | .hbm, ⟨14, _⟩ => ⟨S2x8192, .f32⟩
  | .hbm, ⟨15, _⟩ => ⟨S2x8192x1, .f32⟩
  | .hbm, ⟨16, _⟩ => ⟨S_, .f32⟩
  | .hbm, ⟨17, _⟩ => ⟨S2x8192x1, .f32⟩
  | .hbm, ⟨18, _⟩ => ⟨S2x8192x1, .f32⟩
  | .hbm, ⟨19, _⟩ => ⟨S_, .f32⟩
  | .hbm, ⟨20, _⟩ => ⟨S2x8192x1, .f32⟩
  | .hbm, ⟨21, _⟩ => ⟨S2x8192x1, .f32⟩
  | .hbm, ⟨22, _⟩ => ⟨S2x8192x1, .f32⟩
  | .hbm, ⟨23, _⟩ => ⟨S2x8192x2048, .f32⟩
  | .hbm, ⟨24, _⟩ => ⟨S2x8192x2048, .f32⟩
  | .hbm, ⟨25, _⟩ => ⟨S1x1x2048, .f32⟩
  | .hbm, ⟨26, _⟩ => ⟨S2x8192x2048, .f32⟩
  | .hbm, ⟨27, _⟩ => ⟨S2x8192x2048, .f32⟩
  | .hbm, ⟨28, _⟩ => ⟨S2x1x1x2048, .f32⟩
  | .hbm, ⟨29, _⟩ => ⟨S2x1x2048, .f32⟩
  | .hbm, ⟨30, _⟩ => ⟨S2x1x1x2048, .f32⟩
  | .hbm, ⟨31, _⟩ => ⟨S2x1x2048, .f32⟩
  | .hbm, ⟨32, _⟩ => ⟨S_, .f32⟩
  | .hbm, ⟨33, _⟩ => ⟨S2x1x2048, .f32⟩
  | .hbm, ⟨34, _⟩ => ⟨S2x1x2048, .f32⟩
  | .hbm, ⟨35, _⟩ => ⟨S2x8192x2048, .f32⟩
  | .hbm, ⟨36, _⟩ => ⟨S2x8192x2048, .f32⟩
  | .hbm, ⟨37, _⟩ => ⟨S2x8192x2048, .f32⟩
  | .hbm, ⟨38, _⟩ => ⟨S2x8192x2048, .f32⟩
  | .hbm, ⟨39, _⟩ => ⟨S2x8192x11264, .f32⟩
  | .hbm, ⟨40, _⟩ => ⟨S2x8192x5632, .f32⟩
  | .hbm, ⟨41, _⟩ => ⟨S2x8192x5632, .f32⟩
  | .hbm, ⟨42, _⟩ => ⟨S2x8192x5632, .f32⟩
  | .hbm, ⟨43, _⟩ => ⟨S2x8192x5632, .f32⟩
  | .hbm, ⟨44, _⟩ => ⟨S_, .f32⟩
  | .hbm, ⟨45, _⟩ => ⟨S2x8192x5632, .f32⟩
  | .hbm, ⟨46, _⟩ => ⟨S2x8192x5632, .f32⟩
  | .hbm, ⟨47, _⟩ => ⟨S_, .f32⟩
  | .hbm, ⟨48, _⟩ => ⟨S2x8192x5632, .f32⟩
  | .hbm, ⟨49, _⟩ => ⟨S2x8192x5632, .f32⟩
  | .hbm, ⟨50, _⟩ => ⟨S2x8192x5632, .f32⟩
  | .hbm, ⟨51, _⟩ => ⟨S2x8192x5632, .f32⟩
  | .hbm, ⟨52, _⟩ => ⟨S2x8192x2048, .f32⟩
  | .hbm, ⟨53, _⟩ => ⟨S2x8192x2048, .f32⟩
  | .hbm, ⟨54, _⟩ => ⟨S2x8192x2048, .f32⟩
  | .hbm, ⟨55, _⟩ => ⟨S2x8192x2048, .f32⟩
  | .hbm, ⟨56, _⟩ => ⟨S2x8192x2048, .f32⟩
  | .hbm, ⟨57, _⟩ => ⟨S_, .f32⟩
  | .hbm, ⟨58, _⟩ => ⟨S2x8192, .f32⟩
  | .hbm, ⟨59, _⟩ => ⟨S2x8192x1, .f32⟩
  | .hbm, ⟨60, _⟩ => ⟨S_, .f32⟩
  | .hbm, ⟨61, _⟩ => ⟨S2x8192x1, .f32⟩
  | .hbm, ⟨62, _⟩ => ⟨S2x8192x1, .f32⟩
  | .hbm, ⟨63, _⟩ => ⟨S_, .f32⟩
  | .hbm, ⟨64, _⟩ => ⟨S2x8192x1, .f32⟩
  | .hbm, ⟨65, _⟩ => ⟨S2x8192x1, .f32⟩
  | .hbm, ⟨66, _⟩ => ⟨S2x8192x1, .f32⟩
  | .hbm, ⟨67, _⟩ => ⟨S2x8192x2048, .f32⟩
  | .hbm, ⟨68, _⟩ => ⟨S2x8192x2048, .f32⟩
  | .hbm, ⟨69, _⟩ => ⟨S1x1x2048, .f32⟩
  | .hbm, ⟨70, _⟩ => ⟨S2x8192x2048, .f32⟩
  | .hbm, ⟨71, _⟩ => ⟨S2x8192x2048, .f32⟩
  | .hbm, ⟨72, _⟩ => ⟨S16384x2048, .f32⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_call0_v0 : Ref sig .tc := ⟨.hbm, 42, rfl⟩
abbrev main_call0_v1 : Ref sig .tc := ⟨.hbm, 43, rfl⟩
abbrev main_call0_cst : Ref sig .tc := ⟨.hbm, 44, rfl⟩
abbrev main_call0_v2 : Ref sig .tc := ⟨.hbm, 45, rfl⟩
abbrev main_call0_v3 : Ref sig .tc := ⟨.hbm, 46, rfl⟩
abbrev main_call0_cst_0 : Ref sig .tc := ⟨.hbm, 47, rfl⟩
abbrev main_call0_v4 : Ref sig .tc := ⟨.hbm, 48, rfl⟩
abbrev main_call0_v5 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_4 : Ref sig .tc := ⟨.hbm, 57, rfl⟩
abbrev main_v38 : Ref sig .tc := ⟨.hbm, 58, rfl⟩
abbrev main_v39 : Ref sig .tc := ⟨.hbm, 59, rfl⟩
abbrev main_cst_5 : Ref sig .tc := ⟨.hbm, 60, rfl⟩
abbrev main_v40 : Ref sig .tc := ⟨.hbm, 61, rfl⟩
abbrev main_v41 : Ref sig .tc := ⟨.hbm, 62, rfl⟩
abbrev main_cst_6 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩

abbrev nD : Nat := 1
abbrev τ : Topo := Topo.v7x

variable {F : FTy → Type} [FloatOps F]
-- ==== Kernel3.lean ====
abbrev S2x8192x2048 : Shape := ⟨3, ![2, 8192, 2048]⟩
abbrev S2x3x2048 : Shape := ⟨3, ![2, 3, 2048]⟩
abbrev S2048 : Shape := ⟨1, ![2048]⟩
abbrev S2048x11264 : Shape := ⟨2, ![2048, 11264]⟩
abbrev S5632x2048 : Shape := ⟨2, ![5632, 2048]⟩
abbrev S2048x2x11x512 : Shape := ⟨4, ![2048, 2, 11, 512]⟩
abbrev S11x2048x2x512 : Shape := ⟨4, ![11, 2048, 2, 512]⟩
abbrev S11x2048x1024 : Shape := ⟨3, ![11, 2048, 1024]⟩
abbrev S16384x2048 : Shape := ⟨2, ![16384, 2048]⟩
abbrev S1x2048 : Shape := ⟨2, ![1, 2048]⟩
abbrev S11x512x2048 : Shape := ⟨3, ![11, 512, 2048]⟩
abbrev S512x2048 : Shape := ⟨2, ![512, 2048]⟩
abbrev S1x3x2048 : Shape := ⟨3, ![1, 3, 2048]⟩
abbrev S2x2048x1024 : Shape := ⟨3, ![2, 2048, 1024]⟩
abbrev S2x512x2048 : Shape := ⟨3, ![2, 512, 2048]⟩
abbrev S2x2 : Shape := ⟨2, ![2, 2]⟩
abbrev S1x1 : Shape := ⟨2, ![1, 1]⟩
abbrev S_ : Shape := ⟨0, ![]⟩
abbrev S1x2048x1024 : Shape := ⟨3, ![1, 2048, 1024]⟩
abbrev S2048x1024 : Shape := ⟨2, ![2048, 1024]⟩
abbrev S1x512x2048 : Shape := ⟨3, ![1, 512, 2048]⟩
abbrev S512 : Shape := ⟨1, ![512]⟩
abbrev S512x1 : Shape := ⟨2, ![512, 1]⟩
abbrev S1x1x2048 : Shape := ⟨3, ![1, 1, 2048]⟩
abbrev S512x1024 : Shape := ⟨2, ![512, 1024]⟩
abbrev S512x512 : Shape := ⟨2, ![512, 512]⟩

abbrev nBuf : Space → Nat
  | .hbm => 14
  | .vmem => 10
  | .smem => 0
  | _ => 0

abbrev bufTy : (tb : Table) → Fin (tcTables nBuf tb) → BufTy
  | .hbm, ⟨0, _⟩ => ⟨S2x8192x2048, .f32⟩
  | .hbm, ⟨1, _⟩ => ⟨S2x3x2048, .f32⟩
  | .hbm, ⟨2, _⟩ => ⟨S2048, .f32⟩
  | .hbm, ⟨3, _⟩ => ⟨S2048x11264, .f32⟩
  | .hbm, ⟨4, _⟩ => ⟨S5632x2048, .f32⟩
  | .hbm, ⟨5, _⟩ => ⟨S2048x2x11x512, .f32⟩
  | .hbm, ⟨6, _⟩ => ⟨S11x2048x2x512, .f32⟩
  | .hbm, ⟨7, _⟩ => ⟨S11x2048x1024, .f32⟩
  | .hbm, ⟨8, _⟩ => ⟨S11x2048x1024, .bf16⟩
  | .hbm, ⟨9, _⟩ => ⟨S5632x2048, .bf16⟩
  | .hbm, ⟨10, _⟩ => ⟨S16384x2048, .f32⟩
  | .hbm, ⟨11, _⟩ => ⟨S1x2048, .f32⟩
  | .hbm, ⟨12, _⟩ => ⟨S11x512x2048, .bf16⟩
  | .hbm, ⟨13, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S1x3x2048, .f32⟩
  | .local _ .vmem, ⟨3, _⟩ => ⟨S1x3x2048, .f32⟩
  | .local _ .vmem, ⟨4, _⟩ => ⟨S1x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .bf16⟩
  | .local _ .vmem, ⟨8, _⟩ => ⟨S2x2048x1024, .bf16⟩
  | .local _ .vmem, ⟨9, _⟩ => ⟨S2x512x2048, .bf16⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32_17 : BitVec 32 := 0#32
  let c11_i32 : BitVec 32 := 11#32
  let v35 : BitVec 32 := Scalar.addi c0_i32_17 c11_i32
  let c1_i32 : BitVec 32 := 1#32
  ⟨c0_i32_17, v35, c1_i32⟩
def k0_cond2 (i : grid0.Coords) (k0_t1 : Fin k0_t1_loop.trips) : BitVec 1 :=
  let arg0 : BitVec 32 := BitVec.ofNat 32 (i 0).val
  let c11_i32_28 : BitVec 32 := 11#32
  let v48 : BitVec 32 := Scalar.muli arg0 c11_i32_28
  let c0_i32_17 : BitVec 32 := 0#32
  let c1_i32 : BitVec 32 := 1#32
  let arg11 : BitVec 32 := Scf.iv c0_i32_17 c1_i32 k0_t1
  let v49 : BitVec 32 := Scalar.addi v48 arg11
  let c1_i32_34 : BitVec 32 := 1#32
  let v60 : BitVec 32 := Scalar.addi v49 c1_i32_34
  let c352_i32 : BitVec 32 := 352#32
  let v61 : BitVec 1 := Scalar.cmpi .slt v60 c352_i32
  let v62 : BitVec 32 := Scalar.extui v61
  let c0_i32_35 : BitVec 32 := 0#32
  let v63 : BitVec 1 := Scalar.cmpi .ne v62 c0_i32_35
  v63

def k0_off1 (i : grid0.Coords) (k0_t1 : Fin k0_t1_loop.trips) : Fin 2 → Nat :=
  let c0_i32_65 : BitVec 32 := 0#32
  let c1_i32_64 : BitVec 32 := 1#32
  let arg0 : BitVec 32 := BitVec.ofNat 32 (i 0).val
  let c11_i32_28 : BitVec 32 := 11#32
  let v48 : BitVec 32 := Scalar.muli arg0 c11_i32_28
  let c0_i32_17 : BitVec 32 := 0#32
  let c1_i32 : BitVec 32 := 1#32
  let arg11 : BitVec 32 := Scf.iv c0_i32_17 c1_i32 k0_t1
  let v49 : BitVec 32 := Scalar.addi v48 arg11
  let c2_i32 : BitVec 32 := 2#32
  let c0_i32_29 : BitVec 32 := 0#32
  let v50 : BitVec 1 := Scalar.cmpi .eq c2_i32 c0_i32_29
  let c1_i32_30 : BitVec 32 := 1#32
  let v51 : BitVec 32 := Scalar.select v50 c1_i32_30 c2_i32
  let v52 : BitVec 32 := Scalar.remsi v49 v51
  let c0_i32_32 : BitVec 32 := 0#32
  let v54 : BitVec 1 := Scalar.cmpi .slt v52 c0_i32_32
  let c0_i32_33 : BitVec 32 := 0#32
  let v55 : BitVec 1 := Scalar.cmpi .slt v51 c0_i32_33
  let v56 : BitVec 1 := Scalar.xori v54 v55
  let c0_i32_31 : BitVec 32 := 0#32
  let v53 : BitVec 1 := Scalar.cmpi .ne v52 c0_i32_31
  let v57 : BitVec 1 := Scalar.andi v56 v53
  let v58 : BitVec 32 := Scalar.addi v52 v51
  let v59 : BitVec 32 := Scalar.select v57 v58 v52
  let v103 : BitVec 32 := Scalar.subi c1_i32_64 v59
  ![0, v103.toNat]
def k0_off2 (i : grid0.Coords) (k0_t1 : Fin k0_t1_loop.trips) : Fin 3 → Nat :=
  let c1_i32_64 : BitVec 32 := 1#32
  let arg0 : BitVec 32 := BitVec.ofNat 32 (i 0).val
  let c11_i32_28 : BitVec 32 := 11#32
  let v48 : BitVec 32 := Scalar.muli arg0 c11_i32_28
  let c0_i32_17 : BitVec 32 := 0#32
  let c1_i32 : BitVec 32 := 1#32
  let arg11 : BitVec 32 := Scf.iv c0_i32_17 c1_i32 k0_t1
  let v49 : BitVec 32 := Scalar.addi v48 arg11
  let c2_i32 : BitVec 32 := 2#32
  let c0_i32_29 : BitVec 32 := 0#32
  let v50 : BitVec 1 := Scalar.cmpi .eq c2_i32 c0_i32_29
  let c1_i32_30 : BitVec 32 := 1#32
  let v51 : BitVec 32 := Scalar.select v50 c1_i32_30 c2_i32
  let v52 : BitVec 32 := Scalar.remsi v49 v51
  let c0_i32_32 : BitVec 32 := 0#32
  let v54 : BitVec 1 := Scalar.cmpi .slt v52 c0_i32_32
  let c0_i32_33 : BitVec 32 := 0#32
  let v55 : BitVec 1 := Scalar.cmpi .slt v51 c0_i32_33
  let v56 : BitVec 1 := Scalar.xori v54 v55
  let c0_i32_31 : BitVec 32 := 0#32
  let v53 : BitVec 1 := Scalar.cmpi .ne v52 c0_i32_31
  let v57 : BitVec 1 := Scalar.andi v56 v53
  let v58 : BitVec 32 := Scalar.addi v52 v51
  let v59 : BitVec 32 := Scalar.select v57 v58 v52
  let v103 : BitVec 32 := Scalar.subi c1_i32_64 v59
  let c0_i32_66 : BitVec 32 := 0#32
  let c0_i32_67 : BitVec 32 := 0#32
  ![v103.toNat, 0, 0]
def k0_off3 (k0_t1 : Fin k0_t1_loop.trips) : Fin 3 → Nat :=
  let c0_i32_17 : BitVec 32 := 0#32
  let c1_i32 : BitVec 32 := 1#32
  let arg11 : BitVec 32 := Scf.iv c0_i32_17 c1_i32 k0_t1
  let c1_i32_60 : BitVec 32 := 1#32
  let v99 : BitVec 32 := Scalar.addi arg11 c1_i32_60
  let c11_i32_61 : BitVec 32 := 11#32
  let v100 : BitVec 1 := Scalar.cmpi .eq v99 c11_i32_61
  let c0_i32_63 : BitVec 32 := 0#32
  let c1_i32_62 : BitVec 32 := 1#32
  let v101 : BitVec 32 := Scalar.addi arg11 c1_i32_62
  let v102 : BitVec 32 := Scalar.select v100 c0_i32_63 v101
  let c0_i32_68 : BitVec 32 := 0#32
  let c0_i32_69 : BitVec 32 := 0#32
  ![v102.toNat, 0, 0]
def k0_off4 (i : grid0.Coords) (k0_t1 : Fin k0_t1_loop.trips) : Fin 2 → Nat :=
  let c1_i32_70 : BitVec 32 := 1#32
  let c1_i32_64 : BitVec 32 := 1#32
  let arg0 : BitVec 32 := BitVec.ofNat 32 (i 0).val
  let c11_i32_28 : BitVec 32 := 11#32
  let v48 : BitVec 32 := Scalar.muli arg0 c11_i32_28
  let c0_i32_17 : BitVec 32 := 0#32
  let c1_i32 : BitVec 32 := 1#32
  let arg11 : BitVec 32 := Scf.iv c0_i32_17 c1_i32 k0_t1
  let v49 : BitVec 32 := Scalar.addi v48 arg11
  let c2_i32 : BitVec 32 := 2#32
  let c0_i32_29 : BitVec 32 := 0#32
  let v50 : BitVec 1 := Scalar.cmpi .eq c2_i32 c0_i32_29
  let c1_i32_30 : BitVec 32 := 1#32
  let v51 : BitVec 32 := Scalar.select v50 c1_i32_30 c2_i32
  let v52 : BitVec 32 := Scalar.remsi v49 v51
  let c0_i32_32 : BitVec 32 := 0#32
  let v54 : BitVec 1 := Scalar.cmpi .slt v52 c0_i32_32
  let c0_i32_33 : BitVec 32 := 0#32
  let v55 : BitVec 1 := Scalar.cmpi .slt v51 c0_i32_33
  let v56 : BitVec 1 := Scalar.xori v54 v55
  let c0_i32_31 : BitVec 32 := 0#32
  let v53 : BitVec 1 := Scalar.cmpi .ne v52 c0_i32_31
  let v57 : BitVec 1 := Scalar.andi v56 v53
  let v58 : BitVec 32 := Scalar.addi v52 v51
  let v59 : BitVec 32 := Scalar.select v57 v58 v52
  let v103 : BitVec 32 := Scalar.subi c1_i32_64 v59
  ![1, v103.toNat]
def k0_off5 (i : grid0.Coords) (k0_t1 : Fin k0_t1_loop.trips) : Fin 3 → Nat :=
  let c1_i32_64 : BitVec 32 := 1#32
  let arg0 : BitVec 32 := BitVec.ofNat 32 (i 0).val
  let c11_i32_28 : BitVec 32 := 11#32
  let v48 : BitVec 32 := Scalar.muli arg0 c11_i32_28
  let c0_i32_17 : BitVec 32 := 0#32
  let c1_i32 : BitVec 32 := 1#32
  let arg11 : BitVec 32 := Scf.iv c0_i32_17 c1_i32 k0_t1
  let v49 : BitVec 32 := Scalar.addi v48 arg11
  let c2_i32 : BitVec 32 := 2#32
  let c0_i32_29 : BitVec 32 := 0#32
  let v50 : BitVec 1 := Scalar.cmpi .eq c2_i32 c0_i32_29
  let c1_i32_30 : BitVec 32 := 1#32
  let v51 : BitVec 32 := Scalar.select v50 c1_i32_30 c2_i32
  let v52 : BitVec 32 := Scalar.remsi v49 v51
  let c0_i32_32 : BitVec 32 := 0#32
  let v54 : BitVec 1 := Scalar.cmpi .slt v52 c0_i32_32
  let c0_i32_33 : BitVec 32 := 0#32
  let v55 : BitVec 1 := Scalar.cmpi .slt v51 c0_i32_33
  let v56 : BitVec 1 := Scalar.xori v54 v55
  let c0_i32_31 : BitVec 32 := 0#32
  let v53 : BitVec 1 := Scalar.cmpi .ne v52 c0_i32_31
  let v57 : BitVec 1 := Scalar.andi v56 v53
  let v58 : BitVec 32 := Scalar.addi v52 v51
  let v59 : BitVec 32 := Scalar.select v57 v58 v52
  let v103 : BitVec 32 := Scalar.subi c1_i32_64 v59
  let c0_i32_71 : BitVec 32 := 0#32
  let c0_i32_72 : BitVec 32 := 0#32
  ![v103.toNat, 0, 0]
def k0_off6 (k0_t1 : Fin k0_t1_loop.trips) : Fin 3 → Nat :=
  let c0_i32_17 : BitVec 32 := 0#32
  let c1_i32 : BitVec 32 := 1#32
  let arg11 : BitVec 32 := Scf.iv c0_i32_17 c1_i32 k0_t1
  let c1_i32_60 : BitVec 32 := 1#32
  let v99 : BitVec 32 := Scalar.addi arg11 c1_i32_60
  let c11_i32_61 : BitVec 32 := 11#32
  let v100 : BitVec 1 := Scalar.cmpi .eq v99 c11_i32_61
  let c0_i32_63 : BitVec 32 := 0#32
  let c1_i32_62 : BitVec 32 := 1#32
  let v101 : BitVec 32 := Scalar.addi arg11 c1_i32_62
  let v102 : BitVec 32 := Scalar.select v100 c0_i32_63 v101
  let c0_i32_73 : BitVec 32 := 0#32
  let c0_i32_74 : BitVec 32 := 0#32
  ![v102.toNat, 0, 0]
def k0_off7 (i : grid0.Coords) (k0_t1 : Fin k0_t1_loop.trips) : Fin 2 → Nat :=
  let c0_i32_36 : BitVec 32 := 0#32
  let arg0 : BitVec 32 := BitVec.ofNat 32 (i 0).val
  let c11_i32_28 : BitVec 32 := 11#32
  let v48 : BitVec 32 := Scalar.muli arg0 c11_i32_28
  let c0_i32_17 : BitVec 32 := 0#32
  let c1_i32 : BitVec 32 := 1#32
  let arg11 : BitVec 32 := Scf.iv c0_i32_17 c1_i32 k0_t1
  let v49 : BitVec 32 := Scalar.addi v48 arg11
  let c2_i32 : BitVec 32 := 2#32
  let c0_i32_29 : BitVec 32 := 0#32
  let v50 : BitVec 1 := Scalar.cmpi .eq c2_i32 c0_i32_29
  let c1_i32_30 : BitVec 32 := 1#32
  let v51 : BitVec 32 := Scalar.select v50 c1_i32_30 c2_i32
  let v52 : BitVec 32 := Scalar.remsi v49 v51
  let c0_i32_32 : BitVec 32 := 0#32
  let v54 : BitVec 1 := Scalar.cmpi .slt v52 c0_i32_32
  let c0_i32_33 : BitVec 32 := 0#32
  let v55 : BitVec 1 := Scalar.cmpi .slt v51 c0_i32_33
  let v56 : BitVec 1 := Scalar.xori v54 v55
  let c0_i32_31 : BitVec 32 := 0#32
  let v53 : BitVec 1 := Scalar.cmpi .ne v52 c0_i32_31
  let v57 : BitVec 1 := Scalar.andi v56 v53
  let v58 : BitVec 32 := Scalar.addi v52 v51
  let v59 : BitVec 32 := Scalar.select v57 v58 v52
  ![0, v59.toNat]
def k0_off8 (i : grid0.Coords) (k0_t1 : Fin k0_t1_loop.trips) : Fin 3 → Nat :=
  let arg0 : BitVec 32 := BitVec.ofNat 32 (i 0).val
  let c11_i32_28 : BitVec 32 := 11#32
  let v48 : BitVec 32 := Scalar.muli arg0 c11_i32_28
  let c0_i32_17 : BitVec 32 := 0#32
  let c1_i32 : BitVec 32 := 1#32
  let arg11 : BitVec 32 := Scf.iv c0_i32_17 c1_i32 k0_t1
  let v49 : BitVec 32 := Scalar.addi v48 arg11
  let c2_i32 : BitVec 32 := 2#32
  let c0_i32_29 : BitVec 32 := 0#32
  let v50 : BitVec 1 := Scalar.cmpi .eq c2_i32 c0_i32_29
  let c1_i32_30 : BitVec 32 := 1#32
  let v51 : BitVec 32 := Scalar.select v50 c1_i32_30 c2_i32
  let v52 : BitVec 32 := Scalar.remsi v49 v51
  let c0_i32_32 : BitVec 32 := 0#32
  let v54 : BitVec 1 := Scalar.cmpi .slt v52 c0_i32_32
  let c0_i32_33 : BitVec 32 := 0#32
  let v55 : BitVec 1 := Scalar.cmpi .slt v51 c0_i32_33
  let v56 : BitVec 1 := Scalar.xori v54 v55
  let c0_i32_31 : BitVec 32 := 0#32
  let v53 : BitVec 1 := Scalar.cmpi .ne v52 c0_i32_31
  let v57 : BitVec 1 := Scalar.andi v56 v53
  let v58 : BitVec 32 := Scalar.addi v52 v51
  let v59 : BitVec 32 := Scalar.select v57 v58 v52
  let c0_i32_37 : BitVec 32 := 0#32
  let c0_i32_38 : BitVec 32 := 0#32
  ![v59.toNat, 0, 0]
def k0_off9 (k0_t1 : Fin k0_t1_loop.trips) : Fin 3 → Nat :=
  let c0_i32_17 : BitVec 32 := 0#32
  let c1_i32 : BitVec 32 := 1#32
  let arg11 : BitVec 32 := Scf.iv c0_i32_17 c1_i32 k0_t1
  let c0_i32_39 : BitVec 32 := 0#32
  let c0_i32_40 : BitVec 32 := 0#32
  ![arg11.toNat, 0, 0]
def k0_off10 (i : grid0.Coords) (k0_t1 : Fin k0_t1_loop.trips) : Fin 2 → Nat :=
  let c1_i32_41 : BitVec 32 := 1#32
  let arg0 : BitVec 32 := BitVec.ofNat 32 (i 0).val
  let c11_i32_28 : BitVec 32 := 11#32
  let v48 : BitVec 32 := Scalar.muli arg0 c11_i32_28
  let c0_i32_17 : BitVec 32 := 0#32
  let c1_i32 : BitVec 32 := 1#32
  let arg11 : BitVec 32 := Scf.iv c0_i32_17 c1_i32 k0_t1
  let v49 : BitVec 32 := Scalar.addi v48 arg11
  let c2_i32 : BitVec 32 := 2#32
  let c0_i32_29 : BitVec 32 := 0#32
  let v50 : BitVec 1 := Scalar.cmpi .eq c2_i32 c0_i32_29
  let c1_i32_30 : BitVec 32 := 1#32
  let v51 : BitVec 32 := Scalar.select v50 c1_i32_30 c2_i32
  let v52 : BitVec 32 := Scalar.remsi v49 v51
  let c0_i32_32 : BitVec 32 := 0#32
  let v54 : BitVec 1 := Scalar.cmpi .slt v52 c0_i32_32
  let c0_i32_33 : BitVec 32 := 0#32
  let v55 : BitVec 1 := Scalar.cmpi .slt v51 c0_i32_33
  let v56 : BitVec 1 := Scalar.xori v54 v55
  let c0_i32_31 : BitVec 32 := 0#32
  let v53 : BitVec 1 := Scalar.cmpi .ne v52 c0_i32_31
  let v57 : BitVec 1 := Scalar.andi v56 v53
  let v58 : BitVec 32 := Scalar.addi v52 v51
  let v59 : BitVec 32 := Scalar.select v57 v58 v52
  ![1, v59.toNat]
def k0_off11 (i : grid0.Coords) (k0_t1 : Fin k0_t1_loop.trips) : Fin 3 → Nat :=
  let arg0 : BitVec 32 := BitVec.ofNat 32 (i 0).val
  let c11_i32_28 : BitVec 32 := 11#32
  let v48 : BitVec 32 := Scalar.muli arg0 c11_i32_28
  let c0_i32_17 : BitVec 32 := 0#32
  let c1_i32 : BitVec 32 := 1#32
  let arg11 : BitVec 32 := Scf.iv c0_i32_17 c1_i32 k0_t1
  let v49 : BitVec 32 := Scalar.addi v48 arg11
  let c2_i32 : BitVec 32 := 2#32
  let c0_i32_29 : BitVec 32 := 0#32
  let v50 : BitVec 1 := Scalar.cmpi .eq c2_i32 c0_i32_29
  let c1_i32_30 : BitVec 32 := 1#32
  let v51 : BitVec 32 := Scalar.select v50 c1_i32_30 c2_i32
  let v52 : BitVec 32 := Scalar.remsi v49 v51
  let c0_i32_32 : BitVec 32 := 0#32
  let v54 : BitVec 1 := Scalar.cmpi .slt v52 c0_i32_32
  let c0_i32_33 : BitVec 32 := 0#32
  let v55 : BitVec 1 := Scalar.cmpi .slt v51 c0_i32_33
  let v56 : BitVec 1 := Scalar.xori v54 v55
  let c0_i32_31 : BitVec 32 := 0#32
  let v53 : BitVec 1 := Scalar.cmpi .ne v52 c0_i32_31
  let v57 : BitVec 1 := Scalar.andi v56 v53
  let v58 : BitVec 32 := Scalar.addi v52 v51
  let v59 : BitVec 32 := Scalar.select v57 v58 v52
  let c0_i32_42 : BitVec 32 := 0#32
  let c0_i32_43 : BitVec 32 := 0#32
  ![v59.toNat, 0, 0]
def k0_off12 (k0_t1 : Fin k0_t1_loop.trips) : Fin 3 → Nat :=
  let c0_i32_17 : BitVec 32 := 0#32
  let c1_i32 : BitVec 32 := 1#32
  let arg11 : BitVec 32 := Scf.iv c0_i32_17 c1_i32 k0_t1
  let c0_i32_44 : BitVec 32 := 0#32
  let c0_i32_45 : BitVec 32 := 0#32
  ![arg11.toNat, 0, 0]
def k0_off13 (i : grid0.Coords) (k0_t1 : Fin k0_t1_loop.trips) : Fin 3 → Nat :=
  let arg0 : BitVec 32 := BitVec.ofNat 32 (i 0).val
  let c11_i32_28 : BitVec 32 := 11#32
  let v48 : BitVec 32 := Scalar.muli arg0 c11_i32_28
  let c0_i32_17 : BitVec 32 := 0#32
  let c1_i32 : BitVec 32 := 1#32
  let arg11 : BitVec 32 := Scf.iv c0_i32_17 c1_i32 k0_t1
  let v49 : BitVec 32 := Scalar.addi v48 arg11
  let c2_i32 : BitVec 32 := 2#32
  let c0_i32_29 : BitVec 32 := 0#32
  let v50 : BitVec 1 := Scalar.cmpi .eq c2_i32 c0_i32_29
  let c1_i32_30 : BitVec 32 := 1#32
  let v51 : BitVec 32 := Scalar.select v50 c1_i32_30 c2_i32
  let v52 : BitVec 32 := Scalar.remsi v49 v51
  let c0_i32_32 : BitVec 32 := 0#32
  let v54 : BitVec 1 := Scalar.cmpi .slt v52 c0_i32_32
  let c0_i32_33 : BitVec 32 := 0#32
  let v55 : BitVec 1 := Scalar.cmpi .slt v51 c0_i32_33
  let v56 : BitVec 1 := Scalar.xori v54 v55
  let c0_i32_31 : BitVec 32 := 0#32
  let v53 : BitVec 1 := Scalar.cmpi .ne v52 c0_i32_31
  let v57 : BitVec 1 := Scalar.andi v56 v53
  let v58 : BitVec 32 := Scalar.addi v52 v51
  let v59 : BitVec 32 := Scalar.select v57 v58 v52
  let v77 : Index := Scalar.indexCast v59
  let c0_48 : Index := 0#32
  let c0_49 : Index := 0#32
  ![v77.toNat, 0, 0]
def k0_off14 (i : grid0.Coords) (k0_t1 : Fin k0_t1_loop.trips) : Fin 3 → Nat :=
  let arg0 : BitVec 32 := BitVec.ofNat 32 (i 0).val
  let c11_i32_28 : BitVec 32 := 11#32
  let v48 : BitVec 32 := Scalar.muli arg0 c11_i32_28
  let c0_i32_17 : BitVec 32 := 0#32
  let c1_i32 : BitVec 32 := 1#32
  let arg11 : BitVec 32 := Scf.iv c0_i32_17 c1_i32 k0_t1
  let v49 : BitVec 32 := Scalar.addi v48 arg11
  let c2_i32 : BitVec 32 := 2#32
  let c0_i32_29 : BitVec 32 := 0#32
  let v50 : BitVec 1 := Scalar.cmpi .eq c2_i32 c0_i32_29
  let c1_i32_30 : BitVec 32 := 1#32
  let v51 : BitVec 32 := Scalar.select v50 c1_i32_30 c2_i32
  let v52 : BitVec 32 := Scalar.remsi v49 v51
  let c0_i32_32 : BitVec 32 := 0#32
  let v54 : BitVec 1 := Scalar.cmpi .slt v52 c0_i32_32
  let c0_i32_33 : BitVec 32 := 0#32
  let v55 : BitVec 1 := Scalar.cmpi .slt v51 c0_i32_33
  let v56 : BitVec 1 := Scalar.xori v54 v55
  let c0_i32_31 : BitVec 32 := 0#32
  let v53 : BitVec 1 := Scalar.cmpi .ne v52 c0_i32_31
  let v57 : BitVec 1 := Scalar.andi v56 v53
  let v58 : BitVec 32 := Scalar.addi v52 v51
  let v59 : BitVec 32 := Scalar.select v57 v58 v52
  let v93 : Index := Scalar.indexCast v59
  let c0_55 : Index := 0#32
  let c0_56 : Index := 0#32
  ![v93.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x3x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference3Ideal.lean ====
abbrev S2x8192x2048 : Shape := ⟨3, ![2, 8192, 2048]⟩
abbrev S2x3x2048 : Shape := ⟨3, ![2, 3, 2048]⟩
abbrev S2048 : Shape := ⟨1, ![2048]⟩
abbrev S2048x11264 : Shape := ⟨2, ![2048, 11264]⟩
abbrev S5632x2048 : Shape := ⟨2, ![5632, 2048]⟩
abbrev S2x3x1x2048 : Shape := ⟨4, ![2, 3, 1, 2048]⟩
abbrev S2x1x1x2048 : Shape := ⟨4, ![2, 1, 1, 2048]⟩
abbrev S2x1x2048 : Shape := ⟨3, ![2, 1, 2048]⟩
abbrev S_ : Shape := ⟨0, ![]⟩
abbrev S2x8192 : Shape := ⟨2, ![2, 8192]⟩
abbrev S2x8192x1 : Shape := ⟨3, ![2, 8192, 1]⟩
abbrev S1x1x2048 : Shape := ⟨3, ![1, 1, 2048]⟩
abbrev S2x8192x11264 : Shape := ⟨3, ![2, 8192, 11264]⟩
abbrev S2x8192x5632 : Shape := ⟨3, ![2, 8192, 5632]⟩
abbrev S16384x2048 : Shape := ⟨2, ![16384, 2048]⟩

abbrev nBuf : Space → Nat
  | .hbm => 56
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S2x3x2048, .f32⟩
  | .hbm, ⟨2, _⟩ => ⟨S2048, .f32⟩
  | .hbm, ⟨3, _⟩ => ⟨S2048x11264, .f32⟩
  | .hbm, ⟨4, _⟩ => ⟨S5632x2048, .f32⟩
  | .hbm, ⟨5, _⟩ => ⟨S2x3x1x2048, .f32⟩
  | .hbm, ⟨6, _⟩ => ⟨S2x1x1x2048, .f32⟩
  | .hbm, ⟨7, _⟩ => ⟨S2x1x2048, .f32⟩
  | .hbm, ⟨8, _⟩ => ⟨S_, .f32⟩
  | .hbm, ⟨9, _⟩ => ⟨S2x1x2048, .f32⟩
  | .hbm, ⟨10, _⟩ => ⟨S2x1x2048, .f32⟩
  | .hbm, ⟨11, _⟩ => ⟨S2x8192x2048, .f32⟩
  | .hbm, ⟨12, _⟩ => ⟨S_, .f32⟩
  | .hbm, ⟨13, _⟩ => ⟨S2x8192, .f32⟩
  | .hbm, ⟨14, _⟩ => ⟨S2x8192x1, .f32⟩
  | .hbm, ⟨15, _⟩ => ⟨S_, .f32⟩
  | .hbm, ⟨16, _⟩ => ⟨S2x8192x1, .f32⟩
  | .hbm, ⟨17, _⟩ => ⟨S2x8192x1, .f32⟩
  | .hbm, ⟨18, _⟩ => ⟨S_, .f32⟩
  | .hbm, ⟨19, _⟩ => ⟨S2x8192x1, .f32⟩
  | .hbm, ⟨20, _⟩ => ⟨S2x8192x1, .f32⟩
  | .hbm, ⟨21, _⟩ => ⟨S2x8192x1, .f32⟩
  | .hbm, ⟨22, _⟩ => ⟨S2x8192x2048, .f32⟩
  | .hbm, ⟨23, _⟩ => ⟨S2x8192x2048, .f32⟩
  | .hbm, ⟨24, _⟩ => ⟨S1x1x2048, .f32⟩
  | .hbm, ⟨25, _⟩ => ⟨S2x8192x2048, .f32⟩
  | .hbm, ⟨26, _⟩ => ⟨S2x8192x2048, .f32⟩
  | .hbm, ⟨27, _⟩ => ⟨S2x1x1x2048, .f32⟩
  | .hbm, ⟨28, _⟩ => ⟨S2x1x2048, .f32⟩
  | .hbm, ⟨29, _⟩ => ⟨S2x1x1x2048, .f32⟩
  | .hbm, ⟨30, _⟩ => ⟨S2x1x2048, .f32⟩
  | .hbm, ⟨31, _⟩ => ⟨S_, .f32⟩
  | .hbm, ⟨32, _⟩ => ⟨S2x1x2048, .f32⟩
  | .hbm, ⟨33, _⟩ => ⟨S2x1x2048, .f32⟩
  | .hbm, ⟨34, _⟩ => ⟨S2x8192x2048, .f32⟩
  | .hbm, ⟨35, _⟩ => ⟨S2x8192x2048, .f32⟩
  | .hbm, ⟨36, _⟩ => ⟨S2x8192x2048, .f32⟩
  | .hbm, ⟨37, _⟩ => ⟨S2x8192x2048, .f32⟩
  | .hbm, ⟨38, _⟩ => ⟨S2x8192x11264, .f32⟩
  | .hbm, ⟨39, _⟩ => ⟨S2x8192x5632, .f32⟩
  | .hbm, ⟨40, _⟩ => ⟨S2x8192x5632, .f32⟩
  | .hbm, ⟨41, _⟩ => ⟨S2x8192x5632, .f32⟩
  | .hbm, ⟨42, _⟩ => ⟨S2x8192x5632, .f32⟩
  | .hbm, ⟨43, _⟩ => ⟨S_, .f32⟩
  | .hbm, ⟨44, _⟩ => ⟨S2x8192x5632, .f32⟩
  | .hbm, ⟨45, _⟩ => ⟨S2x8192x5632, .f32⟩
  | .hbm, ⟨46, _⟩ => ⟨S_, .f32⟩
  | .hbm, ⟨47, _⟩ => ⟨S2x8192x5632, .f32⟩
  | .hbm, ⟨48, _⟩ => ⟨S2x8192x5632, .f32⟩
  | .hbm, ⟨49, _⟩ => ⟨S2x8192x5632, .f32⟩
  | .hbm, ⟨50, _⟩ => ⟨S2x8192x5632, .f32⟩
  | .hbm, ⟨51, _⟩ => ⟨S2x8192x2048, .f32⟩
  | .hbm, ⟨52, _⟩ => ⟨S2x8192x2048, .f32⟩
  | .hbm, ⟨53, _⟩ => ⟨S2x8192x2048, .f32⟩
  | .hbm, ⟨54, _⟩ => ⟨S2x8192x2048, .f32⟩
  | .hbm, ⟨55, _⟩ => ⟨S16384x2048, .f32⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_call0_v0 : Ref sig .tc := ⟨.hbm, 41, rfl⟩
abbrev main_call0_v1 : Ref sig .tc := ⟨.hbm, 42, rfl⟩
abbrev main_call0_cst : Ref sig .tc := ⟨.hbm, 43, rfl⟩
abbrev main_call0_v2 : Ref sig .tc := ⟨.hbm, 44, rfl⟩
abbrev main_call0_v3 : Ref sig .tc := ⟨.hbm, 45, rfl⟩
abbrev main_call0_cst_0 : Ref sig .tc := ⟨.hbm, 46, rfl⟩
abbrev main_call0_v4 : Ref sig .tc := ⟨.hbm, 47, rfl⟩
abbrev main_call0_v5 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩

abbrev nD : Nat := 1
abbrev τ : Topo := Topo.v7x

variable {F : FTy → Type} [FloatOps F]
-- ==== Kernel4.lean ====
abbrev S2x8192x2048 : Shape := ⟨3, ![2, 8192, 2048]⟩
abbrev S2x3x2048 : Shape := ⟨3, ![2, 3, 2048]⟩
abbrev S2x8192x1024 : Shape := ⟨3, ![2, 8192, 1024]⟩
abbrev S2048x2048 : Shape := ⟨2, ![2048, 2048]⟩
abbrev S16384x2048 : Shape := ⟨2, ![16384, 2048]⟩
abbrev S16384x1024 : Shape := ⟨2, ![16384, 1024]⟩
abbrev S512x2048 : Shape := ⟨2, ![512, 2048]⟩
abbrev S1x3x2048 : Shape := ⟨3, ![1, 3, 2048]⟩
abbrev S512x1024 : Shape := ⟨2, ![512, 1024]⟩
abbrev S1024x2048 : Shape := ⟨2, ![1024, 2048]⟩
abbrev S1x1x2048 : Shape := ⟨3, ![1, 1, 2048]⟩
abbrev S1x2048 : Shape := ⟨2, ![1, 2048]⟩

abbrev nBuf : Space → Nat
  | .hbm => 10
  | .vmem => 11
  | .smem => 0
  | _ => 0

abbrev bufTy : (tb : Table) → Fin (tcTables nBuf tb) → BufTy
  | .hbm, ⟨0, _⟩ => ⟨S2x8192x2048, .f32⟩
  | .hbm, ⟨1, _⟩ => ⟨S2x3x2048, .f32⟩
  | .hbm, ⟨2, _⟩ => ⟨S2x8192x1024, .bf16⟩
  | .hbm, ⟨3, _⟩ => ⟨S2x8192x1024, .bf16⟩
  | .hbm, ⟨4, _⟩ => ⟨S2048x2048, .f32⟩
  | .hbm, ⟨5, _⟩ => ⟨S16384x2048, .f32⟩
  | .hbm, ⟨6, _⟩ => ⟨S16384x1024, .bf16⟩
  | .hbm, ⟨7, _⟩ => ⟨S16384x1024, .bf16⟩
  | .hbm, ⟨8, _⟩ => ⟨S2048x2048, .bf16⟩
  | .hbm, ⟨9, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S1x3x2048, .f32⟩
  | .local _ .vmem, ⟨3, _⟩ => ⟨S1x3x2048, .f32⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S2048x2048, .bf16⟩
  | .local _ .vmem, ⟨9, _⟩ => ⟨S512x2048, .f32⟩
  | .local _ .vmem, ⟨10, _⟩ => ⟨S512x2048, .f32⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x3x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference4Ideal.lean ====
abbrev S2x8192x2048 : Shape := ⟨3, ![2, 8192, 2048]⟩
abbrev S2x3x2048 : Shape := ⟨3, ![2, 3, 2048]⟩
abbrev S2x8192x1024 : Shape := ⟨3, ![2, 8192, 1024]⟩
abbrev S2048x2048 : Shape := ⟨2, ![2048, 2048]⟩
abbrev S2x1x2048 : Shape := ⟨3, ![2, 1, 2048]⟩
abbrev S2x2048 : Shape := ⟨2, ![2, 2048]⟩
abbrev S16384x2048 : Shape := ⟨2, ![16384, 2048]⟩

abbrev nBuf : Space → Nat
  | .hbm => 16
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S2x3x2048, .f32⟩
  | .hbm, ⟨2, _⟩ => ⟨S2x8192x1024, .bf16⟩
  | .hbm, ⟨3, _⟩ => ⟨S2x8192x1024, .bf16⟩
  | .hbm, ⟨4, _⟩ => ⟨S2048x2048, .f32⟩
  | .hbm, ⟨5, _⟩ => ⟨S2x8192x1024, .f32⟩
  | .hbm, ⟨6, _⟩ => ⟨S2x8192x1024, .f32⟩
  | .hbm, ⟨7, _⟩ => ⟨S2x8192x2048, .f32⟩
  | .hbm, ⟨8, _⟩ => ⟨S2x8192x2048, .f32⟩
  | .hbm, ⟨9, _⟩ => ⟨S2x1x2048, .f32⟩
  | .hbm, ⟨10, _⟩ => ⟨S2x2048, .f32⟩
  | .hbm, ⟨11, _⟩ => ⟨S2x1x2048, .f32⟩
  | .hbm, ⟨12, _⟩ => ⟨S2x8192x2048, .f32⟩
  | .hbm, ⟨13, _⟩ => ⟨S2x8192x2048, .f32⟩
  | .hbm, ⟨14, _⟩ => ⟨S2x8192x2048, .f32⟩
  | .hbm, ⟨15, _⟩ => ⟨S16384x2048, .f32⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]
-- ==== Proof.Ffn.Ring.lean ====
/-
  The feed-forward kernel's two rings of weight blocks.

  At every step the kernel holds block `c` of the packed input weights and block `c` of the output
  weights in one of two slots, and sends for the next block into the other slot. This file names the
  blocks, the slots and the semaphore cells, says which of them the printed offsets are, and proves
  what one trip of the kernel's loop does: the resources before and after, and the words it stores.
-/
module

public import proofs.«01_k».proof.Defs
public import proofs.«01_k».proof.Proof.Gen.Kernel2Ideal.Launch
public import proofs.«01_k».proof.Proof.Gen.Kernel2Ideal.Skeleton
public import proofs.«01_k».proof.Proof.Gen.Kernel2Ideal.Loops
public import proofs.«01_k».proof.Proof.Gen.Kernel2Ideal.Points
public import proofs.«01_k».proof.Proof.Gen.Kernel2Ideal.Frame
public import proofs.«01_k».proof.Proof.Gen.Reference2Ideal.Run
public import Idealize.ShloMosaic.Lib.Ring
public import Idealize.ShloMosaic.Lib.Affine
public import Idealize.ShloMosaic.Lib.Tactic

@[expose] public section

set_option maxRecDepth 16384

noncomputable section

namespace Cert.Proof.Ffn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The kernel's own transfers ride on counters beside the staging pipeline's resources. -/
abbrev UU (nD : Nat) (τ : Topo) : Type := Pipeline.UD sig nD τ
local notation "𝕄" => MT nD τ sig Unit (Elt F) ℕ (UU nD τ) ℕ
abbrev 𝒱₀ : Variants := Variants.none

/-! ## Blocks, slots and cells -/

abbrev wiM : Memref sig .tc .hbm S11x2048x1024 .bf16 := Memref.whole main_v3
abbrev woM : Memref sig .tc .hbm S11x512x2048 .bf16 := Memref.whole main_v7
abbrev xnM : Memref sig .tc .vmem S512x2048 .bf16 := Memref.whole cc0_scratch0
abbrev inM : Memref sig .tc .vmem S2x2048x1024 .bf16 := Memref.whole cc0_scratch1
abbrev ouM : Memref sig .tc .vmem S2x512x2048 .bf16 := Memref.whole cc0_scratch2

/-- The offset of the `n`-th slab along the first of three axes. -/
abbrev slab (n : ℕ) : Fin 3 → ℕ := ![n, 0, 0]
/-- The offset of a cell: row `a` (0 for the input weights, 1 for the output weights), slot `s`. -/
abbrev cell (a : ℕ) (s : ℕ) : Fin 2 → ℕ := ![a, s]

theorem wi_inb (b : Fin 11) : ∀ a, slab b.val a + S1x2048x1024.size a ≤ S11x2048x1024.size a := by revert b; decide
theorem wo_inb (b : Fin 11) : ∀ a, slab b.val a + S1x512x2048.size a ≤ S11x512x2048.size a := by revert b; decide
theorem in_inb (s : Fin 2) : ∀ a, slab s.val a + S1x2048x1024.size a ≤ S2x2048x1024.size a := by revert s; decide
theorem ou_inb (s : Fin 2) : ∀ a, slab s.val a + S1x512x2048.size a ≤ S2x512x2048.size a := by revert s; decide
theorem cell_inb (r s : Fin 2) : ∀ a, cell r.val s.val a + S1x1.size a ≤ S2x2.size a := by revert r s; decide

/-- Block `b` of the packed input weights. -/
def wiB (b : Fin 11) : Memref sig .tc .hbm S2048x1024 .bf16 :=
  (wiM.slice (Rect.unit (s := S11x2048x1024) (slab b.val) S1x2048x1024.size (wi_inb b)) (fun _ => rfl)).squeeze S2048x1024 squeezes_S1x2048x1024_S2048x1024
/-- Block `b` of the output weights. -/
def woB (b : Fin 11) : Memref sig .tc .hbm S512x2048 .bf16 :=
  (woM.slice (Rect.unit (s := S11x512x2048) (slab b.val) S1x512x2048.size (wo_inb b)) (fun _ => rfl)).squeeze S512x2048 squeezes_S1x512x2048_S512x2048
/-- Slot `s` for blocks of input weights. -/
def inS (s : Fin 2) : Memref sig .tc .vmem S2048x1024 .bf16 :=
  (inM.slice (Rect.unit (s := S2x2048x1024) (slab s.val) S1x2048x1024.size (in_inb s)) (fun _ => rfl)).squeeze S2048x1024 squeezes_S1x2048x1024_S2048x1024
/-- Slot `s` for blocks of output weights. -/
def ouS (s : Fin 2) : Memref sig .tc .vmem S512x2048 .bf16 :=
  (ouM.slice (Rect.unit (s := S2x512x2048) (slab s.val) S1x512x2048.size (ou_inb s)) (fun _ => rfl)).squeeze S512x2048 squeezes_S1x512x2048_S512x2048
/-- The cell on which slot `s` of row `r` completes. -/
def sem (r s : Fin 2) : DmaSems sig S_ :=
  (cc0_scratch3.slice (Rect.unit (s := S2x2) (cell r.val s.val) S1x1.size (cell_inb r s))).squeeze S_ squeezes_S1x1_S_

instance (n : ℕ) : ClosedOff (slab n) := ⟨slab n, rfl⟩

/-! ## The printed offsets

Step `p = 11 t + k` of the whole grid uses slot `p % 2` and block `p % 11`. -/

/-- The trips of the loop are eleven. -/
theorem trips_eq : k0_t1_loop.trips = 11 := by decide

section Offsets

theorem cond_all : ∀ (t : Fin grid0.N) (k : Fin k0_t1_loop.trips),
    k0_cond2 (grid0.coords t) k = 1#1 ↔ 11 * t.val + k.val + 1 < 352 := by decide +kernel
theorem first_all : ∀ (t : Fin grid0.N),
    Scalar.cmpi .ne ((Scalar.extui (Scalar.cmpi .eq (BitVec.ofNat 32 (grid0.coords t 0).val) 0#32) : BitVec 32)) 0#32 = 1#1 ↔ t.val = 0 := by decide +kernel
theorem cells_all : ∀ (t : Fin grid0.N) (k : Fin k0_t1_loop.trips),
    k0_off1 (grid0.coords t) k = cell 0 (Ring.sl 2 (11 * t.val + k.val + 1)).val
    ∧ k0_off4 (grid0.coords t) k = cell 1 (Ring.sl 2 (11 * t.val + k.val + 1)).val
    ∧ k0_off7 (grid0.coords t) k = cell 0 (Ring.sl 2 (11 * t.val + k.val)).val
    ∧ k0_off10 (grid0.coords t) k = cell 1 (Ring.sl 2 (11 * t.val + k.val)).val := by decide +kernel
theorem slots_all : ∀ (t : Fin grid0.N) (k : Fin k0_t1_loop.trips),
    k0_off2 (grid0.coords t) k = slab (Ring.sl 2 (11 * t.val + k.val + 1)).val
    ∧ k0_off5 (grid0.coords t) k = slab (Ring.sl 2 (11 * t.val + k.val + 1)).val
    ∧ k0_off8 (grid0.coords t) k = slab (Ring.sl 2 (11 * t.val + k.val)).val
    ∧ k0_off11 (grid0.coords t) k = slab (Ring.sl 2 (11 * t.val + k.val)).val
    ∧ k0_off13 (grid0.coords t) k = slab (Ring.sl 2 (11 * t.val + k.val)).val
    ∧ k0_off14 (grid0.coords t) k = slab (Ring.sl 2 (11 * t.val + k.val)).val := by decide +kernel
theorem blocks_all : ∀ (k : Fin k0_t1_loop.trips),
    k0_off3 k = slab (Ring.bk 11 (k.val + 1)).val
    ∧ k0_off6 k = slab (Ring.bk 11 (k.val + 1)).val
    ∧ k0_off9 k = slab (Ring.bk 11 k.val).val
    ∧ k0_off12 k = slab (Ring.bk 11 k.val).val := by decide +kernel

end Offsets

section Names

theorem sem_of {off : Fin 2 → ℕ} {r s : Fin 2} (e : off = cell r.val s.val) (h) :
    (cc0_scratch3.slice (Rect.unit (s := S2x2) off S1x1.size h)).squeeze S_ squeezes_S1x1_S_ = sem r s :=
  congrArg (fun A : DmaSems sig S1x1 => A.squeeze S_ squeezes_S1x1_S_) (SemArray.slice_unit_congr _ e _ _)
theorem wiB_of {off : Fin 3 → ℕ} {b : Fin 11} (e : off = slab b.val) (h hs) :
    (wiM.slice (Rect.unit (s := S11x2048x1024) off S1x2048x1024.size h) hs).squeeze S2048x1024 squeezes_S1x2048x1024_S2048x1024 = wiB b :=
  congrArg (fun A : Memref sig .tc .hbm S1x2048x1024 .bf16 => A.squeeze S2048x1024 squeezes_S1x2048x1024_S2048x1024) (Memref.slice_unit_congr _ e _ _ _ _)
theorem woB_of {off : Fin 3 → ℕ} {b : Fin 11} (e : off = slab b.val) (h hs) :
    (woM.slice (Rect.unit (s := S11x512x2048) off S1x512x2048.size h) hs).squeeze S512x2048 squeezes_S1x512x2048_S512x2048 = woB b :=
  congrArg (fun A : Memref sig .tc .hbm S1x512x2048 .bf16 => A.squeeze S512x2048 squeezes_S1x512x2048_S512x2048) (Memref.slice_unit_congr _ e _ _ _ _)
theorem inS_of {off : Fin 3 → ℕ} {s : Fin 2} (e : off = slab s.val) (h hs) :
    (inM.slice (Rect.unit (s := S2x2048x1024) off S1x2048x1024.size h) hs).squeeze S2048x1024 squeezes_S1x2048x1024_S2048x1024 = inS s :=
  congrArg (fun A : Memref sig .tc .vmem S1x2048x1024 .bf16 => A.squeeze S2048x1024 squeezes_S1x2048x1024_S2048x1024) (Memref.slice_unit_congr _ e _ _ _ _)
theorem ouS_of {off : Fin 3 → ℕ} {s : Fin 2} (e : off = slab s.val) (h hs) :
    (ouM.slice (Rect.unit (s := S2x512x2048) off S1x512x2048.size h) hs).squeeze S512x2048 squeezes_S1x512x2048_S512x2048 = ouS s :=
  congrArg (fun A : Memref sig .tc .vmem S1x512x2048 .bf16 => A.squeeze S512x2048 squeezes_S1x512x2048_S512x2048) (Memref.slice_unit_congr _ e _ _ _ _)

/-! The first point's own transfers, at literal offsets. -/

@[sl_canon] theorem sem_first0 (h) : (cc0_scratch3.slice (Rect.unit (s := S2x2) ![0, 0] S1x1.size h)).squeeze S_ squeezes_S1x1_S_ = sem 0 0 := sem_of (r := 0) (s := 0) (by decide) _
@[sl_canon] theorem sem_first1 (h) : (cc0_scratch3.slice (Rect.unit (s := S2x2) ![1, 0] S1x1.size h)).squeeze S_ squeezes_S1x1_S_ = sem 1 0 := sem_of (r := 1) (s := 0) (by decide) _
@[sl_canon] theorem wiB_first (h hs) : (wiM.slice (Rect.unit (s := S11x2048x1024) ![0, 0, 0] S1x2048x1024.size h) hs).squeeze S2048x1024 squeezes_S1x2048x1024_S2048x1024 = wiB 0 := wiB_of (by decide) _ _
@[sl_canon] theorem woB_first (h hs) : (woM.slice (Rect.unit (s := S11x512x2048) ![0, 0, 0] S1x512x2048.size h) hs).squeeze S512x2048 squeezes_S1x512x2048_S512x2048 = woB 0 := woB_of (by decide) _ _
@[sl_canon] theorem inS_first (h hs) : (inM.slice (Rect.unit (s := S2x2048x1024) ![0, 0, 0] S1x2048x1024.size h) hs).squeeze S2048x1024 squeezes_S1x2048x1024_S2048x1024 = inS 0 := inS_of (by decide) _ _
@[sl_canon] theorem ouS_first (h hs) : (ouM.slice (Rect.unit (s := S2x512x2048) ![0, 0, 0] S1x512x2048.size h) hs).squeeze S512x2048 squeezes_S1x512x2048_S512x2048 = ouS 0 := ouS_of (by decide) _ _

/-! A trip's transfers: sent for (step `p + 1`) and awaited (step `p`). -/

variable (t : Fin grid0.N) (k : Fin k0_t1_loop.trips)

@[sl_canon] theorem sem_off1 (h) : (cc0_scratch3.slice (Rect.unit (s := S2x2) (k0_off1 (grid0.coords t) k) S1x1.size h)).squeeze S_ squeezes_S1x1_S_ = sem 0 (Ring.sl 2 (11 * t.val + k.val + 1)) := sem_of (r := 0) (cells_all t k).1 _
@[sl_canon] theorem sem_off4 (h) : (cc0_scratch3.slice (Rect.unit (s := S2x2) (k0_off4 (grid0.coords t) k) S1x1.size h)).squeeze S_ squeezes_S1x1_S_ = sem 1 (Ring.sl 2 (11 * t.val + k.val + 1)) := sem_of (r := 1) (cells_all t k).2.1 _
@[sl_canon] theorem sem_off7 (h) : (cc0_scratch3.slice (Rect.unit (s := S2x2) (k0_off7 (grid0.coords t) k) S1x1.size h)).squeeze S_ squeezes_S1x1_S_ = sem 0 (Ring.sl 2 (11 * t.val + k.val)) := sem_of (r := 0) (cells_all t k).2.2.1 _
@[sl_canon] theorem sem_off10 (h) : (cc0_scratch3.slice (Rect.unit (s := S2x2) (k0_off10 (grid0.coords t) k) S1x1.size h)).squeeze S_ squeezes_S1x1_S_ = sem 1 (Ring.sl 2 (11 * t.val + k.val)) := sem_of (r := 1) (cells_all t k).2.2.2 _
@[sl_canon] theorem inS_off2 (h hs) : (inM.slice (Rect.unit (s := S2x2048x1024) (k0_off2 (grid0.coords t) k) S1x2048x1024.size h) hs).squeeze S2048x1024 squeezes_S1x2048x1024_S2048x1024 = inS (Ring.sl 2 (11 * t.val + k.val + 1)) := inS_of (slots_all t k).1 _ _
@[sl_canon] theorem ouS_off5 (h hs) : (ouM.slice (Rect.unit (s := S2x512x2048) (k0_off5 (grid0.coords t) k) S1x512x2048.size h) hs).squeeze S512x2048 squeezes_S1x512x2048_S512x2048 = ouS (Ring.sl 2 (11 * t.val + k.val + 1)) := ouS_of (slots_all t k).2.1 _ _
@[sl_canon] theorem inS_off8 (h hs) : (inM.slice (Rect.unit (s := S2x2048x1024) (k0_off8 (grid0.coords t) k) S1x2048x1024.size h) hs).squeeze S2048x1024 squeezes_S1x2048x1024_S2048x1024 = inS (Ring.sl 2 (11 * t.val + k.val)) := inS_of (slots_all t k).2.2.1 _ _
@[sl_canon] theorem ouS_off11 (h hs) : (ouM.slice (Rect.unit (s := S2x512x2048) (k0_off11 (grid0.coords t) k) S1x512x2048.size h) hs).squeeze S512x2048 squeezes_S1x512x2048_S512x2048 = ouS (Ring.sl 2 (11 * t.val + k.val)) := ouS_of (slots_all t k).2.2.2.1 _ _
@[sl_canon] theorem wiB_off3 (h hs) : (wiM.slice (Rect.unit (s := S11x2048x1024) (k0_off3 k) S1x2048x1024.size h) hs).squeeze S2048x1024 squeezes_S1x2048x1024_S2048x1024 = wiB (Ring.bk 11 (k.val + 1)) := wiB_of (blocks_all k).1 _ _
@[sl_canon] theorem woB_off6 (h hs) : (woM.slice (Rect.unit (s := S11x512x2048) (k0_off6 k) S1x512x2048.size h) hs).squeeze S512x2048 squeezes_S1x512x2048_S512x2048 = woB (Ring.bk 11 (k.val + 1)) := woB_of (blocks_all k).2.1 _ _
@[sl_canon] theorem wiB_off9 (h hs) : (wiM.slice (Rect.unit (s := S11x2048x1024) (k0_off9 k) S1x2048x1024.size h) hs).squeeze S2048x1024 squeezes_S1x2048x1024_S2048x1024 = wiB (Ring.bk 11 k.val) := wiB_of (blocks_all k).2.2.1 _ _
@[sl_canon] theorem woB_off12 (h hs) : (woM.slice (Rect.unit (s := S11x512x2048) (k0_off12 k) S1x512x2048.size h) hs).squeeze S512x2048 squeezes_S1x512x2048_S512x2048 = woB (Ring.bk 11 k.val) := woB_of (blocks_all k).2.2.2 _ _

/-! The offsets of the slots a trip reads through the whole buffer. -/

instance : ClosedOff (k0_off2 (grid0.coords t) k) := ⟨slab (Ring.sl 2 (11 * t.val + k.val + 1)).val, (slots_all t k).1⟩
instance : ClosedOff (k0_off5 (grid0.coords t) k) := ⟨slab (Ring.sl 2 (11 * t.val + k.val + 1)).val, (slots_all t k).2.1⟩
instance : ClosedOff (k0_off8 (grid0.coords t) k) := ⟨slab (Ring.sl 2 (11 * t.val + k.val)).val, (slots_all t k).2.2.1⟩
instance : ClosedOff (k0_off11 (grid0.coords t) k) := ⟨slab (Ring.sl 2 (11 * t.val + k.val)).val, (slots_all t k).2.2.2.1⟩
instance : ClosedOff (k0_off13 (grid0.coords t) k) := ⟨slab (Ring.sl 2 (11 * t.val + k.val)).val, (slots_all t k).2.2.2.2.1⟩
instance : ClosedOff (k0_off14 (grid0.coords t) k) := ⟨slab (Ring.sl 2 (11 * t.val + k.val)).val, (slots_all t k).2.2.2.2.2⟩

end Names

/-! ## What is held -/

section Pieces
variable (c : Dev nD) (XI : Buf (Elt F) (wiM.view.loc (c : Thread nD τ))) (XO : Buf (Elt F) (woM.view.loc (c : Thread nD τ)))

/-- A cell reading zero. -/
abbrev cellP (r s : Fin 2) : sProp 𝕄 := semVal ((c : Thread nD τ), SemLoc.dma (sem r s).sem) 0
/-- A slot held. -/
abbrev inP (s : Fin 2) (f : Buf (Elt F) ((inS s).view.loc (c : Thread nD τ))) : sProp 𝕄 :=
  (inS s).view.loc (c : Thread nD τ) ↦[(inS s).view.set]{fullShare} f
abbrev ouP (s : Fin 2) (f : Buf (Elt F) ((ouS s).view.loc (c : Thread nD τ))) : sProp 𝕄 :=
  (ouS s).view.loc (c : Thread nD τ) ↦[(ouS s).view.set]{fullShare} f
/-- A block of the weights held, at the array's words. -/
abbrev wiP (b : Fin 11) : sProp 𝕄 := (wiB b).view.loc (c : Thread nD τ) ↦[(wiB b).view.set]{fullShare} XI
abbrev woP (b : Fin 11) : sProp 𝕄 := (woB b).view.loc (c : Thread nD τ) ↦[(woB b).view.set]{fullShare} XO
/-- A block's words, as they go into a slot. -/
abbrev wiW (b : Fin 11) : S2048x1024.Idx → Elt F .bf16 := ReadAs.same.apply ((wiB b).view.read (Elt F) XI)
abbrev woW (b : Fin 11) : S512x2048.Idx → Elt F .bf16 := ReadAs.same.apply ((woB b).view.read (Elt F) XO)
/-- A block of weights on its way into a slot that held `f`. -/
abbrev inF (s : Fin 2) (b : Fin 11) (f : Buf (Elt F) ((inS s).view.loc (c : Thread nD τ))) : sProp 𝕄 :=
  Transfers.Flight countersEmb (c : Thread nD τ) (SemLoc.dma (sem 0 s).sem) () 131072
    iprop(inP c s ((inS s).view.writes (Elt F) f [⟨Rect.whole S2048x1024, wiW c XI b⟩]) ∗ wiP c XI b)
abbrev ouF (s : Fin 2) (b : Fin 11) (f : Buf (Elt F) ((ouS s).view.loc (c : Thread nD τ))) : sProp 𝕄 :=
  Transfers.Flight countersEmb (c : Thread nD τ) (SemLoc.dma (sem 1 s).sem) () 65536
    iprop(ouP c s ((ouS s).view.writes (Elt F) f [⟨Rect.whole S512x2048, woW c XO b⟩]) ∗ woP c XO b)

/-- Block `b` of both arrays under way into slot `s`, every other block at home, the other slot `s'` free. -/
def busy (s s' : Fin 2) (b : Fin 11) : sProp 𝕄 :=
  iprop((∃ f, inF c XI s b f) ∗ (∃ f, ouF c XO s b f) ∗ (∃ f, inP c s' f) ∗ (∃ f, ouP c s' f) ∗ cellP c 0 s' ∗ cellP c 1 s'
    ∗ bigSep (Finset.univ.erase b) (wiP c XI) ∗ bigSep (Finset.univ.erase b) (woP c XO))
/-- Nothing under way. -/
def idle (s s' : Fin 2) : sProp 𝕄 :=
  iprop((∃ f, inP c s f) ∗ (∃ f, ouP c s f) ∗ cellP c 0 s ∗ cellP c 1 s ∗ (∃ f, inP c s' f) ∗ (∃ f, ouP c s' f) ∗ cellP c 0 s' ∗ cellP c 1 s'
    ∗ bigSep Finset.univ (wiP c XI) ∗ bigSep Finset.univ (woP c XO))

/-- A family over all blocks, one block apart. -/
theorem homes_one (Φ : Fin 11 → sProp 𝕄) (b : Fin 11) : bigSep Finset.univ Φ = iprop(Φ b ∗ bigSep (Finset.univ.erase b) Φ) := by
  conv_lhs => rw [← Finset.insert_erase (Finset.mem_univ b), bigSep_insert (Finset.notMem_erase b _)]
  rfl
/-- All blocks but `b`, block `b'` apart. -/
theorem homes_two (Φ : Fin 11 → sProp 𝕄) {b b' : Fin 11} (h : b' ≠ b) :
    bigSep (Finset.univ.erase b) Φ = iprop(Φ b' ∗ bigSep ((Finset.univ.erase b).erase b') Φ) := by
  have hm : b' ∈ (Finset.univ : Finset (Fin 11)).erase b := Finset.mem_erase.mpr ⟨h, Finset.mem_univ _⟩
  conv_lhs => rw [← Finset.insert_erase hm, bigSep_insert (Finset.notMem_erase b' _)]
  rfl

end Pieces

end Cert.Proof.Ffn

end
-- ==== Proof.Ffn.Trip.lean ====
/-
  One trip of the feed-forward kernel's loop, and the loop.
-/
module

public import proofs.«01_k».proof.Proof.Ffn.Ring

@[expose] public section

set_option maxRecDepth 16384

noncomputable section

namespace Cert.Proof.Ffn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

variable (c : Dev nD) (XI : Buf (Elt F) (wiM.view.loc (c : Thread nD τ))) (XO : Buf (Elt F) (woM.view.loc (c : Thread nD τ)))
  (t : Fin grid0.N)
  (arg1 : Memref sig .tc .vmem S512x2048 .f32) (harg1 : arg1.IsWhole)
  (arg2 : Memref sig .tc .vmem S1x3x2048 .f32) (harg2 : arg2.IsWhole)
  (arg3 : Memref sig .tc .vmem S1x2048 .f32) (harg3 : arg3.IsWhole)
  (arg6 : Memref sig .tc .vmem S1x2048 .f32) (harg6 : arg6.IsWhole)
  (arg7 : Memref sig .tc .vmem S512x2048 .f32) (harg7 : arg7.IsWhole)

abbrev R00 : Rect S512x2048 := Rect.unit (s := S512x2048) ![0, 0] S512x2048.size inb_S512x2048_S512x2048_0_0

/-- The output block's staging buffer, and the normalized block's. -/
abbrev oP (fo : Buf (Elt F) (arg7.view.loc (c : Thread nD τ))) : sProp 𝕄 := arg7.view.loc (c : Thread nD τ) ↦[arg7.view.set]{fullShare} fo
abbrev xnP (fx : Buf (Elt F) (xnM.view.loc (c : Thread nD τ))) : sProp 𝕄 := xnM.view.loc (c : Thread nD τ) ↦{fullShare} fx

abbrev trip (w0 : BitVec 32) (k : Fin k0_t1_loop.trips) : Prog (TpuEff nD τ sig (Elt F) Λ₀ .tc) Unit :=
  k0_t1_body (F := F) (grid0.coords t) arg1 harg1 arg2 harg2 arg3 harg3 wiM (Memref.isWhole_whole _) woM (Memref.isWhole_whole _) arg6 harg6 arg7 harg7
    xnM (Memref.isWhole_whole _) inM (Memref.isWhole_whole _) ouM (Memref.isWhole_whole _) cc0_scratch3 w0 k ()

/-- Trip `k`'s block of input weights, as the kernel reads it from its slot. -/
abbrev inRead (k : Fin k0_t1_loop.trips) : S1x2048x1024.Idx → Elt F .bf16 :=
  View.readAt (Elt F) inM.view (Rect.unit (s := S2x2048x1024) (k0_off13 (grid0.coords t) k) S1x2048x1024.size (k0_off13_inb (grid0.coords t) k)).toLoadRect
    ((inS (Ring.sl 2 (11 * t.val + k.val))).view.writes (Elt F) (inS (Ring.sl 2 (11 * t.val + k.val))).view.junk
      [⟨Rect.whole S2048x1024, wiW c XI (Ring.bk 11 k.val)⟩])
/-- Trip `k`'s block of output weights, as the kernel reads it from its slot. -/
abbrev ouRead (k : Fin k0_t1_loop.trips) : S1x512x2048.Idx → Elt F .bf16 :=
  View.readAt (Elt F) ouM.view (Rect.unit (s := S2x512x2048) (k0_off14 (grid0.coords t) k) S1x512x2048.size (k0_off14_inb (grid0.coords t) k)).toLoadRect
    ((ouS (Ring.sl 2 (11 * t.val + k.val))).view.writes (Elt F) (ouS (Ring.sl 2 (11 * t.val + k.val))).view.junk
      [⟨Rect.whole S512x2048, woW c XO (Ring.bk 11 k.val)⟩])
/-- The words trip `k` stores. -/
abbrev tripW (k : Fin k0_t1_loop.trips) (fx : Buf (Elt F) (xnM.view.loc (c : Thread nD τ))) (fo : Buf (Elt F) (arg7.view.loc (c : Thread nD τ))) :
    (R00).shape.Idx → Elt F .f32 :=
  k0_pay1 (View.readAt (Elt F) xnM.view (R00).toLoadRect fx) (k0_pay3 (inRead c XI t k)) (View.readAt (Elt F) arg7.view (R00).toLoadRect fo) (ouRead c XO t k)

set_option backward.proofsInPublic true in
/-- One trip that sends for the next block. -/
theorem tripSend (w0 : BitVec 32) (k : Fin k0_t1_loop.trips) (hk : 11 * t.val + k.val + 1 < 352)
    (fx : Buf (Elt F) (xnM.view.loc (c : Thread nD τ))) (fo : Buf (Elt F) (arg7.view.loc (c : Thread nD τ))) :
    iprop(oP c arg7 fo ∗ xnP c fx ∗ (∃ W, owes (c : Thread nD τ) 0 W)
        ∗ busy c XI XO (Ring.sl 2 (11 * t.val + k.val)) (Ring.sl 2 (11 * t.val + k.val + 1)) (Ring.bk 11 k.val))
      ⊢ wp frame (wpE (defs₀ (F := F)) 𝒱₀ (c : Thread nD τ) none) Set.univ
          (trip t arg1 harg1 arg2 harg2 arg3 harg3 arg6 harg6 arg7 harg7 w0 k)
          (fun _ => iprop(oP c arg7 (arg7.view.writes (Elt F) fo [⟨R00, tripW c XI XO t arg7 k fx fo⟩]) ∗ xnP c fx ∗ (∃ W, owes (c : Thread nD τ) 0 W)
            ∗ busy c XI XO (Ring.sl 2 (11 * t.val + k.val + 1)) (Ring.sl 2 (11 * t.val + k.val)) (Ring.bk 11 (k.val + 1)))) := by
  have hc : k0_cond2 (grid0.coords t) k = 1#1 := (cond_all t k).mpr hk
  have hne : Ring.bk 11 (k.val + 1) ≠ Ring.bk 11 k.val := by
    have := k.isLt; intro e; have := congrArg Fin.val e; simp [Ring.bk, Fin.ofNat] at this; omega
  unfold busy
  rw [homes_two (wiP c XI) hne, homes_two (woP c XO) hne, homes_two (wiP c XI) hne.symm, homes_two (woP c XO) hne.symm,
    Finset.erase_right_comm (a := Ring.bk 11 (k.val + 1)) (b := Ring.bk 11 k.val)]
  iintro ⟨HO, HX, ⟨%W, HW⟩, ⟨%f0, HI⟩, ⟨%f1, HU⟩, ⟨%f2, HI'⟩, ⟨%f3, HU'⟩, HC0, HC1, ⟨Hwi, Hwir⟩, ⟨Hwo, Hwor⟩⟩
  dsimp only [trip]
  sl_unfold [k0_t1_body]
  sl_exec
  sl_step
  isplitl [HO]; · iexact HO
  isplitl [HX]; · iexact HX
  isplitl [HW]; · iexists _; iexact HW
  isplitl [HC0]; · iexists f2; iexact HC0
  isplitl [HC1]; · iexists f3; iexact HC1
  isplitl [HI_dst]; · iexists _; iexact HI_dst
  isplitl [HU_dst]; · iexists _; iexact HU_dst
  isplitl [HI]; · iexact HI
  isplitl [HU]; · iexact HU
  isplitl [HI_src Hwir]
  · isplitl [HI_src]; · iexact HI_src
    iexact Hwir
  isplitl [HU_src]; · iexact HU_src
  iexact Hwor

set_option backward.proofsInPublic true in
/-- The last trip of the last point, which sends for nothing. -/
theorem tripLast (w0 : BitVec 32) (k : Fin k0_t1_loop.trips) (hk : ¬ 11 * t.val + k.val + 1 < 352)
    (fx : Buf (Elt F) (xnM.view.loc (c : Thread nD τ))) (fo : Buf (Elt F) (arg7.view.loc (c : Thread nD τ))) :
    iprop(oP c arg7 fo ∗ xnP c fx ∗ (∃ W, owes (c : Thread nD τ) 0 W)
        ∗ busy c XI XO (Ring.sl 2 (11 * t.val + k.val)) (Ring.sl 2 (11 * t.val + k.val + 1)) (Ring.bk 11 k.val))
      ⊢ wp frame (wpE (defs₀ (F := F)) 𝒱₀ (c : Thread nD τ) none) Set.univ
          (trip t arg1 harg1 arg2 harg2 arg3 harg3 arg6 harg6 arg7 harg7 w0 k)
          (fun _ => iprop(oP c arg7 (arg7.view.writes (Elt F) fo [⟨R00, tripW c XI XO t arg7 k fx fo⟩]) ∗ xnP c fx ∗ (∃ W, owes (c : Thread nD τ) 0 W)
            ∗ idle c XI XO (Ring.sl 2 (11 * t.val + k.val + 1)) (Ring.sl 2 (11 * t.val + k.val)))) := by
  have hc : ¬ k0_cond2 (grid0.coords t) k = 1#1 := fun h => hk ((cond_all t k).mp h)
  unfold busy idle
  rw [homes_one (wiP c XI) (Ring.bk 11 k.val), homes_one (woP c XO) (Ring.bk 11 k.val)]
  iintro ⟨HO, HX, ⟨%W, HW⟩, ⟨%f0, HI⟩, ⟨%f1, HU⟩, HI', HU', HC0, HC1, Hwir, Hwor⟩
  dsimp only [trip]
  sl_unfold [k0_t1_body]
  sl_exec
  sl_step
  isplitl [HO]; · iexact HO
  isplitl [HX]; · iexact HX
  isplitl [HW]; · iexists _; iexact HW
  isplitl [HI']; · iexact HI'
  isplitl [HU']; · iexact HU'
  isplitl [HC0]; · iexact HC0
  isplitl [HC1]; · iexact HC1
  isplitl [HI_dst]; · iexists _; iexact HI_dst
  isplitl [HU_dst]; · iexists _; iexact HU_dst
  isplitl [HI]; · iexact HI
  isplitl [HU]; · iexact HU
  isplitl [HI_src Hwir]
  · isplitl [HI_src]; · iexact HI_src
    iexact Hwir
  isplitl [HU_src]; · iexact HU_src
  iexact Hwor

/-! ## The loop -/

theorem entails_of_eq {P Q : sProp 𝕄} (e : P = Q) : P ⊢ Q := e ▸ .rfl

/-- The rings before step `p` of the 352. -/
def ring (p : ℕ) : sProp 𝕄 :=
  if p < 352 then busy c XI XO (Ring.sl 2 p) (Ring.sl 2 (p + 1)) (Ring.bk 11 p) else idle c XI XO (Ring.sl 2 p) (Ring.sl 2 (p + 1))

/-- The output block's staging buffer after `k` trips, from `o0`. -/
def oAcc (fx : Buf (Elt F) (xnM.view.loc (c : Thread nD τ))) (o0 : Buf (Elt F) (arg7.view.loc (c : Thread nD τ))) : ℕ → Buf (Elt F) (arg7.view.loc (c : Thread nD τ))
  | 0 => o0
  | k + 1 =>
    if h : k < k0_t1_loop.trips then
      arg7.view.writes (Elt F) (oAcc fx o0 k) [⟨R00, tripW c XI XO t arg7 ⟨k, h⟩ fx (oAcc fx o0 k)⟩]
    else oAcc fx o0 k

theorem oAcc_succ (fx : Buf (Elt F) (xnM.view.loc (c : Thread nD τ))) (o0 : Buf (Elt F) (arg7.view.loc (c : Thread nD τ))) (n : ℕ) (h : n < k0_t1_loop.trips) :
    oAcc c XI XO t arg7 fx o0 (n + 1)
      = arg7.view.writes (Elt F) (oAcc c XI XO t arg7 fx o0 n) [⟨R00, tripW c XI XO t arg7 ⟨n, h⟩ fx (oAcc c XI XO t arg7 fx o0 n)⟩] :=
  dif_pos h

/-- The loop's invariant before trip `k`. -/
def inv (fx : Buf (Elt F) (xnM.view.loc (c : Thread nD τ))) (o0 : Buf (Elt F) (arg7.view.loc (c : Thread nD τ))) (k : ℕ) : sProp 𝕄 :=
  iprop(oP c arg7 (oAcc c XI XO t arg7 fx o0 k) ∗ xnP c fx ∗ (∃ W, owes (c : Thread nD τ) 0 W) ∗ ring c XI XO (11 * t.val + k))

theorem bk_step (n k : ℕ) : Ring.bk 11 (11 * n + k) = Ring.bk 11 k := Fin.ext (by simp [Ring.bk, Fin.ofNat])
theorem sl_step' (n : ℕ) : Ring.sl 2 (n + 1 + 1) = Ring.sl 2 n := by rw [show n + 1 + 1 = n + 2 from rfl, Ring.sl_add]

theorem ring_at (k : Fin k0_t1_loop.trips) : ring c XI XO (11 * t.val + k.val)
    = busy c XI XO (Ring.sl 2 (11 * t.val + k.val)) (Ring.sl 2 (11 * t.val + k.val + 1)) (Ring.bk 11 k.val) := by
  have ht : t.val < 32 := t.isLt
  have hk : k.val < 11 := k.isLt
  unfold ring
  rw [if_pos (by omega), bk_step]
theorem ring_next (k : Fin k0_t1_loop.trips) (h : 11 * t.val + k.val + 1 < 352) : ring c XI XO (11 * t.val + (k.val + 1))
    = busy c XI XO (Ring.sl 2 (11 * t.val + k.val + 1)) (Ring.sl 2 (11 * t.val + k.val)) (Ring.bk 11 (k.val + 1)) := by
  unfold ring
  rw [if_pos (by omega), bk_step, ← sl_step' (11 * t.val + k.val)]
  rfl
theorem ring_end (k : Fin k0_t1_loop.trips) (h : ¬ 11 * t.val + k.val + 1 < 352) : ring c XI XO (11 * t.val + (k.val + 1))
    = idle c XI XO (Ring.sl 2 (11 * t.val + k.val + 1)) (Ring.sl 2 (11 * t.val + k.val)) := by
  unfold ring
  rw [if_neg (by omega), ← sl_step' (11 * t.val + k.val)]
  rfl

/-- The invariant after trip `k`, the rings at `R`. -/
theorem inv_next (k : Fin k0_t1_loop.trips) (fx : Buf (Elt F) (xnM.view.loc (c : Thread nD τ))) (o0 : Buf (Elt F) (arg7.view.loc (c : Thread nD τ)))
    (R : sProp 𝕄) (hR : ring c XI XO (11 * t.val + (k.val + 1)) = R) : inv c XI XO t arg7 fx o0 (k.val + 1)
      = iprop(oP c arg7 (arg7.view.writes (Elt F) (oAcc c XI XO t arg7 fx o0 k.val) [⟨R00, tripW c XI XO t arg7 k fx (oAcc c XI XO t arg7 fx o0 k.val)⟩])
          ∗ xnP c fx ∗ (∃ W, owes (c : Thread nD τ) 0 W) ∗ R) :=
  congrArg₂ (fun (o : Buf (Elt F) (arg7.view.loc (c : Thread nD τ))) (S : sProp 𝕄) => iprop(oP c arg7 o ∗ xnP c fx ∗ (∃ W, owes (c : Thread nD τ) 0 W) ∗ S))
    (oAcc_succ c XI XO t arg7 fx o0 k.val k.isLt) hR

/-- One trip keeps the invariant. -/
theorem inv_step (w0 : BitVec 32) (k : Fin k0_t1_loop.trips)
    (fx : Buf (Elt F) (xnM.view.loc (c : Thread nD τ))) (o0 : Buf (Elt F) (arg7.view.loc (c : Thread nD τ))) :
    inv c XI XO t arg7 fx o0 k.val
      ⊢ wp frame (wpE (defs₀ (F := F)) 𝒱₀ (c : Thread nD τ) none) Set.univ
          (trip t arg1 harg1 arg2 harg2 arg3 harg3 arg6 harg6 arg7 harg7 w0 k)
          (fun _ => inv c XI XO t arg7 fx o0 (k.val + 1)) := by
  have hpre : inv c XI XO t arg7 fx o0 k.val = iprop(oP c arg7 (oAcc c XI XO t arg7 fx o0 k.val) ∗ xnP c fx ∗ (∃ W, owes (c : Thread nD τ) 0 W)
      ∗ busy c XI XO (Ring.sl 2 (11 * t.val + k.val)) (Ring.sl 2 (11 * t.val + k.val + 1)) (Ring.bk 11 k.val)) :=
    congrArg (fun R : sProp 𝕄 => iprop(oP c arg7 (oAcc c XI XO t arg7 fx o0 k.val) ∗ xnP c fx ∗ (∃ W, owes (c : Thread nD τ) 0 W) ∗ R)) (ring_at c XI XO t k)
  by_cases h : 11 * t.val + k.val + 1 < 352
  · have h1 := tripSend c XI XO t arg1 harg1 arg2 harg2 arg3 harg3 arg6 harg6 arg7 harg7 w0 k h fx (oAcc c XI XO t arg7 fx o0 k.val)
    have h2 := inv_next c XI XO t arg7 k fx o0 _ (ring_next c XI XO t k h)
    refine (entails_of_eq hpre).trans (h1.trans ?_)
    iintro H
    iapply (wp_wand_r Idealize.ShloMosaic.frame (wpE (defs₀ (F := F)) 𝒱₀ (c : Thread nD τ) none) Set.univ)
    isplitl [H]; · iexact H
    iintro %_ H'
    iapply (entails_of_eq h2.symm); iexact H'
  · have h1 := tripLast c XI XO t arg1 harg1 arg2 harg2 arg3 harg3 arg6 harg6 arg7 harg7 w0 k h fx (oAcc c XI XO t arg7 fx o0 k.val)
    have h2 := inv_next c XI XO t arg7 k fx o0 _ (ring_end c XI XO t k h)
    refine (entails_of_eq hpre).trans (h1.trans ?_)
    iintro H
    iapply (wp_wand_r Idealize.ShloMosaic.frame (wpE (defs₀ (F := F)) 𝒱₀ (c : Thread nD τ) none) Set.univ)
    isplitl [H]; · iexact H
    iintro %_ H'
    iapply (entails_of_eq h2.symm); iexact H'

end Cert.Proof.Ffn

end
-- ==== Proof.Ffn.Body.lean ====
/-
  The feed-forward kernel's body at one grid point: the normalized block, the loop over the weights'
  blocks, and the last normalization.
-/
module

public import proofs.«01_k».proof.Proof.Ffn.Trip

@[expose] public section

set_option maxRecDepth 16384

noncomputable section

namespace Cert.Proof.Ffn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

variable (c : Dev nD) (XI : Buf (Elt F) (wiM.view.loc (c : Thread nD τ))) (XO : Buf (Elt F) (woM.view.loc (c : Thread nD τ)))
  (t : Fin grid0.N)
  (arg1 : Memref sig .tc .vmem S512x2048 .f32) (harg1 : arg1.IsWhole)
  (arg2 : Memref sig .tc .vmem S1x3x2048 .f32) (harg2 : arg2.IsWhole)
  (arg3 : Memref sig .tc .vmem S1x2048 .f32) (harg3 : arg3.IsWhole)
  (arg6 : Memref sig .tc .vmem S1x2048 .f32) (harg6 : arg6.IsWhole)
  (arg7 : Memref sig .tc .vmem S512x2048 .f32) (harg7 : arg7.IsWhole)

abbrev bodyP : Prog (TpuEff nD τ sig (Elt F) Λ₀ .tc) PUnit :=
  cc0_ffn_final (F := F) (grid0.coords t) arg1 harg1 arg2 harg2 arg3 harg3 wiM (Memref.isWhole_whole _) woM (Memref.isWhole_whole _) arg6 harg6 arg7 harg7
    xnM (Memref.isWhole_whole _) inM (Memref.isWhole_whole _) ouM (Memref.isWhole_whole _) cc0_scratch3

/-- A staged input's buffer held. -/
abbrev gP {s : Shape} (arg : Memref sig .tc .vmem s .f32) (g : Buf (Elt F) (arg.view.loc (c : Thread nD τ))) : sProp 𝕄 :=
  arg.view.loc (c : Thread nD τ) ↦[arg.view.set]{fullShare} g

section Run
variable (g1 : Buf (Elt F) (arg1.view.loc (c : Thread nD τ))) (g2 : Buf (Elt F) (arg2.view.loc (c : Thread nD τ)))
  (g3 : Buf (Elt F) (arg3.view.loc (c : Thread nD τ))) (g6 : Buf (Elt F) (arg6.view.loc (c : Thread nD τ)))

/-- The normalized block, as the kernel keeps it. -/
def xnOf : Buf (Elt F) (xnM.view.loc (c : Thread nD τ)) :=
  xnM.view.writes (Elt F) xnM.view.junk [⟨R00, k0_pay4
    (View.readAt (Elt F) arg1.view (R00).toLoadRect g1)
    (View.readAt (Elt F) arg3.view (Rect.unit (s := S1x2048) ![0, 0] S1x2048.size inb_S1x2048_S1x2048_0_0).toLoadRect g3)
    (View.readAt (Elt F) arg2.view (Rect.unit (s := S1x3x2048) ![0, 1, 0] S1x1x2048.size inb_S1x3x2048_S1x1x2048_0_1_0).toLoadRect g2)
    (View.readAt (Elt F) arg2.view (Rect.unit (s := S1x3x2048) ![0, 0, 0] S1x1x2048.size inb_S1x3x2048_S1x1x2048_0_0_0).toLoadRect g2)⟩]
/-- The output block before the first trip: zeros. -/
def oZero : Buf (Elt F) (arg7.view.loc (c : Thread nD τ)) := arg7.view.writes (Elt F) arg7.view.junk [⟨R00, k0_pay5⟩]
/-- The output block after the loop. -/
def oLoop : Buf (Elt F) (arg7.view.loc (c : Thread nD τ)) :=
  oAcc c XI XO t arg7 (xnOf c arg1 arg2 arg3 g1 g2 g3) (oZero c arg7) k0_t1_loop.trips

/-- The output block's buffer as the kernel leaves it. -/
def outOf : Buf (Elt F) (arg7.view.loc (c : Thread nD τ)) :=
  arg7.view.writes (Elt F) (oLoop c XI XO t arg1 arg2 arg3 arg7 g1 g2 g3) [⟨R00, k0_pay2
    (View.readAt (Elt F) arg1.view (R00).toLoadRect g1)
    (View.readAt (Elt F) arg2.view (Rect.unit (s := S1x3x2048) ![0, 2, 0] S1x1x2048.size inb_S1x3x2048_S1x1x2048_0_2_0).toLoadRect g2)
    (View.readAt (Elt F) arg7.view (R00).toLoadRect (oLoop c XI XO t arg1 arg2 arg3 arg7 g1 g2 g3))
    (View.readAt (Elt F) arg6.view (Rect.unit (s := S1x2048) ![0, 0] S1x2048.size inb_S1x2048_S1x2048_0_0).toLoadRect g6)⟩]

/-- What the body hands back. -/
def bodyPost : sProp 𝕄 :=
  iprop(gP c arg1 g1 ∗ gP c arg2 g2 ∗ gP c arg3 g3 ∗ gP c arg6 g6 ∗ oP c arg7 (outOf c XI XO t arg1 arg2 arg3 arg6 arg7 g1 g2 g3 g6)
    ∗ (∃ fx, xnP c fx) ∗ (∃ W, owes (c : Thread nD τ) 0 W) ∗ ring c XI XO (11 * t.val + k0_t1_loop.trips))

/-- Before the first step: block 0 under way into slot 0. -/
theorem ring_first (ht : t.val = 0) : ring c XI XO (11 * t.val + 0) = busy c XI XO 0 1 0 := by
  unfold ring
  rw [ht, if_pos (by omega)]
  rfl

/-- The body at a point after the first. -/
theorem body_later (ht : t.val ≠ 0) (go : Buf (Elt F) (arg7.view.loc (c : Thread nD τ))) (fx : Buf (Elt F) (xnM.view.loc (c : Thread nD τ))) (W : Waits sig Unit)
    (Q : PUnit → sProp 𝕄) :
    iprop((gP c arg1 g1 ∗ gP c arg2 g2 ∗ gP c arg3 g3 ∗ gP c arg6 g6 ∗ oP c arg7 go ∗ xnP c fx ∗ owes (c : Thread nD τ) 0 W ∗ ring c XI XO (11 * t.val))
        ∗ (bodyPost c XI XO t arg1 arg2 arg3 arg6 arg7 g1 g2 g3 g6 -∗ Q ⟨⟩))
      ⊢ wp frame (wpE (defs₀ (F := F)) 𝒱₀ (c : Thread nD τ) none) Set.univ
          (bodyP t arg1 harg1 arg2 harg2 arg3 harg3 arg6 harg6 arg7 harg7) Q := by
  have hc : ¬ Scalar.cmpi .ne (Scalar.extui (Scalar.cmpi .eq (BitVec.ofNat 32 (grid0.coords t 0).val) 0#32) : BitVec 32) 0#32 = 1#1 :=
    fun h => ht ((first_all t).mp h)
  iintro ⟨⟨H1, H2, H3, H6, HO, HX, HW, HR⟩, Hk⟩
  dsimp only [bodyP]
  sl_exec
  sl_for (fun k _ => inv c XI XO t arg7 (xnOf c arg1 arg2 arg3 g1 g2 g3) (oZero c arg7) k) $$ [HO HX HW HR]
  case region => intro k a; exact inv_step c XI XO t arg1 harg1 arg2 harg2 arg3 harg3 arg6 harg6 arg7 harg7 _ k _ _
  · unfold inv
    isplitl [HO]; · iexact HO
    isplitl [HX]; · iexact HX
    isplitl [HW]; · iexists _; iexact HW
    iexact HR
  iintro %a HI
  unfold inv
  icases HI with ⟨HO, HX, HW, HR⟩
  sl_exec
  sl_step
  iapply Hk
  unfold bodyPost
  isplitl [H1]; · iexact H1
  isplitl [H2]; · iexact H2
  isplitl [H3]; · iexact H3
  isplitl [H6]; · iexact H6
  isplitl [HO]; · iexact HO
  isplitl [HX]; · iexists _; iexact HX
  isplitl [HW]; · iexact HW
  iexact HR

set_option backward.proofsInPublic true in
/-- The body at the first point, which sends for block 0 itself. -/
theorem body_first (ht : t.val = 0) (go : Buf (Elt F) (arg7.view.loc (c : Thread nD τ))) (fx : Buf (Elt F) (xnM.view.loc (c : Thread nD τ))) (W : Waits sig Unit)
    (Q : PUnit → sProp 𝕄) :
    iprop((gP c arg1 g1 ∗ gP c arg2 g2 ∗ gP c arg3 g3 ∗ gP c arg6 g6 ∗ oP c arg7 go ∗ xnP c fx ∗ owes (c : Thread nD τ) 0 W ∗ idle c XI XO 0 1)
        ∗ (bodyPost c XI XO t arg1 arg2 arg3 arg6 arg7 g1 g2 g3 g6 -∗ Q ⟨⟩))
      ⊢ wp frame (wpE (defs₀ (F := F)) 𝒱₀ (c : Thread nD τ) none) Set.univ
          (bodyP t arg1 harg1 arg2 harg2 arg3 harg3 arg6 harg6 arg7 harg7) Q := by
  have hc : Scalar.cmpi .ne (Scalar.extui (Scalar.cmpi .eq (BitVec.ofNat 32 (grid0.coords t 0).val) 0#32) : BitVec 32) 0#32 = 1#1 :=
    (first_all t).mpr ht
  unfold idle
  rw [homes_one (wiP c XI) 0, homes_one (woP c XO) 0]
  iintro ⟨⟨H1, H2, H3, H6, HO, HX, HW, ⟨%f0, HI⟩, ⟨%f1, HU⟩, HC0, HC1, HI', HU', HC0', HC1', ⟨Hwi, Hwir⟩, ⟨Hwo, Hwor⟩⟩, Hk⟩
  dsimp only [bodyP]
  sl_exec
  sl_for (fun k _ => inv c XI XO t arg7 (xnOf c arg1 arg2 arg3 g1 g2 g3) (oZero c arg7) k) $$ [HO HX HW HC0 HC1 HI' HU' HC0' HC1' Hwir Hwor]
  case region => intro k a; exact inv_step c XI XO t arg1 harg1 arg2 harg2 arg3 harg3 arg6 harg6 arg7 harg7 _ k _ _
  · unfold inv
    isplitl [HO]; · iexact HO
    isplitl [HX]; · iexact HX
    isplitl [HW]; · iexists _; iexact HW
    iapply (entails_of_eq (ring_first c XI XO t ht).symm)
    unfold busy
    isplitl [HC0]; · iexists f0; iexact HC0
    isplitl [HC1]; · iexists f1; iexact HC1
    isplitl [HI']; · iexact HI'
    isplitl [HU']; · iexact HU'
    isplitl [HC0']; · iexact HC0'
    isplitl [HC1']; · iexact HC1'
    isplitl [Hwir]; · iexact Hwir
    iexact Hwor
  iintro %a HI
  unfold inv
  icases HI with ⟨HO, HX, HW, HR⟩
  sl_exec
  sl_step
  iapply Hk
  unfold bodyPost
  isplitl [H1]; · iexact H1
  isplitl [H2]; · iexact H2
  isplitl [H3]; · iexact H3
  isplitl [H6]; · iexact H6
  isplitl [HO]; · iexact HO
  isplitl [HX]; · iexists _; iexact HX
  isplitl [HW]; · iexact HW
  iexact HR

end Run

end Cert.Proof.Ffn

end
-- ==== Proof.Ffn.Frame.lean ====
/-
  The feed-forward kernel's launch: how the arrays of weights, the slots and the cells come apart into
  the pieces the body holds, what is held between two grid points, and what every run leaves.
-/
module

public import proofs.«01_k».proof.Proof.Ffn.Body

@[expose] public section

set_option maxRecDepth 16384

noncomputable section

namespace Cert.Proof.Ffn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

/-! ## Arrays in blocks, buffers in slots -/

abbrev wiSet (b : Fin 11) : Finset S11x2048x1024.Idx := (Rect.unit (s := S11x2048x1024) (slab b.val) S1x2048x1024.size (wi_inb b)).set
abbrev woSet (b : Fin 11) : Finset S11x512x2048.Idx := (Rect.unit (s := S11x512x2048) (slab b.val) S1x512x2048.size (wo_inb b)).set
abbrev inSet (s : Fin 2) : Finset S2x2048x1024.Idx := (Rect.unit (s := S2x2048x1024) (slab s.val) S1x2048x1024.size (in_inb s)).set
abbrev ouSet (s : Fin 2) : Finset S2x512x2048.Idx := (Rect.unit (s := S2x512x2048) (slab s.val) S1x512x2048.size (ou_inb s)).set

theorem wiB_set (b : Fin 11) : (wiB b).view.set = wiSet b := (View.set_reshape _ _).trans (View.set_slice_whole _ _)
theorem woB_set (b : Fin 11) : (woB b).view.set = woSet b := (View.set_reshape _ _).trans (View.set_slice_whole _ _)
theorem inS_set (s : Fin 2) : (inS s).view.set = inSet s := (View.set_reshape _ _).trans (View.set_slice_whole _ _)
theorem ouS_set (s : Fin 2) : (ouS s).view.set = ouSet s := (View.set_reshape _ _).trans (View.set_slice_whole _ _)

/-- Off the leading axis a slab's offset is zero. -/
theorem slab_rest (n : ℕ) (a : Fin 3) (h : a ≠ 0) : slab n a = 0 := by
  match a with
  | 0 => exact absurd rfl h
  | 1 => rfl
  | 2 => rfl

theorem wi_disj : ∀ b b', b ≠ b' → Disjoint (wiSet b) (wiSet b') :=
  Ring.lead_disjoint (s := S11x2048x1024) 0 1 (fun b : Fin 11 => slab b.val) S1x2048x1024.size wi_inb (fun b => (Nat.one_mul b.val).symm) rfl
theorem wo_disj : ∀ b b', b ≠ b' → Disjoint (woSet b) (woSet b') :=
  Ring.lead_disjoint (s := S11x512x2048) 0 1 (fun b : Fin 11 => slab b.val) S1x512x2048.size wo_inb (fun b => (Nat.one_mul b.val).symm) rfl
theorem in_disj : ∀ b b', b ≠ b' → Disjoint (inSet b) (inSet b') :=
  Ring.lead_disjoint (s := S2x2048x1024) 0 1 (fun b : Fin 2 => slab b.val) S1x2048x1024.size in_inb (fun b => (Nat.one_mul b.val).symm) rfl
theorem ou_disj : ∀ b b', b ≠ b' → Disjoint (ouSet b) (ouSet b') :=
  Ring.lead_disjoint (s := S2x512x2048) 0 1 (fun b : Fin 2 => slab b.val) S1x512x2048.size ou_inb (fun b => (Nat.one_mul b.val).symm) rfl
theorem wi_cover : Finset.univ.biUnion wiSet = Finset.univ :=
  Ring.lead_cover (s := S11x2048x1024) 0 1 (fun b : Fin 11 => slab b.val) S1x2048x1024.size wi_inb (fun b => (Nat.one_mul b.val).symm) (fun b => slab_rest b.val) rfl (by decide) rfl
theorem wo_cover : Finset.univ.biUnion woSet = Finset.univ :=
  Ring.lead_cover (s := S11x512x2048) 0 1 (fun b : Fin 11 => slab b.val) S1x512x2048.size wo_inb (fun b => (Nat.one_mul b.val).symm) (fun b => slab_rest b.val) rfl (by decide) rfl
theorem in_cover : Finset.univ.biUnion inSet = Finset.univ :=
  Ring.lead_cover (s := S2x2048x1024) 0 1 (fun b : Fin 2 => slab b.val) S1x2048x1024.size in_inb (fun b => (Nat.one_mul b.val).symm) (fun b => slab_rest b.val) rfl (by decide) rfl
theorem ou_cover : Finset.univ.biUnion ouSet = Finset.univ :=
  Ring.lead_cover (s := S2x512x2048) 0 1 (fun b : Fin 2 => slab b.val) S1x512x2048.size ou_inb (fun b => (Nat.one_mul b.val).symm) (fun b => slab_rest b.val) rfl (by decide) rfl

section Split
variable (c : Dev nD) (XI : Buf (Elt F) (wiM.view.loc (c : Thread nD τ))) (XO : Buf (Elt F) (woM.view.loc (c : Thread nD τ)))

/-- The input weights whole are their eleven blocks. -/
theorem wi_eq : (((c : Thread nD τ).loc main_v3) ↦{fullShare} XI : sProp 𝕄) = bigSep Finset.univ (wiP c XI) := by
  rw [Ring.pointsTo_blocks (ℓ := (c : Thread nD τ).loc main_v3) wiSet wi_disj wi_cover]
  exact bigSep_congr fun b _ => by rw [← wiB_set]; rfl
/-- The output weights whole are their eleven blocks. -/
theorem wo_eq : (((c : Thread nD τ).loc main_v7) ↦{fullShare} XO : sProp 𝕄) = bigSep Finset.univ (woP c XO) := by
  rw [Ring.pointsTo_blocks (ℓ := (c : Thread nD τ).loc main_v7) woSet wo_disj wo_cover]
  exact bigSep_congr fun b _ => by rw [← woB_set]; rfl

theorem inP_eq (s : Fin 2) (f) : inP c s f = (((c : Thread nD τ).loc cc0_scratch1) ↦[inSet s]{fullShare} f : sProp 𝕄) :=
  congrArg (fun S => (_ ↦[S]{fullShare} f : sProp 𝕄)) (inS_set s)
theorem ouP_eq (s : Fin 2) (f) : ouP c s f = (((c : Thread nD τ).loc cc0_scratch2) ↦[ouSet s]{fullShare} f : sProp 𝕄) :=
  congrArg (fun S => (_ ↦[S]{fullShare} f : sProp 𝕄)) (ouS_set s)

/-- Two pieces. -/
theorem two_pieces (Φ : Fin 2 → sProp 𝕄) : bigSep Finset.univ Φ = iprop(Φ 0 ∗ Φ 1) :=
  bigSep_univ_eq_bigSepL [(0 : Fin 2), (1 : Fin 2)] (by decide) (by decide) Φ

/-- A ring's buffer comes apart into its slots, and together again. -/
theorem in_split : iprop(∃ f : Buf (Elt F) ((c : Thread nD τ).loc cc0_scratch1), ((c : Thread nD τ).loc cc0_scratch1) ↦{fullShare} f)
    ⊢ (iprop((∃ f, inP c 0 f) ∗ ∃ f, inP c 1 f) : sProp 𝕄) := by
  simp only [inP_eq]
  iintro ⟨%f, H⟩
  ihave H2 := (entails_of_eq ((Ring.pointsTo_blocks (Ix := Unit) (Name := ℕ) (U := UU nD τ) (Lvl := ℕ) (q := fullShare) (ℓ := (c : Thread nD τ).loc cc0_scratch1) inSet in_disj in_cover f).trans (two_pieces _))) $$ H
  icases H2 with ⟨H0, H1⟩
  isplitl [H0]; · iexists f; iexact H0
  iexists f; iexact H1
theorem in_join : iprop((∃ f, inP c 0 f) ∗ ∃ f, inP c 1 f)
    ⊢ (iprop(∃ f : Buf (Elt F) ((c : Thread nD τ).loc cc0_scratch1), ((c : Thread nD τ).loc cc0_scratch1) ↦{fullShare} f) : sProp 𝕄) := by
  simp only [inP_eq]
  iintro ⟨⟨%f0, H0⟩, H1⟩
  iapply (Ring.pointsTo_blocks_join_exists (ℓ := (c : Thread nD τ).loc cc0_scratch1) inSet in_disj in_cover f0)
  irw [two_pieces]
  isplitl [H0]; · iexists f0; iexact H0
  iexact H1
theorem ou_split : iprop(∃ f : Buf (Elt F) ((c : Thread nD τ).loc cc0_scratch2), ((c : Thread nD τ).loc cc0_scratch2) ↦{fullShare} f)
    ⊢ (iprop((∃ f, ouP c 0 f) ∗ ∃ f, ouP c 1 f) : sProp 𝕄) := by
  simp only [ouP_eq]
  iintro ⟨%f, H⟩
  ihave H2 := (entails_of_eq ((Ring.pointsTo_blocks (Ix := Unit) (Name := ℕ) (U := UU nD τ) (Lvl := ℕ) (q := fullShare) (ℓ := (c : Thread nD τ).loc cc0_scratch2) ouSet ou_disj ou_cover f).trans (two_pieces _))) $$ H
  icases H2 with ⟨H0, H1⟩
  isplitl [H0]; · iexists f; iexact H0
  iexists f; iexact H1
theorem ou_join : iprop((∃ f, ouP c 0 f) ∗ ∃ f, ouP c 1 f)
    ⊢ (iprop(∃ f : Buf (Elt F) ((c : Thread nD τ).loc cc0_scratch2), ((c : Thread nD τ).loc cc0_scratch2) ↦{fullShare} f) : sProp 𝕄) := by
  simp only [ouP_eq]
  iintro ⟨⟨%f0, H0⟩, H1⟩
  iapply (Ring.pointsTo_blocks_join_exists (ℓ := (c : Thread nD τ).loc cc0_scratch2) ouSet ou_disj ou_cover f0)
  irw [two_pieces]
  isplitl [H0]; · iexists f0; iexact H0
  iexact H1

end Split

/-! ## The kernel's own cells -/

/-- The four cells, row by row. -/
def osem (k : Fin 2 × Fin 2) : SemLoc sig := SemLoc.dma (sem k.1 k.2).sem

theorem ownSemFacts : Pipeline.OwnSemFacts spec0 osem := by decide

theorem ownSems0_eq (c : Dev nD) : (Pipeline.ownSems0 (Ix := Unit) (Name := ℕ) (U := UU nD τ) (Lvl := ℕ) (Val := Elt F) (τ := τ) osem c : sProp 𝕄)
    = iprop(cellP c 0 0 ∗ cellP c 1 0 ∗ cellP c 0 1 ∗ cellP c 1 1) :=
  bigSep_univ_eq_bigSepL [((0 : Fin 2), (0 : Fin 2)), (1, 0), (0, 1), (1, 1)] (by decide) (by decide) _

/-! ## What is held between grid points -/

section Launch
variable (m : (ℓ : Loc nD τ sig) → Buf (Elt F) ℓ) (ρ : Dev nD → PrngReg)

/-- The weights as the region finds them. -/
abbrev xi (c : Dev nD) : Buf (Elt F) (wiM.view.loc (c : Thread nD τ)) := V m c main_v3
abbrev xo (c : Dev nD) : Buf (Elt F) (woM.view.loc (c : Thread nD τ)) := V m c main_v7

/-- The ring before grid point `n`: at first nothing is under way. -/
def ringAt (c : Dev nD) (n : ℕ) : sProp 𝕄 := if n = 0 then idle c (xi m c) (xo m c) 0 1 else ring c (xi m c) (xo m c) (11 * n)

def Φ (c : Dev nD) (n : ℕ) : sProp 𝕄 := iprop((∃ r, prngReg c r) ∗ (∃ fx, xnP c fx) ∗ ringAt m c n)

theorem ringAt_zero (c : Dev nD) : ringAt m c 0 = idle c (xi m c) (xo m c) 0 1 := if_pos rfl
theorem ringAt_later (c : Dev nD) {n : ℕ} (h : n ≠ 0) : ringAt m c n = ring c (xi m c) (xo m c) (11 * n) := if_neg h
theorem ringAt_end (c : Dev nD) : ringAt m c 32 = idle c (xi m c) (xo m c) 0 1 := by
  unfold ringAt ring
  rw [if_neg (by omega), if_neg (by omega)]
  rfl
theorem ringAt_next (c : Dev nD) (n : ℕ) : ring c (xi m c) (xo m c) (11 * n + k0_t1_loop.trips) = ringAt m c (n + 1) := by
  unfold ringAt
  rw [if_neg (by omega), trips_eq, Nat.mul_add]

/-! ## The staged blocks -/

abbrev hst0 (t : Fin cfg0.N) : (st0_0 t).IsWhole := hstage0_0 ((cfg0.slots t 0).cast nbuf0_0)
abbrev hst1 (t : Fin cfg0.N) : (st0_1 t).IsWhole := hstage0_1 ((cfg0.slots t 1).cast nbuf0_1)
abbrev hst2 (t : Fin cfg0.N) : (st0_2 t).IsWhole := hstage0_2 ((cfg0.slots t 2).cast nbuf0_2)
abbrev hst3 (t : Fin cfg0.N) : (st0_3 t).IsWhole := hstage0_3 ((cfg0.slots t 3).cast nbuf0_3)
abbrev hst4 (t : Fin cfg0.N) : (st0_4 t).IsWhole := hstage0_4 ((cfg0.slots t 4).cast nbuf0_4)

/-- The output block's buffer as point `t` leaves it. -/
def outBuf (c : Dev nD) (t : Fin cfg0.N) : Buf (Elt F) ((st0_4 t).view.loc (c : Thread nD τ)) :=
  outOf c (xi m c) (xo m c) t (st0_0 t) (st0_1 t) (st0_2 t) (st0_3 t) (st0_4 t)
    ((st0_0 t).view.rep (iblk m c 0 t)) ((st0_1 t).view.rep (iblk m c 1 t)) ((st0_2 t).view.rep (iblk m c 2 t)) ((st0_3 t).view.rep (iblk m c 3 t))
def outAt (c : Dev nD) (t : Fin cfg0.N) : (cfg0.win 4).block.Idx → Elt F (cfg0.win 4).elt := (st0_4 t).view.read (Elt F) (outBuf m c t)

def dats (_ : Fin 1) (c : Dev nD) : Dat τ (Elt F) Unit ℕ (UU nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ t := Φ m c t.val
  q _ := fullShare
  owed _ := 0

theorem before_w0 (c : Dev nD) (t : Fin cfg0.N) (d) : (dats m 0 c).before 0 t d = iblk m c 0 t :=
  ((dats m 0 c).before_in_eq_fetched 0 rfl (fun _ => rfl) (fun _ _ _ => rfl) (fun _ => rfl) t d).trans rfl
theorem before_w1 (c : Dev nD) (t : Fin cfg0.N) (d) : (dats m 0 c).before 1 t d = iblk m c 1 t :=
  ((dats m 0 c).before_in_eq_fetched 1 rfl (fun _ => rfl) (fun _ _ _ => rfl) (fun _ => rfl) t d).trans rfl
theorem before_w2 (c : Dev nD) (t : Fin cfg0.N) (d) : (dats m 0 c).before 2 t d = iblk m c 2 t :=
  ((dats m 0 c).before_in_eq_fetched 2 rfl (fun _ => rfl) (fun _ _ _ => rfl) (fun _ => rfl) t d).trans rfl
theorem before_w3 (c : Dev nD) (t : Fin cfg0.N) (d) : (dats m 0 c).before 3 t d = iblk m c 3 t :=
  ((dats m 0 c).before_in_eq_fetched 3 rfl (fun _ => rfl) (fun _ _ _ => rfl) (fun _ => rfl) t d).trans rfl
theorem after_w0 (c : Dev nD) (t : Fin cfg0.N) : (dats m 0 c).after 0 t = iblk m c 0 t := rfl
theorem after_w1 (c : Dev nD) (t : Fin cfg0.N) : (dats m 0 c).after 1 t = iblk m c 1 t := rfl
theorem after_w2 (c : Dev nD) (t : Fin cfg0.N) : (dats m 0 c).after 2 t = iblk m c 2 t := rfl
theorem after_w3 (c : Dev nD) (t : Fin cfg0.N) : (dats m 0 c).after 3 t = iblk m c 3 t := rfl
theorem after_w4 (c : Dev nD) (t : Fin cfg0.N) : (dats m 0 c).after 4 t = outAt m c t := rfl

/-! ## The body obligation -/

theorem defs_tc : (defs₀ (F := F)) .tc cfg0.body
    = fun a => bodyP (F := F) a.1 (win0_0.stage (a.2 0)) (hstage0_0 ((a.2 0).cast nbuf0_0)) (win0_1.stage (a.2 1)) (hstage0_1 ((a.2 1).cast nbuf0_1))
        (win0_2.stage (a.2 2)) (hstage0_2 ((a.2 2).cast nbuf0_2)) (win0_3.stage (a.2 3)) (hstage0_3 ((a.2 3).cast nbuf0_3))
        (win0_4.stage (a.2 4)) (hstage0_4 ((a.2 4).cast nbuf0_4)) := rfl
theorem prog_eq (t : Fin cfg0.N) : (defs₀ (F := F)) .tc cfg0.body (cfg0.bodyArgs t (cfg0.slots t))
    = bodyP (F := F) t (st0_0 t) (hst0 t) (st0_1 t) (hst1 t) (st0_2 t) (hst2 t) (st0_3 t) (hst3 t) (st0_4 t) (hst4 t) :=
  (congrFun defs_tc _).trans rfl

/-- The body at any point, from the ring before it. -/
theorem body_run (c : Dev nD) (t : Fin cfg0.N) (go : Buf (Elt F) ((st0_4 t).view.loc (c : Thread nD τ))) (fx : Buf (Elt F) (xnM.view.loc (c : Thread nD τ)))
    (W : Waits sig Unit) (g0 : Buf (Elt F) ((st0_0 t).view.loc (c : Thread nD τ))) (g1 : Buf (Elt F) ((st0_1 t).view.loc (c : Thread nD τ)))
    (g2 : Buf (Elt F) ((st0_2 t).view.loc (c : Thread nD τ))) (g3 : Buf (Elt F) ((st0_3 t).view.loc (c : Thread nD τ))) (Q : PUnit → sProp 𝕄) :
    iprop((gP c (st0_0 t) g0 ∗ gP c (st0_1 t) g1 ∗ gP c (st0_2 t) g2 ∗ gP c (st0_3 t) g3 ∗ oP c (st0_4 t) go ∗ xnP c fx ∗ owes (c : Thread nD τ) 0 W
          ∗ ringAt m c t.val)
        ∗ (bodyPost c (xi m c) (xo m c) t (st0_0 t) (st0_1 t) (st0_2 t) (st0_3 t) (st0_4 t) g0 g1 g2 g3 -∗ Q ⟨⟩))
      ⊢ wp frame (wpE (defs₀ (F := F)) 𝒱₀ (c : Thread nD τ) none) Set.univ
          (bodyP t (st0_0 t) (hst0 t) (st0_1 t) (hst1 t) (st0_2 t) (hst2 t) (st0_3 t) (hst3 t) (st0_4 t) (hst4 t)) Q := by
  by_cases ht : t.val = 0
  · rw [ht, ringAt_zero]
    exact body_first c (xi m c) (xo m c) t (st0_0 t) (hst0 t) (st0_1 t) (hst1 t) (st0_2 t) (hst2 t) (st0_3 t) (hst3 t) (st0_4 t) (hst4 t) g0 g1 g2 g3 ht go fx W Q
  · rw [ringAt_later m c ht]
    exact body_later c (xi m c) (xo m c) t (st0_0 t) (hst0 t) (st0_1 t) (hst1 t) (st0_2 t) (hst2 t) (st0_3 t) (hst3 t) (st0_4 t) (hst4 t) g0 g1 g2 g3 ht go fx W Q

set_option backward.isDefEq.respectTransparency.types false in
theorem body_obligation (c : Dev nD) : BodyObligation (dats m 0 c) (defs₀ (F := F)) 𝒱₀ () Set.univ := fun t => by
  rw [bigSep_W0, bigSep_W0]
  dsimp only
  simp only [before_w0, before_w1, before_w2, before_w3, after_w0, after_w1, after_w2, after_w3, after_w4]
  rw [show (dats m 0 c).Φ t.castSucc = Φ m c t.val from rfl, show (dats m 0 c).Φ t.succ = Φ m c (t.val + 1) from rfl]
  unfold Dat.owesAt Pipeline.owesWithin
  rw [show (dats m 0 c).owed t.castSucc = 0 from rfl, show (dats m 0 c).owed t.succ = 0 from rfl]
  unfold owns Φ
  iintro ⟨⟨Hr, ⟨%fx, Hx⟩, HR⟩, ⟨%W, -, HW⟩, ⟨%d0, %g0, %h0, H0⟩, ⟨%d1, %g1, %h1, H1⟩, ⟨%d2, %g2, %h2, H2⟩, ⟨%d3, %g3, %h3, H3⟩, ⟨%d4, %go, -, HO⟩⟩
  ihave H0' := (pointsTo_rep_entails (c : Thread nD τ) (st0_0 t) g0 fullShare) $$ H0
  ihave H1' := (pointsTo_rep_entails (c : Thread nD τ) (st0_1 t) g1 fullShare) $$ H1
  ihave H2' := (pointsTo_rep_entails (c : Thread nD τ) (st0_2 t) g2 fullShare) $$ H2
  ihave H3' := (pointsTo_rep_entails (c : Thread nD τ) (st0_3 t) g3 fullShare) $$ H3
  rw [h0, h1, h2, h3]
  sl_rw [prog_eq t]
  iapply (body_run m c t go fx W)
  isplitl [H0' H1' H2' H3' HO Hx HW HR]
  · isplitl [H0']; · iexact H0'
    isplitl [H1']; · iexact H1'
    isplitl [H2']; · iexact H2'
    isplitl [H3']; · iexact H3'
    isplitl [HO]; · iexact HO
    isplitl [Hx]; · iexact Hx
    isplitl [HW]; · iexact HW
    iexact HR
  · unfold bodyPost
    iintro ⟨H0, H1, H2, H3, HO, Hx, ⟨%W', HW⟩, HR⟩
    isplitl [Hr Hx HR]
    · isplitl [Hr]; · iexact Hr
      isplitl [Hx]; · iexact Hx
      iapply (entails_of_eq (ringAt_next m c t.val)); iexact HR
    isplitl [HW]
    · iexists W'; isplitr; · ipureintro; exact fun _ _ => Or.inl trivial
      iexact HW
    isplitl [H0]
    · iexists _; isplitr; · ipureintro; exact View.read_rep _ _
      iexact H0
    isplitl [H1]
    · iexists _; isplitr; · ipureintro; exact View.read_rep _ _
      iexact H1
    isplitl [H2]
    · iexists _; isplitr; · ipureintro; exact View.read_rep _ _
      iexact H2
    isplitl [H3]
    · iexists _; isplitr; · ipureintro; exact View.read_rep _ _
      iexact H3
    iexists _; isplitr; · ipureintro; rfl
    iexact HO

/-! ## The run -/

/-- The weights are the arrays the kernel reads itself. -/
def held : Finset (Ref sig .tc) := {main_v3, main_v7}

theorem held_eq (c : Dev nD) :
    bigSep held (fun b => (((c : Thread nD τ).loc b) ↦{fullShare} V m c b : sProp 𝕄))
      = iprop(bigSep Finset.univ (wiP c (xi m c)) ∗ bigSep Finset.univ (woP c (xo m c))) := by
  rw [← wi_eq, ← wo_eq]
  unfold held
  rw [bigSep_insert (by decide), bigSep_singleton]
  rfl

theorem into_Φ (c : Dev nD) : Pipeline.ΦD osem spec0 held (V m) c ⊢ (Φ m c 0 : sProp 𝕄) := by
  rw [Pipeline.ΦD_eq, scopedRest0_eq, ownSems0_eq, held_eq]
  unfold Φ
  rw [ringAt_zero]
  unfold idle
  iintro ⟨⟨Hx, Hi, Ho⟩, Hr, ⟨Hc0, Hc1, Hc2, Hc3⟩, Hwi, Hwo⟩
  ihave Hi' := (in_split c) $$ Hi
  icases Hi' with ⟨Hi0, Hi1⟩
  ihave Ho' := (ou_split c) $$ Ho
  icases Ho' with ⟨Ho0, Ho1⟩
  isplitl [Hr]; · iexact Hr
  isplitl [Hx]; · iexact Hx
  isplitl [Hi0]; · iexact Hi0
  isplitl [Ho0]; · iexact Ho0
  isplitl [Hc0]; · iexact Hc0
  isplitl [Hc1]; · iexact Hc1
  isplitl [Hi1]; · iexact Hi1
  isplitl [Ho1]; · iexact Ho1
  isplitl [Hc2]; · iexact Hc2
  isplitl [Hc3]; · iexact Hc3
  isplitl [Hwi]; · iexact Hwi
  iexact Hwo
theorem out_Φ (c : Dev nD) : (Φ m c 32 : sProp 𝕄) ⊢ Pipeline.ΦD osem spec0 held (V m) c := by
  rw [Pipeline.ΦD_eq, scopedRest0_eq, ownSems0_eq, held_eq]
  unfold Φ
  rw [ringAt_end]
  unfold idle
  iintro ⟨Hr, Hx, Hi0, Ho0, Hc0, Hc1, Hi1, Ho1, Hc2, Hc3, Hwi, Hwo⟩
  isplitl [Hx Hi0 Hi1 Ho0 Ho1]
  · isplitl [Hx]; · iexact Hx
    isplitl [Hi0 Hi1]
    · iapply (in_join c)
      isplitl [Hi0]; · iexact Hi0
      iexact Hi1
    iapply (ou_join c)
    isplitl [Ho0]; · iexact Ho0
    iexact Ho1
  isplitl [Hr]; · iexact Hr
  isplitl [Hc0 Hc1 Hc2 Hc3]
  · isplitl [Hc0]; · iexact Hc0
    isplitl [Hc1]; · iexact Hc1
    isplitl [Hc2]; · iexact Hc2
    iexact Hc3
  isplitl [Hwi]; · iexact Hwi
  iexact Hwo

/-- @main up to its region. -/
theorem main_to : Pipeline.HMain (Ix := Unit) (Name := ℕ) (U := UU nD τ) (Lvl := ℕ) cfgs 0 defs₀ 𝒱₀ m (main (F := F)) (V m) :=
  Pipeline.hmain_prefix cfgs 0 defs₀ 𝒱₀ m main hostOps0 hostOps0_sub hostOps0_fresh main_chain

/-- What every run leaves: the arguments as they were, and the result array as the proof data says. -/
def Post (r : PUnit × MemSt nD τ sig (Elt F)) : Prop :=
  (∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5))
  ∧ ∀ c : Dev nD, r.2.mem ((c.tc : Thread nD τ).loc main_v9) = (dats m 0 c).arrAt 4 cfg0.N

theorem post_of (r : PUnit × MemSt nD τ sig (Elt F)) (h : Pipeline.FramePost cfgs (dats m) 0 (V m) r) : Post m r :=
  ⟨fun c => ⟨((h c).2 main_arg0 (Pipeline.mem_restRefs_of main_arg0 (by decide) (by decide))).trans (V_main_arg0 m c),
    ((h c).1 1).trans (((dats m 0 c).arrAt_in 1 rfl _).trans (V_main_arg1 m c)),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c)⟩,
   fun c => (h c).1 4⟩

set_option backward.isDefEq.respectTransparency.types false in
/-- Every run of the kernel terminates, leaving `Post` and every semaphore at zero. -/
theorem run_main : θ_run defs (onTc (τ := τ) (main (F := F))) (s₀ m ρ) (fun r => Post m r ∧ r.2.sem = fun _ => 0) :=
  (θ_run defs _ _).mono (fun r h => ⟨post_of m r h.1, h.2⟩)
    (Pipeline.θ_run_frame_dma cfgs (dats m) 0 launch0 osem defs₀ 𝒱₀ ownSemFacts held (by decide) m ρ main
      (fun c => (body_obligation m c).loose) (fun c => (dats m 0 c).share_full fun _ => rfl) (fun _ _ => rfl) (V m) (main_to m) (fun _ _ => rfl)
      (fun c => into_Φ m c) (fun c => out_Φ m c)
      (fun r => Pipeline.FramePost cfgs (dats m) 0 (V m) r ∧ r.2.sem = fun _ => 0) (fun _ h => h))

end Launch

end Cert.Proof.Ffn

end
-- ==== Proof.Ffn.Blocks.lean ====
module

public import proofs.«01_k».proof.Proof.Ffn.Frame
public import Idealize.ShloMosaic.Lib.StableHlo.ReadAt
public import Idealize.ShloMosaic.Lib.Pointwise
public import Idealize.ShloMosaic.Lib.VecWindow
public import Idealize.ShloMosaic.Lib.ValueLayout

/-!
# What the feed-forward kernel reads

Grid point `t` works on rows `512 t …` of the 16384, all of batch entry `t / 16`. The host packs the input weights by
blocks of 512 gate columns followed by the matching 512 of the other half.
-/

@[expose] public section

set_option maxRecDepth 16384

noncomputable section

namespace Cert.Ffn

open Cert.Kernel2Ideal Cert.Kernel2Ideal.Gen Cert.Proof.Ffn
open Idealize.ShloMosaic Idealize.ShloMosaic.TcCoe Idealize.ShloMosaic.Tactic
open Idealize.SL Idealize.SL.Sem

variable (m : (ℓ : Loc nD τ sig) → Buf (Elt Ideal) ℓ) (c : Dev nD)

/-- The step's arguments on a device. -/
abbrev arg0 : FVec Ideal S2x8192x2048 .f32 := m ((c : Thread nD τ).loc main_arg0)
@[inherit_doc arg0] abbrev arg1 : FVec Ideal S2x3x2048 .f32 := m ((c : Thread nD τ).loc main_arg1)
@[inherit_doc arg0] abbrev arg2 : FVec Ideal S2048 .f32 := m ((c : Thread nD τ).loc main_arg2)
@[inherit_doc arg0] abbrev arg3 : FVec Ideal S2048x11264 .f32 := m ((c : Thread nD τ).loc main_arg3)
@[inherit_doc arg0] abbrev arg4 : FVec Ideal S5632x2048 .f32 := m ((c : Thread nD τ).loc main_arg4)
@[inherit_doc arg0] abbrev arg5 : FVec Ideal S2048 .f32 := m ((c : Thread nD τ).loc main_arg5)

/-! ## What the host lays out -/

theorem V_v5 (i : Fin 16384) (e : Fin 2048) :
    (V m c main_v5 : Vec Ideal S16384x2048 .f32) (ix2 i e)
      = arg0 m c (ix3 ⟨i.val / 8192, by omega⟩ ⟨i.val % 8192, by omega⟩ e) := by
  after_reads_at

theorem V_v6 (e : Fin 2048) : (V m c main_v6 : Vec Ideal S1x2048 .f32) (ix2 0 e) = arg2 m c (ix1 e) := by
  after_reads_at

theorem V_v8 (e : Fin 2048) : (V m c main_v8 : Vec Ideal S1x2048 .f32) (ix2 0 e) = arg5 m c (ix1 e) := by
  after_reads_at

theorem V_v7 (k : Fin 11) (j : Fin 512) (e : Fin 2048) :
    (V m c main_v7 : Vec Ideal S11x512x2048 .bf16) (ix3 k j e) = arg4 m c (ix2 ⟨k.val * 512 + j.val, by omega⟩ e) := by
  after_reads_at

theorem V_v3 (k : Fin 11) (i : Fin 2048) (j : Fin 1024) :
    (V m c main_v3 : Vec Ideal S11x2048x1024 .bf16) (ix3 k i j)
      = arg3 m c (ix2 i ⟨j.val / 512 * 5632 + k.val * 512 + j.val % 512, by omega⟩) := by
  after_reads_at

/-! ## The staged blocks -/

theorem index_x : ∀ t : Fin grid0.N, win0_0.index t (0 : Fin 2) = t.val ∧ win0_0.index t (1 : Fin 2) = 0 := by decide +kernel
theorem index_m : ∀ t : Fin grid0.N, win0_1.index t (0 : Fin 3) = t.val / 16 ∧ win0_1.index t (1 : Fin 3) = 0
    ∧ win0_1.index t (2 : Fin 3) = 0 := by decide +kernel
theorem index_g : ∀ t : Fin grid0.N, win0_2.index t (0 : Fin 2) = 0 ∧ win0_2.index t (1 : Fin 2) = 0 := by decide +kernel
theorem index_f : ∀ t : Fin grid0.N, win0_3.index t (0 : Fin 2) = 0 ∧ win0_3.index t (1 : Fin 2) = 0 := by decide +kernel
theorem index_o : ∀ t : Fin grid0.N, win0_4.index t (0 : Fin 2) = t.val ∧ win0_4.index t (1 : Fin 2) = 0 := by decide +kernel

theorem lt_points (t : Fin grid0.N) : t.val < 32 := t.isLt

/-- The batch entry of a grid point, and the place of its row `r` in it. -/
abbrev batchOf (t : Fin grid0.N) : Fin 2 := ⟨t.val / 16, by have := lt_points t; omega⟩
abbrev placeOf (t : Fin grid0.N) (r : Fin 512) : Fin 8192 := ⟨512 * (t.val % 16) + r.val, by omega⟩

theorem blk_x (t : Fin grid0.N) (r : Fin 512) (e : Fin 2048) :
    (iblk m c 0 t : Vec Ideal S512x2048 .f32) (ix2 r e) = arg0 m c (ix3 (batchOf t) (placeOf t r) e) := by
  have ht := lt_points t
  obtain ⟨h0, h1⟩ := index_x t
  have h : (iblk m c 0 t : Vec Ideal S512x2048 .f32) (ix2 r e)
      = (V m c main_v5 : Vec Ideal S16384x2048 .f32) (ix2 ⟨512 * t.val + r.val, by omega⟩ e) := by
    refine congrArg (V m c main_v5 : Vec Ideal S16384x2048 .f32) (funext fun a => Fin.ext ?_)
    match a with
    | ⟨0, _⟩ => show win0_0.index t (0 : Fin 2) * 512 + 1 * r.val = 512 * t.val + r.val; omega
    | ⟨1, _⟩ => show win0_0.index t (1 : Fin 2) * 2048 + 1 * e.val = e.val; omega
  rw [h, V_v5]
  refine congrArg (arg0 m c) ((ix3_inj _ _ _ _ _ _).2 ⟨Fin.ext ?_, Fin.ext ?_, rfl⟩)
  · show (512 * t.val + r.val) / 8192 = t.val / 16; omega
  · show (512 * t.val + r.val) % 8192 = 512 * (t.val % 16) + r.val; omega

theorem blk_m (t : Fin grid0.N) (a : Fin 3) (e : Fin 2048) :
    (iblk m c 1 t : Vec Ideal S1x3x2048 .f32) (ix3 0 a e) = arg1 m c (ix3 (batchOf t) a e) := by
  obtain ⟨h0, h1, h2⟩ := index_m t
  have h : (iblk m c 1 t : Vec Ideal S1x3x2048 .f32) (ix3 0 a e)
      = (V m c main_arg1 : Vec Ideal S2x3x2048 .f32) (ix3 (batchOf t) a e) := by
    refine congrArg (V m c main_arg1 : Vec Ideal S2x3x2048 .f32) (funext fun d => Fin.ext ?_)
    match d with
    | ⟨0, _⟩ => show win0_1.index t (0 : Fin 3) * 1 + 1 * 0 = t.val / 16; omega
    | ⟨1, _⟩ => show win0_1.index t (1 : Fin 3) * 3 + 1 * a.val = a.val; omega
    | ⟨2, _⟩ => show win0_1.index t (2 : Fin 3) * 2048 + 1 * e.val = e.val; omega
  rw [h, V_main_arg1]

theorem blk_g (t : Fin grid0.N) (e : Fin 2048) :
    (iblk m c 2 t : Vec Ideal S1x2048 .f32) (ix2 0 e) = arg2 m c (ix1 e) := by
  obtain ⟨h0, h1⟩ := index_g t
  rw [← V_v6]
  refine congrArg (V m c main_v6 : Vec Ideal S1x2048 .f32) (funext fun a => Fin.ext ?_)
  match a with
  | ⟨0, _⟩ => show win0_2.index t (0 : Fin 2) * 1 + 1 * 0 = 0; omega
  | ⟨1, _⟩ => show win0_2.index t (1 : Fin 2) * 2048 + 1 * e.val = e.val; omega

theorem blk_f (t : Fin grid0.N) (e : Fin 2048) :
    (iblk m c 3 t : Vec Ideal S1x2048 .f32) (ix2 0 e) = arg5 m c (ix1 e) := by
  obtain ⟨h0, h1⟩ := index_f t
  rw [← V_v8]
  refine congrArg (V m c main_v8 : Vec Ideal S1x2048 .f32) (funext fun a => Fin.ext ?_)
  match a with
  | ⟨0, _⟩ => show win0_3.index t (0 : Fin 2) * 1 + 1 * 0 = 0; omega
  | ⟨1, _⟩ => show win0_3.index t (1 : Fin 2) * 2048 + 1 * e.val = e.val; omega

/-! ## The blocks of weights, read from their slots -/

section Slots
variable (XI : Buf (Elt Ideal) (wiM.view.loc (c : Thread nD τ))) (XO : Buf (Elt Ideal) (woM.view.loc (c : Thread nD τ)))

theorem inB_emb (b : Fin 11) (i : Fin 2048) (j : Fin 1024) : (wiB b).view.emb (ix2 i j) = (ix3 b i j : S11x2048x1024.Idx) := by
  show (Rect.unit (s := S11x2048x1024) (slab b.val) S1x2048x1024.size (wi_inb b)).emb (Shape.reshapeEquiv _ (ix2 i j)) = _
  refine (congrArg _ (ValueIdx.reshapeEquiv_ix2_1ab _ i j)).trans (funext fun a => Fin.ext ?_)
  match a with
  | ⟨0, _⟩ => show b.val + 1 * 0 = b.val; omega
  | ⟨1, _⟩ => show 0 + 1 * i.val = i.val; omega
  | ⟨2, _⟩ => show 0 + 1 * j.val = j.val; omega

theorem ouB_emb (b : Fin 11) (i : Fin 512) (j : Fin 2048) : (woB b).view.emb (ix2 i j) = (ix3 b i j : S11x512x2048.Idx) := by
  show (Rect.unit (s := S11x512x2048) (slab b.val) S1x512x2048.size (wo_inb b)).emb (Shape.reshapeEquiv _ (ix2 i j)) = _
  refine (congrArg _ (ValueIdx.reshapeEquiv_ix2_1ab _ i j)).trans (funext fun a => Fin.ext ?_)
  match a with
  | ⟨0, _⟩ => show b.val + 1 * 0 = b.val; omega
  | ⟨1, _⟩ => show 0 + 1 * i.val = i.val; omega
  | ⟨2, _⟩ => show 0 + 1 * j.val = j.val; omega

theorem inS_emb (s : Fin 2) (i : Fin 2048) (j : Fin 1024) : (inS s).view.emb (ix2 i j) = (ix3 s i j : S2x2048x1024.Idx) := by
  show (Rect.unit (s := S2x2048x1024) (slab s.val) S1x2048x1024.size (in_inb s)).emb (Shape.reshapeEquiv _ (ix2 i j)) = _
  refine (congrArg _ (ValueIdx.reshapeEquiv_ix2_1ab _ i j)).trans (funext fun a => Fin.ext ?_)
  match a with
  | ⟨0, _⟩ => show s.val + 1 * 0 = s.val; omega
  | ⟨1, _⟩ => show 0 + 1 * i.val = i.val; omega
  | ⟨2, _⟩ => show 0 + 1 * j.val = j.val; omega

theorem ouS_emb (s : Fin 2) (i : Fin 512) (j : Fin 2048) : (ouS s).view.emb (ix2 i j) = (ix3 s i j : S2x512x2048.Idx) := by
  show (Rect.unit (s := S2x512x2048) (slab s.val) S1x512x2048.size (ou_inb s)).emb (Shape.reshapeEquiv _ (ix2 i j)) = _
  refine (congrArg _ (ValueIdx.reshapeEquiv_ix2_1ab _ i j)).trans (funext fun a => Fin.ext ?_)
  match a with
  | ⟨0, _⟩ => show s.val + 1 * 0 = s.val; omega
  | ⟨1, _⟩ => show 0 + 1 * i.val = i.val; omega
  | ⟨2, _⟩ => show 0 + 1 * j.val = j.val; omega

theorem bk_val (k : Fin k0_t1_loop.trips) : (Ring.bk 11 k.val).val = k.val := by
  have : k.val < 11 := k.isLt
  simp [Ring.bk, Fin.ofNat]; omega

/-- Reading a slot's slab out of both slots is reading the slot. -/
theorem inSlab_at (f : Buf (Elt Ideal) (inM.view.loc (c : Thread nD τ))) (s : Fin 2) (off : Fin 3 → ℕ) (ho : off = slab s.val)
    (inb : ∀ a, off a + S1x2048x1024.size a ≤ S2x2048x1024.size a) (i : Fin 2048) (j : Fin 1024) :
    (View.readAt (Elt Ideal) inM.view (Rect.unit (s := S2x2048x1024) off S1x2048x1024.size inb).toLoadRect f : Vec Ideal S1x2048x1024 .bf16) (ix3 0 i j)
      = ((inS s).view.read (Elt Ideal) f : Vec Ideal S2048x1024 .bf16) (ix2 i j) := by
  subst ho
  refine Eq.trans ?_ (congrArg (f : Vec Ideal S2x2048x1024 .bf16) (inS_emb s i j)).symm
  refine congrArg (f : Vec Ideal S2x2048x1024 .bf16) (funext fun a => Fin.ext ?_)
  match a with
  | ⟨0, _⟩ => show s.val + 1 * 0 = s.val; omega
  | ⟨1, _⟩ => show 0 + 1 * i.val = i.val; omega
  | ⟨2, _⟩ => show 0 + 1 * j.val = j.val; omega

theorem ouSlab_at (f : Buf (Elt Ideal) (ouM.view.loc (c : Thread nD τ))) (s : Fin 2) (off : Fin 3 → ℕ) (ho : off = slab s.val)
    (inb : ∀ a, off a + S1x512x2048.size a ≤ S2x512x2048.size a) (i : Fin 512) (j : Fin 2048) :
    (View.readAt (Elt Ideal) ouM.view (Rect.unit (s := S2x512x2048) off S1x512x2048.size inb).toLoadRect f : Vec Ideal S1x512x2048 .bf16) (ix3 0 i j)
      = ((ouS s).view.read (Elt Ideal) f : Vec Ideal S512x2048 .bf16) (ix2 i j) := by
  subst ho
  refine Eq.trans ?_ (congrArg (f : Vec Ideal S2x512x2048 .bf16) (ouS_emb s i j)).symm
  refine congrArg (f : Vec Ideal S2x512x2048 .bf16) (funext fun a => Fin.ext ?_)
  match a with
  | ⟨0, _⟩ => show s.val + 1 * 0 = s.val; omega
  | ⟨1, _⟩ => show 0 + 1 * i.val = i.val; omega
  | ⟨2, _⟩ => show 0 + 1 * j.val = j.val; omega

/-- Trip `k` reads block `k` of the input weights. -/
theorem inRead_at (t : Fin grid0.N) (k : Fin k0_t1_loop.trips) (i : Fin 2048) (j : Fin 1024) :
    (inRead c XI t k : Vec Ideal S1x2048x1024 .bf16) (ix3 0 i j) = (XI : Vec Ideal S11x2048x1024 .bf16) (ix3 (Ring.bk 11 k.val) i j) :=
  (inSlab_at c _ _ _ (slots_all t k).2.2.2.2.1 _ i j).trans
    ((congrFun (View.read_writes_whole _ _ _) (ix2 i j)).trans (congrArg (XI : Vec Ideal S11x2048x1024 .bf16) (inB_emb (Ring.bk 11 k.val) i j)))

/-- Trip `k` reads block `k` of the output weights. -/
theorem ouRead_at (t : Fin grid0.N) (k : Fin k0_t1_loop.trips) (i : Fin 512) (j : Fin 2048) :
    (ouRead c XO t k : Vec Ideal S1x512x2048 .bf16) (ix3 0 i j) = (XO : Vec Ideal S11x512x2048 .bf16) (ix3 (Ring.bk 11 k.val) i j) :=
  (ouSlab_at c _ _ _ (slots_all t k).2.2.2.2.2 _ i j).trans
    ((congrFun (View.read_writes_whole _ _ _) (ix2 i j)).trans (congrArg (XO : Vec Ideal S11x512x2048 .bf16) (ouB_emb (Ring.bk 11 k.val) i j)))

end Slots

end Cert.Ffn

end

end
-- ==== Proof.Ffn.Spec.lean ====
module

public import Idealize.ShloMosaic.PureOps.Ideal.Laws

/-!
# The feed-forward half-step on one row

What both programs compute, row by row, over the extended reals: the row over its root mean square, the modulated
row, the gated products, and the step followed by the last normalization.
-/

@[expose] public section

noncomputable section

namespace Cert.Ffn

open Idealize.ShloMosaic

/-- The programs' literals: the width of a row, the epsilon of the norms, one half and one. -/
def width : EReal := Ideal.ofBits .f32 0x45000000#32
@[inherit_doc width] def eps : EReal := Ideal.ofBits .f32 0x358637BD#32
@[inherit_doc width] def half : EReal := Ideal.ofBits .f32 0x3F000000#32
@[inherit_doc width] def one : EReal := Ideal.ofBits .f32 0x3F800000#32

/-- A row over its root mean square. -/
def unitRow (v : Fin 2048 → EReal) (e : Fin 2048) : EReal :=
  v e * Ideal.rsqrt (Ideal.div (∑ k, v k * v k) width + eps)

/-- The normalized row, scaled by the gain and modulated. -/
def normed (v gain scale shift : Fin 2048 → EReal) (e : Fin 2048) : EReal :=
  unitRow v e * gain e * (one + scale e) + shift e

/-- The activation of the gate. -/
def silu (a : EReal) : EReal := a * Ideal.div one (one + Ideal.exp (-a))

/-- One gated product: the activated gate times the other half. -/
def gated (v : Fin 2048 → EReal) (gate up : Fin 2048 → EReal) : EReal :=
  silu (∑ k, v k * gate k) * ∑ k, v k * up k

/-- The row after the step, over its root mean square and scaled by the last gain. -/
def stepped (v scale s gain : Fin 2048 → EReal) (e : Fin 2048) : EReal :=
  unitRow (fun k => v k + half * scale k * s k) e * gain e

theorem one_eq : one = 1 := by
  unfold one
  simp [Ideal.ofBits, Ideal.ieee, -EReal.coe_mul]
  try norm_num

theorem exp_nonneg (x : EReal) : 0 ≤ Ideal.exp x := by
  induction x with
  | bot => exact le_refl _
  | coe r => exact EReal.coe_nonneg.2 (Real.exp_pos r).le
  | top => exact le_top

/-- The kernel divides the gate itself; the denominator is at least one. -/
theorem silu_eq (a : EReal) : Ideal.div a (one + Ideal.exp (Ideal.ofBits .f32 0x00000000#32 - a)) = silu a := by
  unfold silu
  rw [Ideal.ofBits_zero_f32, zero_sub, one_eq]
  have h : (1 : EReal) + Ideal.exp (-a) ≠ 0 := by
    have := add_le_add (le_refl (1 : EReal)) (exp_nonneg (-a))
    rw [add_zero] at this
    exact (lt_of_lt_of_le zero_lt_one this).ne'
  unfold Ideal.div
  rw [if_neg h, if_neg h, one_mul]

end Cert.Ffn

end

end
-- ==== Proof.Ffn.Tiles.lean ====
module

public import proofs.«01_k».proof.Proof.Ffn.Spec
public import proofs.«01_k».proof.Proof.Gen.Kernel2Ideal.Skeleton
public import Idealize.ShloMosaic.Lib.Pointwise

/-!
# The feed-forward kernel's operations at an index
-/

@[expose] public section

set_option maxRecDepth 16384

noncomputable section

namespace Cert.Ffn

open Idealize.ShloMosaic Idealize.ShloMosaic.Tactic Cert.Kernel2Ideal Cert.Kernel2Ideal.Gen

/-- The block the kernel keeps: the rows normalized, scaled and modulated. -/
theorem normed_at (x : Vec Ideal S512x2048 .f32) (g : Vec Ideal S1x2048 .f32) (scale shift : Vec Ideal S1x1x2048 .f32) (r : Fin 512) (e : Fin 2048) :
    (k0_pay4 x g scale shift : Vec Ideal S512x2048 .bf16) (ix2 r e)
      = normed (fun k => x (ix2 r k)) (fun k => g (ix2 0 k)) (fun k => scale (ix3 0 0 k)) (fun k => shift (ix3 0 0 k)) e := by
  unfold k0_pay4 normed unitRow one width eps
  pointwise

theorem zero_at (r : Fin 512) (e : Fin 2048) : (k0_pay5 (F := Ideal) : Vec Ideal S512x2048 .f32) (ix2 r e) = 0 := by
  unfold k0_pay5
  pointwise

/-- One trip adds 512 of the gated products, each times its row of the output weights. -/
theorem trip_at (xn : Vec Ideal S512x2048 .bf16) (wi : Vec Ideal S1x2048x1024 .bf16) (o : Vec Ideal S512x2048 .f32) (wo : Vec Ideal S1x512x2048 .bf16)
    (r : Fin 512) (e : Fin 2048) :
    (k0_pay1 xn (k0_pay3 wi) o wo : Vec Ideal S512x2048 .f32) (ix2 r e)
      = o (ix2 r e) + ∑ j : Fin 512, gated (fun k => xn (ix2 r k)) (fun k => wi (ix3 0 k ⟨j.val, by omega⟩))
          (fun k => wi (ix3 0 k ⟨512 + j.val, by omega⟩)) * wo (ix3 0 j e) := by
  unfold gated
  simp only [← silu_eq]
  unfold k0_pay1 k0_pay3 one
  pointwise

/-- The last block: the step's rows over their root mean square, scaled by the last gain. -/
theorem stepped_at (x : Vec Ideal S512x2048 .f32) (scale : Vec Ideal S1x1x2048 .f32) (o : Vec Ideal S512x2048 .f32) (g : Vec Ideal S1x2048 .f32)
    (r : Fin 512) (e : Fin 2048) :
    (k0_pay2 x scale o g : Vec Ideal S512x2048 .f32) (ix2 r e)
      = stepped (fun k => x (ix2 r k)) (fun k => scale (ix3 0 0 k)) (fun k => o (ix2 r k)) (fun k => g (ix2 0 k)) e := by
  unfold k0_pay2 stepped unitRow half width eps
  pointwise

end Cert.Ffn

end

end
-- ==== Proof.Ffn.Reference.lean ====
module

public import proofs.«01_k».proof.Proof.Gen.Reference2Ideal.Read
public import proofs.«01_k».proof.Proof.Ffn.Spec
public import Idealize.ShloMosaic.Lib.Pointwise

/-!
# The reference feed-forward half-step at an index
-/

@[expose] public section

set_option maxRecDepth 16384

noncomputable section

namespace Cert.Ffn

open Idealize.ShloMosaic Idealize.ShloMosaic.Tactic Cert.Reference2Ideal Cert.Reference2Ideal.Read

variable (x0 : FVec Ideal S2x8192x2048 .f32) (x1 : FVec Ideal S2x3x2048 .f32) (x2 : FVec Ideal S2048 .f32)
  (x3 : FVec Ideal S2048x11264 .f32) (x4 : FVec Ideal S5632x2048 .f32) (x5 : FVec Ideal S2048 .f32)

/-- The modulated row `n` of batch entry `b`. -/
def rowIn (b : Fin 2) (n : Fin 8192) : Fin 2048 → EReal :=
  normed (fun e => x0 (ix3 b n e)) (fun e => x2 (ix1 e)) (fun e => x1 (ix3 b 1 e)) (fun e => x1 (ix3 b 0 e))

/-- Gated product `j` of a row. -/
def unit (v : Fin 2048 → EReal) (j : Fin 5632) : EReal :=
  gated v (fun k => x3 (ix2 k ⟨j.val, by omega⟩)) (fun k => x3 (ix2 k ⟨5632 + j.val, by omega⟩))

/-- The feed-forward network's row. -/
def mixed (v : Fin 2048 → EReal) (e : Fin 2048) : EReal := ∑ j : Fin 5632, unit x3 v j * x4 (ix2 j e)

/-- Row `n` of batch entry `b` after the half-step and the last normalization. -/
def rowOut (b : Fin 2) (n : Fin 8192) : Fin 2048 → EReal :=
  stepped (fun e => x0 (ix3 b n e)) (fun e => x1 (ix3 b 2 e)) (mixed x3 x4 (rowIn x0 x1 x2 b n)) (fun e => x5 (ix1 e))

theorem val_main_v4_at (b : Fin 2) (e : Fin 2048) :
    val_main_v4 (F := Ideal) x1 (ix3 b 0 e) = half * x1 (ix3 b 2 e) := by
  unfold val_main_v4 val_main_v3 val_main_v2 val_main_v1 val_main_v0 val_main_cst half
  pointwise

theorem val_main_v12_at (b : Fin 2) (n : Fin 8192) :
    val_main_v12 (F := Ideal) x0 (ix3 b n 0)
      = Ideal.rsqrt (Ideal.div (∑ k, x0 (ix3 b n k) * x0 (ix3 b n k)) width + eps) := by
  rw [val_main_v12_apply, val_main_v11_apply, val_main_v9_apply, val_main_v7_apply, val_main_v6_apply]
  refine congrArg (fun s => Ideal.rsqrt (Ideal.div s width + eps)) ?_
  refine (congrArg₂ (· + ·) Ideal.ofBits_zero_f32 (Finset.sum_congr rfl fun k _ => ?_)).trans (zero_add _)
  exact congrArg (fun i => x0 i * x0 i) (eq_ix3 _)

theorem val_main_v14_at (b : Fin 2) (n : Fin 8192) (e : Fin 2048) :
    val_main_v14 (F := Ideal) x0 (ix3 b n e) = unitRow (fun k => x0 (ix3 b n k)) e := by
  rw [val_main_v14_apply, val_main_v13_apply]
  exact congrArg (x0 (ix3 b n e) * ·) ((congrArg _ (eq_ix3 _)).trans (val_main_v12_at x0 b n))

theorem val_main_v27_at (b : Fin 2) (n : Fin 8192) (e : Fin 2048) :
    val_main_v27 (F := Ideal) x0 x1 x2 (ix3 b n e) = rowIn x0 x1 x2 b n e := by
  have h := val_main_v14_at x0 b n e
  unfold val_main_v27 val_main_v26 val_main_v25 val_main_v24 val_main_v23 val_main_v22 val_main_v21 val_main_v20 val_main_v19
    val_main_v18 val_main_v17 val_main_v16 val_main_v15 val_main_v0 val_main_cst_3 rowIn normed one
  generalize val_main_v14 (F := Ideal) x0 = y at h ⊢
  rw [← h]
  pointwise

theorem val_main_v28_at (b : Fin 2) (n : Fin 8192) (j : Fin 11264) :
    val_main_v28 (F := Ideal) x0 x1 x2 x3 (ix3 b n j) = ∑ k, rowIn x0 x1 x2 b n k * x3 (ix2 k j) := by
  rw [val_main_v28_apply]
  refine Finset.sum_congr rfl fun k _ => ?_
  rw [← val_main_v27_at]
  exact congrArg₂ (· * ·) (congrArg _ (eq_ix3 _)) (congrArg x3 (eq_ix2 _))

theorem val_main_v32_at (b : Fin 2) (n : Fin 8192) (j : Fin 5632) :
    val_main_v32 (F := Ideal) x0 x1 x2 x3 (ix3 b n j) = unit x3 (rowIn x0 x1 x2 b n) j := by
  have hg : val_main_v29 (F := Ideal) x0 x1 x2 x3 (ix3 b n j) = ∑ k, rowIn x0 x1 x2 b n k * x3 (ix2 k ⟨j.val, by omega⟩) := by
    rw [val_main_v29_apply, ← val_main_v28_at]
    exact congrArg _ (eq_ix3 _)
  have hu : val_main_v30 (F := Ideal) x0 x1 x2 x3 (ix3 b n j) = ∑ k, rowIn x0 x1 x2 b n k * x3 (ix2 k ⟨5632 + j.val, by omega⟩) := by
    rw [val_main_v30_apply, ← val_main_v28_at]
    exact congrArg _ (eq_ix3 _)
  unfold unit gated
  rw [← hg, ← hu]
  rw [val_main_v32_apply, val_main_v31_apply, val_main_call0_v5_apply, val_main_call0_v3_apply, val_main_call0_v1_apply,
    val_main_call0_v0_apply, val_main_call0_v4_apply, val_main_call0_v2_apply]
  rfl

theorem val_main_v33_at (b : Fin 2) (n : Fin 8192) (e : Fin 2048) :
    val_main_v33 (F := Ideal) x0 x1 x2 x3 x4 (ix3 b n e) = mixed x3 x4 (rowIn x0 x1 x2 b n) e := by
  rw [val_main_v33_apply]
  refine Finset.sum_congr rfl fun j _ => ?_
  rw [← val_main_v32_at]
  exact congrArg₂ (· * ·) (congrArg _ (eq_ix3 _)) (congrArg x4 (eq_ix2 _))

theorem val_main_v36_at (b : Fin 2) (n : Fin 8192) (e : Fin 2048) :
    val_main_v36 (F := Ideal) x0 x1 x2 x3 x4 (ix3 b n e)
      = x0 (ix3 b n e) + half * x1 (ix3 b 2 e) * mixed x3 x4 (rowIn x0 x1 x2 b n) e := by
  rw [val_main_v36_apply, val_main_v35_apply, val_main_v34_apply, val_main_v33_at, ← val_main_v4_at]
  exact congrArg (fun i => x0 (ix3 b n e) + val_main_v4 (F := Ideal) x1 i * _) (eq_ix3 _)

theorem val_main_v44_at (b : Fin 2) (n : Fin 8192) :
    val_main_v44 (F := Ideal) x0 x1 x2 x3 x4 (ix3 b n 0)
      = Ideal.rsqrt (Ideal.div (∑ k, (x0 (ix3 b n k) + half * x1 (ix3 b 2 k) * mixed x3 x4 (rowIn x0 x1 x2 b n) k)
          * (x0 (ix3 b n k) + half * x1 (ix3 b 2 k) * mixed x3 x4 (rowIn x0 x1 x2 b n) k)) width + eps) := by
  rw [val_main_v44_apply, val_main_v43_apply, val_main_v41_apply, val_main_v39_apply, val_main_v38_apply]
  refine congrArg (fun s => Ideal.rsqrt (Ideal.div s width + eps)) ?_
  refine (congrArg₂ (· + ·) Ideal.ofBits_zero_f32 (Finset.sum_congr rfl fun k _ => ?_)).trans (zero_add _)
  rw [← val_main_v36_at]
  exact congrArg (fun i => val_main_v36 (F := Ideal) x0 x1 x2 x3 x4 i * val_main_v36 (F := Ideal) x0 x1 x2 x3 x4 i) (eq_ix3 _)

theorem val_main_v49_at (b : Fin 2) (n : Fin 8192) (e : Fin 2048) :
    val_main_v49 (F := Ideal) x0 x1 x2 x3 x4 x5 (ix3 b n e) = rowOut x0 x1 x2 x3 x4 x5 b n e := by
  rw [val_main_v49_apply, val_main_v46_apply, val_main_v45_apply, val_main_v36_at]
  unfold rowOut stepped unitRow
  rw [← val_main_v44_at]
  refine congrArg₂ (· * ·) (congrArg (_ * ·) (congrArg _ (eq_ix3 _))) ?_
  rw [val_main_v48_apply, val_main_v47_apply]
  exact congrArg x5 (eq_ix1 _)

/-- The reference's result at an index. -/
theorem val_main_v50_at (i : Fin 16384) (e : Fin 2048) :
    val_main_v50 (F := Ideal) x0 x1 x2 x3 x4 x5 (ix2 i e)
      = rowOut x0 x1 x2 x3 x4 x5 ⟨i.val / 8192, by omega⟩ ⟨i.val % 8192, by omega⟩ e := by
  have hi : idx_main_v50 (ix2 i e) = ix3 (⟨i.val / 8192, by omega⟩ : Fin 2) (⟨i.val % 8192, by omega⟩ : Fin 8192) e := by
    refine (eq_ix3 _).trans ((ix3_inj _ _ _ _ _ _).2 ⟨?_, ?_, ?_⟩) <;> refine Fin.ext ?_ <;> simp [ix2] <;> omega
  rw [val_main_v50_apply, hi, val_main_v49_at]

end Cert.Ffn

end

end
-- ==== Proof.Ffn.Value.lean ====
module

public import proofs.«01_k».proof.Proof.Ffn.Blocks
public import proofs.«01_k».proof.Proof.Ffn.Tiles
public import proofs.«01_k».proof.Proof.Ffn.Reference
public import Idealize.ShloMosaic.Lib.Pipeline.ValueKit

/-!
# What the feed-forward kernel writes

Over the extended reals the trips of a grid point add up to the whole sum over the 5632 gated products, so each row
the kernel writes is the reference's row.
-/

@[expose] public section

set_option maxRecDepth 16384

noncomputable section

namespace Cert.Ffn

open Cert.Kernel2Ideal Cert.Kernel2Ideal.Gen Cert.Proof.Ffn
open Idealize.ShloMosaic Idealize.ShloMosaic.TcCoe Idealize.ShloMosaic.Tactic
open Idealize.SL Idealize.SL.Sem

section Sums
variable (x3 : FVec Ideal S2048x11264 .f32) (x4 : FVec Ideal S5632x2048 .f32) (v : Fin 2048 → EReal) (e : Fin 2048)

/-- The network's term `n`, on all the naturals. -/
def term (n : ℕ) : EReal := if h : n < 5632 then unit x3 v ⟨n, h⟩ * x4 (ix2 ⟨n, h⟩ e) else 0

theorem term_lt (n : ℕ) (h : n < 5632) : term x3 x4 v e n = unit x3 v ⟨n, h⟩ * x4 (ix2 ⟨n, h⟩ e) := dif_pos h

theorem sum_term : ∑ i ∈ Finset.range (11 * 512), term x3 x4 v e i = mixed x3 x4 v e :=
  (Finset.sum_range _).trans (Finset.sum_congr rfl fun j _ => term_lt x3 x4 v e j.val j.isLt)

theorem sum_term_succ (n : ℕ) : ∑ i ∈ Finset.range ((n + 1) * 512), term x3 x4 v e i
    = ∑ i ∈ Finset.range (n * 512), term x3 x4 v e i + ∑ j : Fin 512, term x3 x4 v e (n * 512 + j.val) := by
  rw [Nat.succ_mul, Finset.sum_range_add, Finset.sum_range (fun j => term x3 x4 v e (n * 512 + j))]

end Sums

variable (m : (ℓ : Loc nD τ sig) → Buf (Elt Ideal) ℓ) (c : Dev nD) (t : Fin grid0.N)
  (a7 : Memref sig .tc .vmem S512x2048 .f32)

/-- Words `j` of trip `k`'s block give the network's term `512 k + j`. -/
theorem trip_term (k : Fin k0_t1_loop.trips) (v : Fin 2048 → EReal) (j : Fin 512) (e : Fin 2048) :
    gated v (fun i => (inRead c (xi m c) t k : Vec Ideal S1x2048x1024 .bf16) (ix3 0 i ⟨j.val, by omega⟩))
        (fun i => (inRead c (xi m c) t k : Vec Ideal S1x2048x1024 .bf16) (ix3 0 i ⟨512 + j.val, by omega⟩))
        * (ouRead c (xo m c) t k : Vec Ideal S1x512x2048 .bf16) (ix3 0 j e)
      = term (arg3 m c) (arg4 m c) v e (k.val * 512 + j.val) := by
  have hk : k.val < 11 := k.isLt
  have hb := bk_val k
  rw [term_lt _ _ _ _ _ (by omega)]
  unfold unit
  refine congrArg₂ (· * ·) (congrArg₂ (gated v) (funext fun i => ?_) (funext fun i => ?_)) ?_
  · refine (inRead_at c _ t k i _).trans ((V_v3 m c _ i _).trans (congrArg (arg3 m c) ((ix2_inj _ _ _ _).2 ⟨rfl, Fin.ext ?_⟩)))
    show j.val / 512 * 5632 + (Ring.bk 11 k.val).val * 512 + j.val % 512 = k.val * 512 + j.val
    omega
  · refine (inRead_at c _ t k i _).trans ((V_v3 m c _ i _).trans (congrArg (arg3 m c) ((ix2_inj _ _ _ _).2 ⟨rfl, Fin.ext ?_⟩)))
    show (512 + j.val) / 512 * 5632 + (Ring.bk 11 k.val).val * 512 + (512 + j.val) % 512 = 5632 + (k.val * 512 + j.val)
    omega
  · refine (ouRead_at c _ t k j e).trans ((V_v7 m c _ j e).trans (congrArg (arg4 m c) ((ix2_inj _ _ _ _).2 ⟨Fin.ext ?_, rfl⟩)))
    show (Ring.bk 11 k.val).val * 512 + j.val = k.val * 512 + j.val
    omega

/-- A stored block read back. -/
theorem back {e : EltTy} (a : Memref sig .tc .vmem S512x2048 e) (f : Buf (Elt Ideal) (a.view.loc (c : Thread nD τ))) (w : (R00).shape.Idx → Elt Ideal e) :
    View.readAt (Elt Ideal) a.view (R00).toLoadRect (a.view.writes (Elt Ideal) f [⟨R00, w⟩]) = w :=
  View.readAt_writes_full a.view f _ _ w []

/-- One trip on the output block, at an index. -/
theorem tripW_at (k : Fin k0_t1_loop.trips) (fx : Buf (Elt Ideal) (xnM.view.loc (c : Thread nD τ))) (fo : Buf (Elt Ideal) (a7.view.loc (c : Thread nD τ)))
    (r : Fin 512) (e : Fin 2048) (v : Fin 2048 → EReal)
    (hv : (fun k => (View.readAt (Elt Ideal) xnM.view (R00).toLoadRect fx : Vec Ideal S512x2048 .bf16) (ix2 r k)) = v) :
    (tripW c (xi m c) (xo m c) t a7 k fx fo : Vec Ideal S512x2048 .f32) (ix2 r e)
      = (View.readAt (Elt Ideal) a7.view (R00).toLoadRect fo : Vec Ideal S512x2048 .f32) (ix2 r e)
        + ∑ j : Fin 512, term (arg3 m c) (arg4 m c) v e (k.val * 512 + j.val) := by
  subst hv
  have h := trip_at (View.readAt (Elt Ideal) xnM.view (R00).toLoadRect fx) (inRead c (xi m c) t k)
    (View.readAt (Elt Ideal) a7.view (R00).toLoadRect fo) (ouRead c (xo m c) t k) r e
  rw [Finset.sum_congr rfl fun j _ => trip_term m c t k _ j e] at h
  exact h

/-- The output block after `n` trips: the first `512 n` terms. -/
theorem acc_at (fx : Buf (Elt Ideal) (xnM.view.loc (c : Thread nD τ))) (o0 : Buf (Elt Ideal) (a7.view.loc (c : Thread nD τ)))
    (v : Fin 512 → Fin 2048 → EReal) (hv : ∀ r k, (View.readAt (Elt Ideal) xnM.view (R00).toLoadRect fx : Vec Ideal S512x2048 .bf16) (ix2 r k) = v r k)
    (h0 : ∀ r e, (View.readAt (Elt Ideal) a7.view (R00).toLoadRect o0 : Vec Ideal S512x2048 .f32) (ix2 r e) = 0)
    (r : Fin 512) (e : Fin 2048) (n : ℕ) (hn : n ≤ 11) :
    (View.readAt (Elt Ideal) a7.view (R00).toLoadRect (oAcc c (xi m c) (xo m c) t a7 fx o0 n) : Vec Ideal S512x2048 .f32) (ix2 r e)
      = ∑ i ∈ Finset.range (n * 512), term (arg3 m c) (arg4 m c) (v r) e i := by
  induction n with
  | zero => rw [Nat.zero_mul, Finset.sum_range_zero]; exact h0 r e
  | succ n ih =>
    have hk : n < k0_t1_loop.trips := Nat.lt_of_succ_le hn
    rw [oAcc_succ _ _ _ _ _ _ _ _ hk, sum_term_succ, ← ih (Nat.le_of_succ_le hn)]
    rw [back]
    exact tripW_at m c t a7 ⟨n, hk⟩ fx _ r e (v r) (funext (hv r))

/-- A staged input block, read whole. -/
theorem whole_x (a1 : Memref sig .tc .vmem S512x2048 .f32) (x : Vec Ideal S512x2048 .f32) :
    View.readAt (Elt Ideal) a1.view (R00).toLoadRect (a1.view.rep x) = x := View.readAt_rep_full a1.view x _
theorem whole_g (a : Memref sig .tc .vmem S1x2048 .f32) (x : Vec Ideal S1x2048 .f32) :
    View.readAt (Elt Ideal) a.view (Rect.unit (s := S1x2048) ![0, 0] S1x2048.size inb_S1x2048_S1x2048_0_0).toLoadRect (a.view.rep x) = x :=
  View.readAt_rep_full a.view x _

/-- Row `n` of the three modulation rows. -/
theorem mod_at (a : Memref sig .tc .vmem S1x3x2048 .f32) (x : Vec Ideal S1x3x2048 .f32) (n : Fin 3)
    (inb : ∀ d, (![0, n.val, 0] : Fin 3 → ℕ) d + S1x1x2048.size d ≤ S1x3x2048.size d) (e : Fin 2048) :
    (View.readAt (Elt Ideal) a.view (Rect.unit (s := S1x3x2048) ![0, n.val, 0] S1x1x2048.size inb).toLoadRect (a.view.rep x)
      : Vec Ideal S1x1x2048 .f32) (ix3 0 0 e) = x (ix3 0 n e) := by
  rw [View.readAt_rep]
  refine congrArg x (funext fun d => Fin.ext ?_)
  match d with
  | ⟨0, _⟩ => rfl
  | ⟨1, _⟩ => show n.val + 1 * 0 = n.val; omega
  | ⟨2, _⟩ => show 0 + 1 * e.val = e.val; omega

section Out
variable (a1 : Memref sig .tc .vmem S512x2048 .f32) (a2 : Memref sig .tc .vmem S1x3x2048 .f32) (a3 a6 : Memref sig .tc .vmem S1x2048 .f32)

/-- The kept block at an index. -/
theorem xn_at (r : Fin 512) (e : Fin 2048) :
    (View.readAt (Elt Ideal) xnM.view (R00).toLoadRect (xnOf c a1 a2 a3 (a1.view.rep (iblk m c 0 t)) (a2.view.rep (iblk m c 1 t)) (a3.view.rep (iblk m c 2 t)))
      : Vec Ideal S512x2048 .bf16) (ix2 r e)
      = rowIn (arg0 m c) (arg1 m c) (arg2 m c) (batchOf t) (placeOf t r) e := by
  unfold xnOf
  rw [back c xnM, whole_x, whole_g, normed_at]
  unfold rowIn
  congr 1
  · exact funext fun k => blk_x m c t r k
  · exact funext fun k => blk_g m c t k
  · exact funext fun k => (mod_at a2 (iblk m c 1 t) 1 _ k).trans (blk_m m c t 1 k)
  · exact funext fun k => (mod_at a2 (iblk m c 1 t) 0 _ k).trans (blk_m m c t 0 k)

/-- The output block at an index. -/
theorem out_at (r : Fin 512) (e : Fin 2048) :
    (a7.view.read (Elt Ideal) (outOf c (xi m c) (xo m c) t a1 a2 a3 a6 a7 (a1.view.rep (iblk m c 0 t)) (a2.view.rep (iblk m c 1 t))
        (a3.view.rep (iblk m c 2 t)) (a6.view.rep (iblk m c 3 t))) : Vec Ideal S512x2048 .f32) (ix2 r e)
      = rowOut (arg0 m c) (arg1 m c) (arg2 m c) (arg3 m c) (arg4 m c) (arg5 m c) (batchOf t) (placeOf t r) e := by
  have ho : ∀ k : Fin 2048, (View.readAt (Elt Ideal) a7.view (R00).toLoadRect (oLoop c (xi m c) (xo m c) t a1 a2 a3 a7 (a1.view.rep (iblk m c 0 t))
        (a2.view.rep (iblk m c 1 t)) (a3.view.rep (iblk m c 2 t))) : Vec Ideal S512x2048 .f32) (ix2 r k)
      = mixed (arg3 m c) (arg4 m c) (rowIn (arg0 m c) (arg1 m c) (arg2 m c) (batchOf t) (placeOf t r)) k := by
    intro k
    rw [← sum_term]
    unfold oLoop
    refine acc_at m c t a7 _ _ (fun r => rowIn (arg0 m c) (arg1 m c) (arg2 m c) (batchOf t) (placeOf t r)) (fun r k => xn_at m c t a1 a2 a3 r k) (fun r e => ?_) r k 11 le_rfl
    unfold oZero
    rw [back c]
    exact zero_at r e
  unfold outOf
  generalize oLoop c (xi m c) (xo m c) t a1 a2 a3 a7 (a1.view.rep (iblk m c 0 t)) (a2.view.rep (iblk m c 1 t)) (a3.view.rep (iblk m c 2 t)) = fo at ho ⊢
  rw [whole_x, whole_g]
  refine (congrFun (View.read_writes_full a7.view fo _ _ []) (ix2 r e)).trans ?_
  rw [stepped_at]
  unfold rowOut
  congr 1
  · exact funext fun k => blk_x m c t r k
  · exact funext fun k => (mod_at a2 (iblk m c 1 t) 2 _ k).trans (blk_m m c t 2 k)
  · exact funext ho
  · exact funext fun k => blk_f m c t k

end Out

/-- What the kernel leaves in its output array. -/
def G (i : S16384x2048.Idx) : EReal :=
  rowOut (arg0 m c) (arg1 m c) (arg2 m c) (arg3 m c) (arg4 m c) (arg5 m c) ⟨(i 0).val / 8192, by have : (i 0).val < 16384 := (i 0).isLt; omega⟩
    ⟨(i 0).val % 8192, by omega⟩ (i 1)

theorem outAt_at (r : Fin 512) (e : Fin 2048) :
    (outAt m c t : Vec Ideal S512x2048 .f32) (ix2 r e) = G m c (ix2 ⟨512 * t.val + r.val, by have := lt_points t; omega⟩ e) := by
  have ht := lt_points t
  refine (out_at m c t (st0_4 t) (st0_0 t) (st0_1 t) (st0_2 t) (st0_3 t) r e).trans ?_
  unfold G
  refine congrArg₂ (fun b n => rowOut (arg0 m c) (arg1 m c) (arg2 m c) (arg3 m c) (arg4 m c) (arg5 m c) b n e) (Fin.ext ?_) (Fin.ext ?_)
  · show t.val / 16 = (512 * t.val + r.val) / 8192
    omega
  · show 512 * (t.val % 16) + r.val = (512 * t.val + r.val) % 8192
    omega

theorem emb_o (r : Fin 512) (e : Fin 2048) :
    (((cfg0.win 4).blk t).view.emb (ix2 r e : S512x2048.Idx) : S16384x2048.Idx) = ix2 ⟨512 * t.val + r.val, by have := lt_points t; omega⟩ e := by
  obtain ⟨h0, h1⟩ := index_o t
  refine funext fun a => Fin.ext ?_
  match a with
  | ⟨0, _⟩ => show win0_4.index t (0 : Fin 2) * 512 + 1 * r.val = 512 * t.val + r.val; omega
  | ⟨1, _⟩ => show win0_4.index t (1 : Fin 2) * 2048 + 1 * e.val = e.val; omega

theorem covers_o : (cfg0.win 4).Covers := by decide +kernel

theorem flushed_o (y : S512x2048.Idx) :
    (outAt m c t : Vec Ideal S512x2048 .f32) y = (G m c : Vec Ideal S16384x2048 .f32) (((cfg0.win 4).blk t).view.emb y : S16384x2048.Idx) := by
  obtain ⟨r, e, rfl⟩ : ∃ (r : Fin 512) (e : Fin 2048), y = ix2 r e := ⟨_, _, eq_ix2 y⟩
  exact (outAt_at m c t r e).trans (congrArg (G m c) (emb_o t r e).symm)

/-- The output array after the run. -/
theorem final : (dats m 0 c).arrAt 4 cfg0.N = (G m c : Vec Ideal S16384x2048 .f32) := by
  refine (dats m 0 c).arrAt_eq_of_covers 4 (G m c) covers_o (fun t _ y => ?_) (Memref.isWhole_whole _)
  have h := flushed_o m c t y
  blk_simp
  rw [after_w4]
  exact h

end Cert.Ffn

end

end
-- ==== Proof.Ffn1.Ring.lean ====
/-
  The feed-forward kernel's two rings of weight blocks.

  At every step the kernel holds block `c` of the packed input weights and block `c` of the output
  weights in one of two slots, and sends for the next block into the other slot. This file names the
  blocks, the slots and the semaphore cells, says which of them the printed offsets are, and proves
  what one trip of the kernel's loop does: the resources before and after, and the words it stores.
-/
module

public import proofs.«01_k».proof.Defs
public import proofs.«01_k».proof.Proof.Gen.Kernel3Ideal.Launch
public import proofs.«01_k».proof.Proof.Gen.Kernel3Ideal.Skeleton
public import proofs.«01_k».proof.Proof.Gen.Kernel3Ideal.Loops
public import proofs.«01_k».proof.Proof.Gen.Kernel3Ideal.Points
public import proofs.«01_k».proof.Proof.Gen.Kernel3Ideal.Frame
public import proofs.«01_k».proof.Proof.Gen.Reference3Ideal.Run
public import Idealize.ShloMosaic.Lib.Ring
public import Idealize.ShloMosaic.Lib.Affine
public import Idealize.ShloMosaic.Lib.Tactic

@[expose] public section

set_option maxRecDepth 16384

noncomputable section

namespace Cert.Proof.Ffn1

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The kernel's own transfers ride on counters beside the staging pipeline's resources. -/
abbrev UU (nD : Nat) (τ : Topo) : Type := Pipeline.UD sig nD τ
local notation "𝕄" => MT nD τ sig Unit (Elt F) ℕ (UU nD τ) ℕ
abbrev 𝒱₀ : Variants := Variants.none

/-! ## Blocks, slots and cells -/

abbrev wiM : Memref sig .tc .hbm S11x2048x1024 .bf16 := Memref.whole main_v3
abbrev woM : Memref sig .tc .hbm S11x512x2048 .bf16 := Memref.whole main_v7
abbrev xnM : Memref sig .tc .vmem S512x2048 .bf16 := Memref.whole cc0_scratch0
abbrev inM : Memref sig .tc .vmem S2x2048x1024 .bf16 := Memref.whole cc0_scratch1
abbrev ouM : Memref sig .tc .vmem S2x512x2048 .bf16 := Memref.whole cc0_scratch2

/-- The offset of the `n`-th slab along the first of three axes. -/
abbrev slab (n : ℕ) : Fin 3 → ℕ := ![n, 0, 0]
/-- The offset of a cell: row `a` (0 for the input weights, 1 for the output weights), slot `s`. -/
abbrev cell (a : ℕ) (s : ℕ) : Fin 2 → ℕ := ![a, s]

theorem wi_inb (b : Fin 11) : ∀ a, slab b.val a + S1x2048x1024.size a ≤ S11x2048x1024.size a := by revert b; decide
theorem wo_inb (b : Fin 11) : ∀ a, slab b.val a + S1x512x2048.size a ≤ S11x512x2048.size a := by revert b; decide
theorem in_inb (s : Fin 2) : ∀ a, slab s.val a + S1x2048x1024.size a ≤ S2x2048x1024.size a := by revert s; decide
theorem ou_inb (s : Fin 2) : ∀ a, slab s.val a + S1x512x2048.size a ≤ S2x512x2048.size a := by revert s; decide
theorem cell_inb (r s : Fin 2) : ∀ a, cell r.val s.val a + S1x1.size a ≤ S2x2.size a := by revert r s; decide

/-- Block `b` of the packed input weights. -/
def wiB (b : Fin 11) : Memref sig .tc .hbm S2048x1024 .bf16 :=
  (wiM.slice (Rect.unit (s := S11x2048x1024) (slab b.val) S1x2048x1024.size (wi_inb b)) (fun _ => rfl)).squeeze S2048x1024 squeezes_S1x2048x1024_S2048x1024
/-- Block `b` of the output weights. -/
def woB (b : Fin 11) : Memref sig .tc .hbm S512x2048 .bf16 :=
  (woM.slice (Rect.unit (s := S11x512x2048) (slab b.val) S1x512x2048.size (wo_inb b)) (fun _ => rfl)).squeeze S512x2048 squeezes_S1x512x2048_S512x2048
/-- Slot `s` for blocks of input weights. -/
def inS (s : Fin 2) : Memref sig .tc .vmem S2048x1024 .bf16 :=
  (inM.slice (Rect.unit (s := S2x2048x1024) (slab s.val) S1x2048x1024.size (in_inb s)) (fun _ => rfl)).squeeze S2048x1024 squeezes_S1x2048x1024_S2048x1024
/-- Slot `s` for blocks of output weights. -/
def ouS (s : Fin 2) : Memref sig .tc .vmem S512x2048 .bf16 :=
  (ouM.slice (Rect.unit (s := S2x512x2048) (slab s.val) S1x512x2048.size (ou_inb s)) (fun _ => rfl)).squeeze S512x2048 squeezes_S1x512x2048_S512x2048
/-- The cell on which slot `s` of row `r` completes. -/
def sem (r s : Fin 2) : DmaSems sig S_ :=
  (cc0_scratch3.slice (Rect.unit (s := S2x2) (cell r.val s.val) S1x1.size (cell_inb r s))).squeeze S_ squeezes_S1x1_S_

instance (n : ℕ) : ClosedOff (slab n) := ⟨slab n, rfl⟩

/-! ## The printed offsets

Step `p = 11 t + k` of the whole grid uses slot `p % 2` and block `p % 11`. -/

/-- The trips of the loop are eleven. -/
theorem trips_eq : k0_t1_loop.trips = 11 := by decide

section Offsets

theorem cond_all : ∀ (t : Fin grid0.N) (k : Fin k0_t1_loop.trips),
    k0_cond2 (grid0.coords t) k = 1#1 ↔ 11 * t.val + k.val + 1 < 352 := by decide +kernel
theorem first_all : ∀ (t : Fin grid0.N),
    Scalar.cmpi .ne ((Scalar.extui (Scalar.cmpi .eq (BitVec.ofNat 32 (grid0.coords t 0).val) 0#32) : BitVec 32)) 0#32 = 1#1 ↔ t.val = 0 := by decide +kernel
theorem cells_all : ∀ (t : Fin grid0.N) (k : Fin k0_t1_loop.trips),
    k0_off1 (grid0.coords t) k = cell 0 (Ring.sl 2 (11 * t.val + k.val + 1)).val
    ∧ k0_off4 (grid0.coords t) k = cell 1 (Ring.sl 2 (11 * t.val + k.val + 1)).val
    ∧ k0_off7 (grid0.coords t) k = cell 0 (Ring.sl 2 (11 * t.val + k.val)).val
    ∧ k0_off10 (grid0.coords t) k = cell 1 (Ring.sl 2 (11 * t.val + k.val)).val := by decide +kernel
theorem slots_all : ∀ (t : Fin grid0.N) (k : Fin k0_t1_loop.trips),
    k0_off2 (grid0.coords t) k = slab (Ring.sl 2 (11 * t.val + k.val + 1)).val
    ∧ k0_off5 (grid0.coords t) k = slab (Ring.sl 2 (11 * t.val + k.val + 1)).val
    ∧ k0_off8 (grid0.coords t) k = slab (Ring.sl 2 (11 * t.val + k.val)).val
    ∧ k0_off11 (grid0.coords t) k = slab (Ring.sl 2 (11 * t.val + k.val)).val
    ∧ k0_off13 (grid0.coords t) k = slab (Ring.sl 2 (11 * t.val + k.val)).val
    ∧ k0_off14 (grid0.coords t) k = slab (Ring.sl 2 (11 * t.val + k.val)).val := by decide +kernel
theorem blocks_all : ∀ (k : Fin k0_t1_loop.trips),
    k0_off3 k = slab (Ring.bk 11 (k.val + 1)).val
    ∧ k0_off6 k = slab (Ring.bk 11 (k.val + 1)).val
    ∧ k0_off9 k = slab (Ring.bk 11 k.val).val
    ∧ k0_off12 k = slab (Ring.bk 11 k.val).val := by decide +kernel

end Offsets

section Names

theorem sem_of {off : Fin 2 → ℕ} {r s : Fin 2} (e : off = cell r.val s.val) (h) :
    (cc0_scratch3.slice (Rect.unit (s := S2x2) off S1x1.size h)).squeeze S_ squeezes_S1x1_S_ = sem r s :=
  congrArg (fun A : DmaSems sig S1x1 => A.squeeze S_ squeezes_S1x1_S_) (SemArray.slice_unit_congr _ e _ _)
theorem wiB_of {off : Fin 3 → ℕ} {b : Fin 11} (e : off = slab b.val) (h hs) :
    (wiM.slice (Rect.unit (s := S11x2048x1024) off S1x2048x1024.size h) hs).squeeze S2048x1024 squeezes_S1x2048x1024_S2048x1024 = wiB b :=
  congrArg (fun A : Memref sig .tc .hbm S1x2048x1024 .bf16 => A.squeeze S2048x1024 squeezes_S1x2048x1024_S2048x1024) (Memref.slice_unit_congr _ e _ _ _ _)
theorem woB_of {off : Fin 3 → ℕ} {b : Fin 11} (e : off = slab b.val) (h hs) :
    (woM.slice (Rect.unit (s := S11x512x2048) off S1x512x2048.size h) hs).squeeze S512x2048 squeezes_S1x512x2048_S512x2048 = woB b :=
  congrArg (fun A : Memref sig .tc .hbm S1x512x2048 .bf16 => A.squeeze S512x2048 squeezes_S1x512x2048_S512x2048) (Memref.slice_unit_congr _ e _ _ _ _)
theorem inS_of {off : Fin 3 → ℕ} {s : Fin 2} (e : off = slab s.val) (h hs) :
    (inM.slice (Rect.unit (s := S2x2048x1024) off S1x2048x1024.size h) hs).squeeze S2048x1024 squeezes_S1x2048x1024_S2048x1024 = inS s :=
  congrArg (fun A : Memref sig .tc .vmem S1x2048x1024 .bf16 => A.squeeze S2048x1024 squeezes_S1x2048x1024_S2048x1024) (Memref.slice_unit_congr _ e _ _ _ _)
theorem ouS_of {off : Fin 3 → ℕ} {s : Fin 2} (e : off = slab s.val) (h hs) :
    (ouM.slice (Rect.unit (s := S2x512x2048) off S1x512x2048.size h) hs).squeeze S512x2048 squeezes_S1x512x2048_S512x2048 = ouS s :=
  congrArg (fun A : Memref sig .tc .vmem S1x512x2048 .bf16 => A.squeeze S512x2048 squeezes_S1x512x2048_S512x2048) (Memref.slice_unit_congr _ e _ _ _ _)

/-! The first point's own transfers, at literal offsets. -/

@[sl_canon] theorem sem_first0 (h) : (cc0_scratch3.slice (Rect.unit (s := S2x2) ![0, 0] S1x1.size h)).squeeze S_ squeezes_S1x1_S_ = sem 0 0 := sem_of (r := 0) (s := 0) (by decide) _
@[sl_canon] theorem sem_first1 (h) : (cc0_scratch3.slice (Rect.unit (s := S2x2) ![1, 0] S1x1.size h)).squeeze S_ squeezes_S1x1_S_ = sem 1 0 := sem_of (r := 1) (s := 0) (by decide) _
@[sl_canon] theorem wiB_first (h hs) : (wiM.slice (Rect.unit (s := S11x2048x1024) ![0, 0, 0] S1x2048x1024.size h) hs).squeeze S2048x1024 squeezes_S1x2048x1024_S2048x1024 = wiB 0 := wiB_of (by decide) _ _
@[sl_canon] theorem woB_first (h hs) : (woM.slice (Rect.unit (s := S11x512x2048) ![0, 0, 0] S1x512x2048.size h) hs).squeeze S512x2048 squeezes_S1x512x2048_S512x2048 = woB 0 := woB_of (by decide) _ _
@[sl_canon] theorem inS_first (h hs) : (inM.slice (Rect.unit (s := S2x2048x1024) ![0, 0, 0] S1x2048x1024.size h) hs).squeeze S2048x1024 squeezes_S1x2048x1024_S2048x1024 = inS 0 := inS_of (by decide) _ _
@[sl_canon] theorem ouS_first (h hs) : (ouM.slice (Rect.unit (s := S2x512x2048) ![0, 0, 0] S1x512x2048.size h) hs).squeeze S512x2048 squeezes_S1x512x2048_S512x2048 = ouS 0 := ouS_of (by decide) _ _

/-! A trip's transfers: sent for (step `p + 1`) and awaited (step `p`). -/

variable (t : Fin grid0.N) (k : Fin k0_t1_loop.trips)

@[sl_canon] theorem sem_off1 (h) : (cc0_scratch3.slice (Rect.unit (s := S2x2) (k0_off1 (grid0.coords t) k) S1x1.size h)).squeeze S_ squeezes_S1x1_S_ = sem 0 (Ring.sl 2 (11 * t.val + k.val + 1)) := sem_of (r := 0) (cells_all t k).1 _
@[sl_canon] theorem sem_off4 (h) : (cc0_scratch3.slice (Rect.unit (s := S2x2) (k0_off4 (grid0.coords t) k) S1x1.size h)).squeeze S_ squeezes_S1x1_S_ = sem 1 (Ring.sl 2 (11 * t.val + k.val + 1)) := sem_of (r := 1) (cells_all t k).2.1 _
@[sl_canon] theorem sem_off7 (h) : (cc0_scratch3.slice (Rect.unit (s := S2x2) (k0_off7 (grid0.coords t) k) S1x1.size h)).squeeze S_ squeezes_S1x1_S_ = sem 0 (Ring.sl 2 (11 * t.val + k.val)) := sem_of (r := 0) (cells_all t k).2.2.1 _
@[sl_canon] theorem sem_off10 (h) : (cc0_scratch3.slice (Rect.unit (s := S2x2) (k0_off10 (grid0.coords t) k) S1x1.size h)).squeeze S_ squeezes_S1x1_S_ = sem 1 (Ring.sl 2 (11 * t.val + k.val)) := sem_of (r := 1) (cells_all t k).2.2.2 _
@[sl_canon] theorem inS_off2 (h hs) : (inM.slice (Rect.unit (s := S2x2048x1024) (k0_off2 (grid0.coords t) k) S1x2048x1024.size h) hs).squeeze S2048x1024 squeezes_S1x2048x1024_S2048x1024 = inS (Ring.sl 2 (11 * t.val + k.val + 1)) := inS_of (slots_all t k).1 _ _
@[sl_canon] theorem ouS_off5 (h hs) : (ouM.slice (Rect.unit (s := S2x512x2048) (k0_off5 (grid0.coords t) k) S1x512x2048.size h) hs).squeeze S512x2048 squeezes_S1x512x2048_S512x2048 = ouS (Ring.sl 2 (11 * t.val + k.val + 1)) := ouS_of (slots_all t k).2.1 _ _
@[sl_canon] theorem inS_off8 (h hs) : (inM.slice (Rect.unit (s := S2x2048x1024) (k0_off8 (grid0.coords t) k) S1x2048x1024.size h) hs).squeeze S2048x1024 squeezes_S1x2048x1024_S2048x1024 = inS (Ring.sl 2 (11 * t.val + k.val)) := inS_of (slots_all t k).2.2.1 _ _
@[sl_canon] theorem ouS_off11 (h hs) : (ouM.slice (Rect.unit (s := S2x512x2048) (k0_off11 (grid0.coords t) k) S1x512x2048.size h) hs).squeeze S512x2048 squeezes_S1x512x2048_S512x2048 = ouS (Ring.sl 2 (11 * t.val + k.val)) := ouS_of (slots_all t k).2.2.2.1 _ _
@[sl_canon] theorem wiB_off3 (h hs) : (wiM.slice (Rect.unit (s := S11x2048x1024) (k0_off3 k) S1x2048x1024.size h) hs).squeeze S2048x1024 squeezes_S1x2048x1024_S2048x1024 = wiB (Ring.bk 11 (k.val + 1)) := wiB_of (blocks_all k).1 _ _
@[sl_canon] theorem woB_off6 (h hs) : (woM.slice (Rect.unit (s := S11x512x2048) (k0_off6 k) S1x512x2048.size h) hs).squeeze S512x2048 squeezes_S1x512x2048_S512x2048 = woB (Ring.bk 11 (k.val + 1)) := woB_of (blocks_all k).2.1 _ _
@[sl_canon] theorem wiB_off9 (h hs) : (wiM.slice (Rect.unit (s := S11x2048x1024) (k0_off9 k) S1x2048x1024.size h) hs).squeeze S2048x1024 squeezes_S1x2048x1024_S2048x1024 = wiB (Ring.bk 11 k.val) := wiB_of (blocks_all k).2.2.1 _ _
@[sl_canon] theorem woB_off12 (h hs) : (woM.slice (Rect.unit (s := S11x512x2048) (k0_off12 k) S1x512x2048.size h) hs).squeeze S512x2048 squeezes_S1x512x2048_S512x2048 = woB (Ring.bk 11 k.val) := woB_of (blocks_all k).2.2.2 _ _

/-! The offsets of the slots a trip reads through the whole buffer. -/

instance : ClosedOff (k0_off2 (grid0.coords t) k) := ⟨slab (Ring.sl 2 (11 * t.val + k.val + 1)).val, (slots_all t k).1⟩
instance : ClosedOff (k0_off5 (grid0.coords t) k) := ⟨slab (Ring.sl 2 (11 * t.val + k.val + 1)).val, (slots_all t k).2.1⟩
instance : ClosedOff (k0_off8 (grid0.coords t) k) := ⟨slab (Ring.sl 2 (11 * t.val + k.val)).val, (slots_all t k).2.2.1⟩
instance : ClosedOff (k0_off11 (grid0.coords t) k) := ⟨slab (Ring.sl 2 (11 * t.val + k.val)).val, (slots_all t k).2.2.2.1⟩
instance : ClosedOff (k0_off13 (grid0.coords t) k) := ⟨slab (Ring.sl 2 (11 * t.val + k.val)).val, (slots_all t k).2.2.2.2.1⟩
instance : ClosedOff (k0_off14 (grid0.coords t) k) := ⟨slab (Ring.sl 2 (11 * t.val + k.val)).val, (slots_all t k).2.2.2.2.2⟩

end Names

/-! ## What is held -/

section Pieces
variable (c : Dev nD) (XI : Buf (Elt F) (wiM.view.loc (c : Thread nD τ))) (XO : Buf (Elt F) (woM.view.loc (c : Thread nD τ)))

/-- A cell reading zero. -/
abbrev cellP (r s : Fin 2) : sProp 𝕄 := semVal ((c : Thread nD τ), SemLoc.dma (sem r s).sem) 0
/-- A slot held. -/
abbrev inP (s : Fin 2) (f : Buf (Elt F) ((inS s).view.loc (c : Thread nD τ))) : sProp 𝕄 :=
  (inS s).view.loc (c : Thread nD τ) ↦[(inS s).view.set]{fullShare} f
abbrev ouP (s : Fin 2) (f : Buf (Elt F) ((ouS s).view.loc (c : Thread nD τ))) : sProp 𝕄 :=
  (ouS s).view.loc (c : Thread nD τ) ↦[(ouS s).view.set]{fullShare} f
/-- A block of the weights held, at the array's words. -/
abbrev wiP (b : Fin 11) : sProp 𝕄 := (wiB b).view.loc (c : Thread nD τ) ↦[(wiB b).view.set]{fullShare} XI
abbrev woP (b : Fin 11) : sProp 𝕄 := (woB b).view.loc (c : Thread nD τ) ↦[(woB b).view.set]{fullShare} XO
/-- A block's words, as they go into a slot. -/
abbrev wiW (b : Fin 11) : S2048x1024.Idx → Elt F .bf16 := ReadAs.same.apply ((wiB b).view.read (Elt F) XI)
abbrev woW (b : Fin 11) : S512x2048.Idx → Elt F .bf16 := ReadAs.same.apply ((woB b).view.read (Elt F) XO)
/-- A block of weights on its way into a slot that held `f`. -/
abbrev inF (s : Fin 2) (b : Fin 11) (f : Buf (Elt F) ((inS s).view.loc (c : Thread nD τ))) : sProp 𝕄 :=
  Transfers.Flight countersEmb (c : Thread nD τ) (SemLoc.dma (sem 0 s).sem) () 131072
    iprop(inP c s ((inS s).view.writes (Elt F) f [⟨Rect.whole S2048x1024, wiW c XI b⟩]) ∗ wiP c XI b)
abbrev ouF (s : Fin 2) (b : Fin 11) (f : Buf (Elt F) ((ouS s).view.loc (c : Thread nD τ))) : sProp 𝕄 :=
  Transfers.Flight countersEmb (c : Thread nD τ) (SemLoc.dma (sem 1 s).sem) () 65536
    iprop(ouP c s ((ouS s).view.writes (Elt F) f [⟨Rect.whole S512x2048, woW c XO b⟩]) ∗ woP c XO b)

/-- Block `b` of both arrays under way into slot `s`, every other block at home, the other slot `s'` free. -/
def busy (s s' : Fin 2) (b : Fin 11) : sProp 𝕄 :=
  iprop((∃ f, inF c XI s b f) ∗ (∃ f, ouF c XO s b f) ∗ (∃ f, inP c s' f) ∗ (∃ f, ouP c s' f) ∗ cellP c 0 s' ∗ cellP c 1 s'
    ∗ bigSep (Finset.univ.erase b) (wiP c XI) ∗ bigSep (Finset.univ.erase b) (woP c XO))
/-- Nothing under way. -/
def idle (s s' : Fin 2) : sProp 𝕄 :=
  iprop((∃ f, inP c s f) ∗ (∃ f, ouP c s f) ∗ cellP c 0 s ∗ cellP c 1 s ∗ (∃ f, inP c s' f) ∗ (∃ f, ouP c s' f) ∗ cellP c 0 s' ∗ cellP c 1 s'
    ∗ bigSep Finset.univ (wiP c XI) ∗ bigSep Finset.univ (woP c XO))

/-- A family over all blocks, one block apart. -/
theorem homes_one (Φ : Fin 11 → sProp 𝕄) (b : Fin 11) : bigSep Finset.univ Φ = iprop(Φ b ∗ bigSep (Finset.univ.erase b) Φ) := by
  conv_lhs => rw [← Finset.insert_erase (Finset.mem_univ b), bigSep_insert (Finset.notMem_erase b _)]
  rfl
/-- All blocks but `b`, block `b'` apart. -/
theorem homes_two (Φ : Fin 11 → sProp 𝕄) {b b' : Fin 11} (h : b' ≠ b) :
    bigSep (Finset.univ.erase b) Φ = iprop(Φ b' ∗ bigSep ((Finset.univ.erase b).erase b') Φ) := by
  have hm : b' ∈ (Finset.univ : Finset (Fin 11)).erase b := Finset.mem_erase.mpr ⟨h, Finset.mem_univ _⟩
  conv_lhs => rw [← Finset.insert_erase hm, bigSep_insert (Finset.notMem_erase b' _)]
  rfl

end Pieces

end Cert.Proof.Ffn1

end
-- ==== Proof.Ffn1.Trip.lean ====
/-
  One trip of the feed-forward kernel's loop, and the loop.
-/
module

public import proofs.«01_k».proof.Proof.Ffn1.Ring

@[expose] public section

set_option maxRecDepth 16384

noncomputable section

namespace Cert.Proof.Ffn1

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

variable (c : Dev nD) (XI : Buf (Elt F) (wiM.view.loc (c : Thread nD τ))) (XO : Buf (Elt F) (woM.view.loc (c : Thread nD τ)))
  (t : Fin grid0.N)
  (arg1 : Memref sig .tc .vmem S512x2048 .f32) (harg1 : arg1.IsWhole)
  (arg2 : Memref sig .tc .vmem S1x3x2048 .f32) (harg2 : arg2.IsWhole)
  (arg3 : Memref sig .tc .vmem S1x2048 .f32) (harg3 : arg3.IsWhole)
  (arg7 : Memref sig .tc .vmem S512x2048 .f32) (harg7 : arg7.IsWhole)

abbrev R00 : Rect S512x2048 := Rect.unit (s := S512x2048) ![0, 0] S512x2048.size inb_S512x2048_S512x2048_0_0

/-- The output block's staging buffer, and the normalized block's. -/
abbrev oP (fo : Buf (Elt F) (arg7.view.loc (c : Thread nD τ))) : sProp 𝕄 := arg7.view.loc (c : Thread nD τ) ↦[arg7.view.set]{fullShare} fo
abbrev xnP (fx : Buf (Elt F) (xnM.view.loc (c : Thread nD τ))) : sProp 𝕄 := xnM.view.loc (c : Thread nD τ) ↦{fullShare} fx

abbrev trip (w0 : BitVec 32) (k : Fin k0_t1_loop.trips) : Prog (TpuEff nD τ sig (Elt F) Λ₀ .tc) Unit :=
  k0_t1_body (F := F) (grid0.coords t) arg1 harg1 arg2 harg2 arg3 harg3 wiM (Memref.isWhole_whole _) woM (Memref.isWhole_whole _) arg7 harg7
    xnM (Memref.isWhole_whole _) inM (Memref.isWhole_whole _) ouM (Memref.isWhole_whole _) cc0_scratch3 w0 k ()

/-- Trip `k`'s block of input weights, as the kernel reads it from its slot. -/
abbrev inRead (k : Fin k0_t1_loop.trips) : S1x2048x1024.Idx → Elt F .bf16 :=
  View.readAt (Elt F) inM.view (Rect.unit (s := S2x2048x1024) (k0_off13 (grid0.coords t) k) S1x2048x1024.size (k0_off13_inb (grid0.coords t) k)).toLoadRect
    ((inS (Ring.sl 2 (11 * t.val + k.val))).view.writes (Elt F) (inS (Ring.sl 2 (11 * t.val + k.val))).view.junk
      [⟨Rect.whole S2048x1024, wiW c XI (Ring.bk 11 k.val)⟩])
/-- Trip `k`'s block of output weights, as the kernel reads it from its slot. -/
abbrev ouRead (k : Fin k0_t1_loop.trips) : S1x512x2048.Idx → Elt F .bf16 :=
  View.readAt (Elt F) ouM.view (Rect.unit (s := S2x512x2048) (k0_off14 (grid0.coords t) k) S1x512x2048.size (k0_off14_inb (grid0.coords t) k)).toLoadRect
    ((ouS (Ring.sl 2 (11 * t.val + k.val))).view.writes (Elt F) (ouS (Ring.sl 2 (11 * t.val + k.val))).view.junk
      [⟨Rect.whole S512x2048, woW c XO (Ring.bk 11 k.val)⟩])
/-- The words trip `k` stores. -/
abbrev tripW (k : Fin k0_t1_loop.trips) (fx : Buf (Elt F) (xnM.view.loc (c : Thread nD τ))) (fo : Buf (Elt F) (arg7.view.loc (c : Thread nD τ))) :
    (R00).shape.Idx → Elt F .f32 :=
  k0_pay1 (View.readAt (Elt F) xnM.view (R00).toLoadRect fx) (k0_pay3 (inRead c XI t k)) (View.readAt (Elt F) arg7.view (R00).toLoadRect fo) (ouRead c XO t k)

set_option backward.proofsInPublic true in
/-- One trip that sends for the next block. -/
theorem tripSend (w0 : BitVec 32) (k : Fin k0_t1_loop.trips) (hk : 11 * t.val + k.val + 1 < 352)
    (fx : Buf (Elt F) (xnM.view.loc (c : Thread nD τ))) (fo : Buf (Elt F) (arg7.view.loc (c : Thread nD τ))) :
    iprop(oP c arg7 fo ∗ xnP c fx ∗ (∃ W, owes (c : Thread nD τ) 0 W)
        ∗ busy c XI XO (Ring.sl 2 (11 * t.val + k.val)) (Ring.sl 2 (11 * t.val + k.val + 1)) (Ring.bk 11 k.val))
      ⊢ wp frame (wpE (defs₀ (F := F)) 𝒱₀ (c : Thread nD τ) none) Set.univ
          (trip t arg1 harg1 arg2 harg2 arg3 harg3 arg7 harg7 w0 k)
          (fun _ => iprop(oP c arg7 (arg7.view.writes (Elt F) fo [⟨R00, tripW c XI XO t arg7 k fx fo⟩]) ∗ xnP c fx ∗ (∃ W, owes (c : Thread nD τ) 0 W)
            ∗ busy c XI XO (Ring.sl 2 (11 * t.val + k.val + 1)) (Ring.sl 2 (11 * t.val + k.val)) (Ring.bk 11 (k.val + 1)))) := by
  have hc : k0_cond2 (grid0.coords t) k = 1#1 := (cond_all t k).mpr hk
  have hne : Ring.bk 11 (k.val + 1) ≠ Ring.bk 11 k.val := by
    have := k.isLt; intro e; have := congrArg Fin.val e; simp [Ring.bk, Fin.ofNat] at this; omega
  unfold busy
  rw [homes_two (wiP c XI) hne, homes_two (woP c XO) hne, homes_two (wiP c XI) hne.symm, homes_two (woP c XO) hne.symm,
    Finset.erase_right_comm (a := Ring.bk 11 (k.val + 1)) (b := Ring.bk 11 k.val)]
  iintro ⟨HO, HX, ⟨%W, HW⟩, ⟨%f0, HI⟩, ⟨%f1, HU⟩, ⟨%f2, HI'⟩, ⟨%f3, HU'⟩, HC0, HC1, ⟨Hwi, Hwir⟩, ⟨Hwo, Hwor⟩⟩
  dsimp only [trip]
  sl_unfold [k0_t1_body]
  sl_exec
  sl_step
  isplitl [HO]; · iexact HO
  isplitl [HX]; · iexact HX
  isplitl [HW]; · iexists _; iexact HW
  isplitl [HC0]; · iexists f2; iexact HC0
  isplitl [HC1]; · iexists f3; iexact HC1
  isplitl [HI_dst]; · iexists _; iexact HI_dst
  isplitl [HU_dst]; · iexists _; iexact HU_dst
  isplitl [HI]; · iexact HI
  isplitl [HU]; · iexact HU
  isplitl [HI_src Hwir]
  · isplitl [HI_src]; · iexact HI_src
    iexact Hwir
  isplitl [HU_src]; · iexact HU_src
  iexact Hwor

set_option backward.proofsInPublic true in
/-- The last trip of the last point, which sends for nothing. -/
theorem tripLast (w0 : BitVec 32) (k : Fin k0_t1_loop.trips) (hk : ¬ 11 * t.val + k.val + 1 < 352)
    (fx : Buf (Elt F) (xnM.view.loc (c : Thread nD τ))) (fo : Buf (Elt F) (arg7.view.loc (c : Thread nD τ))) :
    iprop(oP c arg7 fo ∗ xnP c fx ∗ (∃ W, owes (c : Thread nD τ) 0 W)
        ∗ busy c XI XO (Ring.sl 2 (11 * t.val + k.val)) (Ring.sl 2 (11 * t.val + k.val + 1)) (Ring.bk 11 k.val))
      ⊢ wp frame (wpE (defs₀ (F := F)) 𝒱₀ (c : Thread nD τ) none) Set.univ
          (trip t arg1 harg1 arg2 harg2 arg3 harg3 arg7 harg7 w0 k)
          (fun _ => iprop(oP c arg7 (arg7.view.writes (Elt F) fo [⟨R00, tripW c XI XO t arg7 k fx fo⟩]) ∗ xnP c fx ∗ (∃ W, owes (c : Thread nD τ) 0 W)
            ∗ idle c XI XO (Ring.sl 2 (11 * t.val + k.val + 1)) (Ring.sl 2 (11 * t.val + k.val)))) := by
  have hc : ¬ k0_cond2 (grid0.coords t) k = 1#1 := fun h => hk ((cond_all t k).mp h)
  unfold busy idle
  rw [homes_one (wiP c XI) (Ring.bk 11 k.val), homes_one (woP c XO) (Ring.bk 11 k.val)]
  iintro ⟨HO, HX, ⟨%W, HW⟩, ⟨%f0, HI⟩, ⟨%f1, HU⟩, HI', HU', HC0, HC1, Hwir, Hwor⟩
  dsimp only [trip]
  sl_unfold [k0_t1_body]
  sl_exec
  sl_step
  isplitl [HO]; · iexact HO
  isplitl [HX]; · iexact HX
  isplitl [HW]; · iexists _; iexact HW
  isplitl [HI']; · iexact HI'
  isplitl [HU']; · iexact HU'
  isplitl [HC0]; · iexact HC0
  isplitl [HC1]; · iexact HC1
  isplitl [HI_dst]; · iexists _; iexact HI_dst
  isplitl [HU_dst]; · iexists _; iexact HU_dst
  isplitl [HI]; · iexact HI
  isplitl [HU]; · iexact HU
  isplitl [HI_src Hwir]
  · isplitl [HI_src]; · iexact HI_src
    iexact Hwir
  isplitl [HU_src]; · iexact HU_src
  iexact Hwor

/-! ## The loop -/

theorem entails_of_eq {P Q : sProp 𝕄} (e : P = Q) : P ⊢ Q := e ▸ .rfl

/-- The rings before step `p` of the 352. -/
def ring (p : ℕ) : sProp 𝕄 :=
  if p < 352 then busy c XI XO (Ring.sl 2 p) (Ring.sl 2 (p + 1)) (Ring.bk 11 p) else idle c XI XO (Ring.sl 2 p) (Ring.sl 2 (p + 1))

/-- The output block's staging buffer after `k` trips, from `o0`. -/
def oAcc (fx : Buf (Elt F) (xnM.view.loc (c : Thread nD τ))) (o0 : Buf (Elt F) (arg7.view.loc (c : Thread nD τ))) : ℕ → Buf (Elt F) (arg7.view.loc (c : Thread nD τ))
  | 0 => o0
  | k + 1 =>
    if h : k < k0_t1_loop.trips then
      arg7.view.writes (Elt F) (oAcc fx o0 k) [⟨R00, tripW c XI XO t arg7 ⟨k, h⟩ fx (oAcc fx o0 k)⟩]
    else oAcc fx o0 k

theorem oAcc_succ (fx : Buf (Elt F) (xnM.view.loc (c : Thread nD τ))) (o0 : Buf (Elt F) (arg7.view.loc (c : Thread nD τ))) (n : ℕ) (h : n < k0_t1_loop.trips) :
    oAcc c XI XO t arg7 fx o0 (n + 1)
      = arg7.view.writes (Elt F) (oAcc c XI XO t arg7 fx o0 n) [⟨R00, tripW c XI XO t arg7 ⟨n, h⟩ fx (oAcc c XI XO t arg7 fx o0 n)⟩] :=
  dif_pos h

/-- The loop's invariant before trip `k`. -/
def inv (fx : Buf (Elt F) (xnM.view.loc (c : Thread nD τ))) (o0 : Buf (Elt F) (arg7.view.loc (c : Thread nD τ))) (k : ℕ) : sProp 𝕄 :=
  iprop(oP c arg7 (oAcc c XI XO t arg7 fx o0 k) ∗ xnP c fx ∗ (∃ W, owes (c : Thread nD τ) 0 W) ∗ ring c XI XO (11 * t.val + k))

theorem bk_step (n k : ℕ) : Ring.bk 11 (11 * n + k) = Ring.bk 11 k := Fin.ext (by simp [Ring.bk, Fin.ofNat])
theorem sl_step' (n : ℕ) : Ring.sl 2 (n + 1 + 1) = Ring.sl 2 n := by rw [show n + 1 + 1 = n + 2 from rfl, Ring.sl_add]

theorem ring_at (k : Fin k0_t1_loop.trips) : ring c XI XO (11 * t.val + k.val)
    = busy c XI XO (Ring.sl 2 (11 * t.val + k.val)) (Ring.sl 2 (11 * t.val + k.val + 1)) (Ring.bk 11 k.val) := by
  have ht : t.val < 32 := t.isLt
  have hk : k.val < 11 := k.isLt
  unfold ring
  rw [if_pos (by omega), bk_step]
theorem ring_next (k : Fin k0_t1_loop.trips) (h : 11 * t.val + k.val + 1 < 352) : ring c XI XO (11 * t.val + (k.val + 1))
    = busy c XI XO (Ring.sl 2 (11 * t.val + k.val + 1)) (Ring.sl 2 (11 * t.val + k.val)) (Ring.bk 11 (k.val + 1)) := by
  unfold ring
  rw [if_pos (by omega), bk_step, ← sl_step' (11 * t.val + k.val)]
  rfl
theorem ring_end (k : Fin k0_t1_loop.trips) (h : ¬ 11 * t.val + k.val + 1 < 352) : ring c XI XO (11 * t.val + (k.val + 1))
    = idle c XI XO (Ring.sl 2 (11 * t.val + k.val + 1)) (Ring.sl 2 (11 * t.val + k.val)) := by
  unfold ring
  rw [if_neg (by omega), ← sl_step' (11 * t.val + k.val)]
  rfl

/-- The invariant after trip `k`, the rings at `R`. -/
theorem inv_next (k : Fin k0_t1_loop.trips) (fx : Buf (Elt F) (xnM.view.loc (c : Thread nD τ))) (o0 : Buf (Elt F) (arg7.view.loc (c : Thread nD τ)))
    (R : sProp 𝕄) (hR : ring c XI XO (11 * t.val + (k.val + 1)) = R) : inv c XI XO t arg7 fx o0 (k.val + 1)
      = iprop(oP c arg7 (arg7.view.writes (Elt F) (oAcc c XI XO t arg7 fx o0 k.val) [⟨R00, tripW c XI XO t arg7 k fx (oAcc c XI XO t arg7 fx o0 k.val)⟩])
          ∗ xnP c fx ∗ (∃ W, owes (c : Thread nD τ) 0 W) ∗ R) :=
  congrArg₂ (fun (o : Buf (Elt F) (arg7.view.loc (c : Thread nD τ))) (S : sProp 𝕄) => iprop(oP c arg7 o ∗ xnP c fx ∗ (∃ W, owes (c : Thread nD τ) 0 W) ∗ S))
    (oAcc_succ c XI XO t arg7 fx o0 k.val k.isLt) hR

/-- One trip keeps the invariant. -/
theorem inv_step (w0 : BitVec 32) (k : Fin k0_t1_loop.trips)
    (fx : Buf (Elt F) (xnM.view.loc (c : Thread nD τ))) (o0 : Buf (Elt F) (arg7.view.loc (c : Thread nD τ))) :
    inv c XI XO t arg7 fx o0 k.val
      ⊢ wp frame (wpE (defs₀ (F := F)) 𝒱₀ (c : Thread nD τ) none) Set.univ
          (trip t arg1 harg1 arg2 harg2 arg3 harg3 arg7 harg7 w0 k)
          (fun _ => inv c XI XO t arg7 fx o0 (k.val + 1)) := by
  have hpre : inv c XI XO t arg7 fx o0 k.val = iprop(oP c arg7 (oAcc c XI XO t arg7 fx o0 k.val) ∗ xnP c fx ∗ (∃ W, owes (c : Thread nD τ) 0 W)
      ∗ busy c XI XO (Ring.sl 2 (11 * t.val + k.val)) (Ring.sl 2 (11 * t.val + k.val + 1)) (Ring.bk 11 k.val)) :=
    congrArg (fun R : sProp 𝕄 => iprop(oP c arg7 (oAcc c XI XO t arg7 fx o0 k.val) ∗ xnP c fx ∗ (∃ W, owes (c : Thread nD τ) 0 W) ∗ R)) (ring_at c XI XO t k)
  by_cases h : 11 * t.val + k.val + 1 < 352
  · have h1 := tripSend c XI XO t arg1 harg1 arg2 harg2 arg3 harg3 arg7 harg7 w0 k h fx (oAcc c XI XO t arg7 fx o0 k.val)
    have h2 := inv_next c XI XO t arg7 k fx o0 _ (ring_next c XI XO t k h)
    refine (entails_of_eq hpre).trans (h1.trans ?_)
    iintro H
    iapply (wp_wand_r Idealize.ShloMosaic.frame (wpE (defs₀ (F := F)) 𝒱₀ (c : Thread nD τ) none) Set.univ)
    isplitl [H]; · iexact H
    iintro %_ H'
    iapply (entails_of_eq h2.symm); iexact H'
  · have h1 := tripLast c XI XO t arg1 harg1 arg2 harg2 arg3 harg3 arg7 harg7 w0 k h fx (oAcc c XI XO t arg7 fx o0 k.val)
    have h2 := inv_next c XI XO t arg7 k fx o0 _ (ring_end c XI XO t k h)
    refine (entails_of_eq hpre).trans (h1.trans ?_)
    iintro H
    iapply (wp_wand_r Idealize.ShloMosaic.frame (wpE (defs₀ (F := F)) 𝒱₀ (c : Thread nD τ) none) Set.univ)
    isplitl [H]; · iexact H
    iintro %_ H'
    iapply (entails_of_eq h2.symm); iexact H'

end Cert.Proof.Ffn1

end
-- ==== Proof.Ffn1.Body.lean ====
/-
  The feed-forward kernel's body at one grid point: the normalized block, the loop over the weights'
  blocks, and the sum with the block it started from.
-/
module

public import proofs.«01_k».proof.Proof.Ffn1.Trip

@[expose] public section

set_option maxRecDepth 16384

noncomputable section

namespace Cert.Proof.Ffn1

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

variable (c : Dev nD) (XI : Buf (Elt F) (wiM.view.loc (c : Thread nD τ))) (XO : Buf (Elt F) (woM.view.loc (c : Thread nD τ)))
  (t : Fin grid0.N)
  (arg1 : Memref sig .tc .vmem S512x2048 .f32) (harg1 : arg1.IsWhole)
  (arg2 : Memref sig .tc .vmem S1x3x2048 .f32) (harg2 : arg2.IsWhole)
  (arg3 : Memref sig .tc .vmem S1x2048 .f32) (harg3 : arg3.IsWhole)
  (arg7 : Memref sig .tc .vmem S512x2048 .f32) (harg7 : arg7.IsWhole)

abbrev bodyP : Prog (TpuEff nD τ sig (Elt F) Λ₀ .tc) PUnit :=
  cc0_ffn (F := F) (grid0.coords t) arg1 harg1 arg2 harg2 arg3 harg3 wiM (Memref.isWhole_whole _) woM (Memref.isWhole_whole _) arg7 harg7
    xnM (Memref.isWhole_whole _) inM (Memref.isWhole_whole _) ouM (Memref.isWhole_whole _) cc0_scratch3

/-- A staged input's buffer held. -/
abbrev gP {s : Shape} (arg : Memref sig .tc .vmem s .f32) (g : Buf (Elt F) (arg.view.loc (c : Thread nD τ))) : sProp 𝕄 :=
  arg.view.loc (c : Thread nD τ) ↦[arg.view.set]{fullShare} g

section Run
variable (g1 : Buf (Elt F) (arg1.view.loc (c : Thread nD τ))) (g2 : Buf (Elt F) (arg2.view.loc (c : Thread nD τ)))
  (g3 : Buf (Elt F) (arg3.view.loc (c : Thread nD τ)))

/-- The normalized block, as the kernel keeps it. -/
def xnOf : Buf (Elt F) (xnM.view.loc (c : Thread nD τ)) :=
  xnM.view.writes (Elt F) xnM.view.junk [⟨R00, k0_pay4
    (View.readAt (Elt F) arg1.view (R00).toLoadRect g1)
    (View.readAt (Elt F) arg3.view (Rect.unit (s := S1x2048) ![0, 0] S1x2048.size inb_S1x2048_S1x2048_0_0).toLoadRect g3)
    (View.readAt (Elt F) arg2.view (Rect.unit (s := S1x3x2048) ![0, 1, 0] S1x1x2048.size inb_S1x3x2048_S1x1x2048_0_1_0).toLoadRect g2)
    (View.readAt (Elt F) arg2.view (Rect.unit (s := S1x3x2048) ![0, 0, 0] S1x1x2048.size inb_S1x3x2048_S1x1x2048_0_0_0).toLoadRect g2)⟩]
/-- The output block before the first trip: zeros. -/
def oZero : Buf (Elt F) (arg7.view.loc (c : Thread nD τ)) := arg7.view.writes (Elt F) arg7.view.junk [⟨R00, k0_pay5⟩]
/-- The output block after the loop. -/
def oLoop : Buf (Elt F) (arg7.view.loc (c : Thread nD τ)) :=
  oAcc c XI XO t arg7 (xnOf c arg1 arg2 arg3 g1 g2 g3) (oZero c arg7) k0_t1_loop.trips

/-- The output block's buffer as the kernel leaves it. -/
def outOf : Buf (Elt F) (arg7.view.loc (c : Thread nD τ)) :=
  arg7.view.writes (Elt F) (oLoop c XI XO t arg1 arg2 arg3 arg7 g1 g2 g3) [⟨R00, k0_pay2
    (View.readAt (Elt F) arg1.view (R00).toLoadRect g1)
    (View.readAt (Elt F) arg2.view (Rect.unit (s := S1x3x2048) ![0, 2, 0] S1x1x2048.size inb_S1x3x2048_S1x1x2048_0_2_0).toLoadRect g2)
    (View.readAt (Elt F) arg7.view (R00).toLoadRect (oLoop c XI XO t arg1 arg2 arg3 arg7 g1 g2 g3))⟩]

/-- What the body hands back. -/
def bodyPost : sProp 𝕄 :=
  iprop(gP c arg1 g1 ∗ gP c arg2 g2 ∗ gP c arg3 g3 ∗ oP c arg7 (outOf c XI XO t arg1 arg2 arg3 arg7 g1 g2 g3)
    ∗ (∃ fx, xnP c fx) ∗ (∃ W, owes (c : Thread nD τ) 0 W) ∗ ring c XI XO (11 * t.val + k0_t1_loop.trips))

/-- Before the first step: block 0 under way into slot 0. -/
theorem ring_first (ht : t.val = 0) : ring c XI XO (11 * t.val + 0) = busy c XI XO 0 1 0 := by
  unfold ring
  rw [ht, if_pos (by omega)]
  rfl

/-- The body at a point after the first. -/
theorem body_later (ht : t.val ≠ 0) (go : Buf (Elt F) (arg7.view.loc (c : Thread nD τ))) (fx : Buf (Elt F) (xnM.view.loc (c : Thread nD τ))) (W : Waits sig Unit)
    (Q : PUnit → sProp 𝕄) :
    iprop((gP c arg1 g1 ∗ gP c arg2 g2 ∗ gP c arg3 g3 ∗ oP c arg7 go ∗ xnP c fx ∗ owes (c : Thread nD τ) 0 W ∗ ring c XI XO (11 * t.val))
        ∗ (bodyPost c XI XO t arg1 arg2 arg3 arg7 g1 g2 g3 -∗ Q ⟨⟩))
      ⊢ wp frame (wpE (defs₀ (F := F)) 𝒱₀ (c : Thread nD τ) none) Set.univ
          (bodyP t arg1 harg1 arg2 harg2 arg3 harg3 arg7 harg7) Q := by
  have hc : ¬ Scalar.cmpi .ne (Scalar.extui (Scalar.cmpi .eq (BitVec.ofNat 32 (grid0.coords t 0).val) 0#32) : BitVec 32) 0#32 = 1#1 :=
    fun h => ht ((first_all t).mp h)
  iintro ⟨⟨H1, H2, H3, HO, HX, HW, HR⟩, Hk⟩
  dsimp only [bodyP]
  sl_exec
  sl_for (fun k _ => inv c XI XO t arg7 (xnOf c arg1 arg2 arg3 g1 g2 g3) (oZero c arg7) k) $$ [HO HX HW HR]
  case region => intro k a; exact inv_step c XI XO t arg1 harg1 arg2 harg2 arg3 harg3 arg7 harg7 _ k _ _
  · unfold inv
    isplitl [HO]; · iexact HO
    isplitl [HX]; · iexact HX
    isplitl [HW]; · iexists _; iexact HW
    iexact HR
  iintro %a HI
  unfold inv
  icases HI with ⟨HO, HX, HW, HR⟩
  sl_exec
  sl_step
  iapply Hk
  unfold bodyPost
  isplitl [H1]; · iexact H1
  isplitl [H2]; · iexact H2
  isplitl [H3]; · iexact H3
  isplitl [HO]; · iexact HO
  isplitl [HX]; · iexists _; iexact HX
  isplitl [HW]; · iexact HW
  iexact HR

set_option backward.proofsInPublic true in
/-- The body at the first point, which sends for block 0 itself. -/
theorem body_first (ht : t.val = 0) (go : Buf (Elt F) (arg7.view.loc (c : Thread nD τ))) (fx : Buf (Elt F) (xnM.view.loc (c : Thread nD τ))) (W : Waits sig Unit)
    (Q : PUnit → sProp 𝕄) :
    iprop((gP c arg1 g1 ∗ gP c arg2 g2 ∗ gP c arg3 g3 ∗ oP c arg7 go ∗ xnP c fx ∗ owes (c : Thread nD τ) 0 W ∗ idle c XI XO 0 1)
        ∗ (bodyPost c XI XO t arg1 arg2 arg3 arg7 g1 g2 g3 -∗ Q ⟨⟩))
      ⊢ wp frame (wpE (defs₀ (F := F)) 𝒱₀ (c : Thread nD τ) none) Set.univ
          (bodyP t arg1 harg1 arg2 harg2 arg3 harg3 arg7 harg7) Q := by
  have hc : Scalar.cmpi .ne (Scalar.extui (Scalar.cmpi .eq (BitVec.ofNat 32 (grid0.coords t 0).val) 0#32) : BitVec 32) 0#32 = 1#1 :=
    (first_all t).mpr ht
  unfold idle
  rw [homes_one (wiP c XI) 0, homes_one (woP c XO) 0]
  iintro ⟨⟨H1, H2, H3, HO, HX, HW, ⟨%f0, HI⟩, ⟨%f1, HU⟩, HC0, HC1, HI', HU', HC0', HC1', ⟨Hwi, Hwir⟩, ⟨Hwo, Hwor⟩⟩, Hk⟩
  dsimp only [bodyP]
  sl_exec
  sl_for (fun k _ => inv c XI XO t arg7 (xnOf c arg1 arg2 arg3 g1 g2 g3) (oZero c arg7) k) $$ [HO HX HW HC0 HC1 HI' HU' HC0' HC1' Hwir Hwor]
  case region => intro k a; exact inv_step c XI XO t arg1 harg1 arg2 harg2 arg3 harg3 arg7 harg7 _ k _ _
  · unfold inv
    isplitl [HO]; · iexact HO
    isplitl [HX]; · iexact HX
    isplitl [HW]; · iexists _; iexact HW
    iapply (entails_of_eq (ring_first c XI XO t ht).symm)
    unfold busy
    isplitl [HC0]; · iexists f0; iexact HC0
    isplitl [HC1]; · iexists f1; iexact HC1
    isplitl [HI']; · iexact HI'
    isplitl [HU']; · iexact HU'
    isplitl [HC0']; · iexact HC0'
    isplitl [HC1']; · iexact HC1'
    isplitl [Hwir]; · iexact Hwir
    iexact Hwor
  iintro %a HI
  unfold inv
  icases HI with ⟨HO, HX, HW, HR⟩
  sl_exec
  sl_step
  iapply Hk
  unfold bodyPost
  isplitl [H1]; · iexact H1
  isplitl [H2]; · iexact H2
  isplitl [H3]; · iexact H3
  isplitl [HO]; · iexact HO
  isplitl [HX]; · iexists _; iexact HX
  isplitl [HW]; · iexact HW
  iexact HR

end Run

end Cert.Proof.Ffn1

end
-- ==== Proof.Ffn1.Frame.lean ====
/-
  The feed-forward kernel's launch: how the arrays of weights, the slots and the cells come apart into
  the pieces the body holds, what is held between two grid points, and what every run leaves.
-/
module

public import proofs.«01_k».proof.Proof.Ffn1.Body

@[expose] public section

set_option maxRecDepth 16384

noncomputable section

namespace Cert.Proof.Ffn1

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

/-! ## Arrays in blocks, buffers in slots -/

abbrev wiSet (b : Fin 11) : Finset S11x2048x1024.Idx := (Rect.unit (s := S11x2048x1024) (slab b.val) S1x2048x1024.size (wi_inb b)).set
abbrev woSet (b : Fin 11) : Finset S11x512x2048.Idx := (Rect.unit (s := S11x512x2048) (slab b.val) S1x512x2048.size (wo_inb b)).set
abbrev inSet (s : Fin 2) : Finset S2x2048x1024.Idx := (Rect.unit (s := S2x2048x1024) (slab s.val) S1x2048x1024.size (in_inb s)).set
abbrev ouSet (s : Fin 2) : Finset S2x512x2048.Idx := (Rect.unit (s := S2x512x2048) (slab s.val) S1x512x2048.size (ou_inb s)).set

theorem wiB_set (b : Fin 11) : (wiB b).view.set = wiSet b := (View.set_reshape _ _).trans (View.set_slice_whole _ _)
theorem woB_set (b : Fin 11) : (woB b).view.set = woSet b := (View.set_reshape _ _).trans (View.set_slice_whole _ _)
theorem inS_set (s : Fin 2) : (inS s).view.set = inSet s := (View.set_reshape _ _).trans (View.set_slice_whole _ _)
theorem ouS_set (s : Fin 2) : (ouS s).view.set = ouSet s := (View.set_reshape _ _).trans (View.set_slice_whole _ _)

/-- Off the leading axis a slab's offset is zero. -/
theorem slab_rest (n : ℕ) (a : Fin 3) (h : a ≠ 0) : slab n a = 0 := by
  match a with
  | 0 => exact absurd rfl h
  | 1 => rfl
  | 2 => rfl

theorem wi_disj : ∀ b b', b ≠ b' → Disjoint (wiSet b) (wiSet b') :=
  Ring.lead_disjoint (s := S11x2048x1024) 0 1 (fun b : Fin 11 => slab b.val) S1x2048x1024.size wi_inb (fun b => (Nat.one_mul b.val).symm) rfl
theorem wo_disj : ∀ b b', b ≠ b' → Disjoint (woSet b) (woSet b') :=
  Ring.lead_disjoint (s := S11x512x2048) 0 1 (fun b : Fin 11 => slab b.val) S1x512x2048.size wo_inb (fun b => (Nat.one_mul b.val).symm) rfl
theorem in_disj : ∀ b b', b ≠ b' → Disjoint (inSet b) (inSet b') :=
  Ring.lead_disjoint (s := S2x2048x1024) 0 1 (fun b : Fin 2 => slab b.val) S1x2048x1024.size in_inb (fun b => (Nat.one_mul b.val).symm) rfl
theorem ou_disj : ∀ b b', b ≠ b' → Disjoint (ouSet b) (ouSet b') :=
  Ring.lead_disjoint (s := S2x512x2048) 0 1 (fun b : Fin 2 => slab b.val) S1x512x2048.size ou_inb (fun b => (Nat.one_mul b.val).symm) rfl
theorem wi_cover : Finset.univ.biUnion wiSet = Finset.univ :=
  Ring.lead_cover (s := S11x2048x1024) 0 1 (fun b : Fin 11 => slab b.val) S1x2048x1024.size wi_inb (fun b => (Nat.one_mul b.val).symm) (fun b => slab_rest b.val) rfl (by decide) rfl
theorem wo_cover : Finset.univ.biUnion woSet = Finset.univ :=
  Ring.lead_cover (s := S11x512x2048) 0 1 (fun b : Fin 11 => slab b.val) S1x512x2048.size wo_inb (fun b => (Nat.one_mul b.val).symm) (fun b => slab_rest b.val) rfl (by decide) rfl
theorem in_cover : Finset.univ.biUnion inSet = Finset.univ :=
  Ring.lead_cover (s := S2x2048x1024) 0 1 (fun b : Fin 2 => slab b.val) S1x2048x1024.size in_inb (fun b => (Nat.one_mul b.val).symm) (fun b => slab_rest b.val) rfl (by decide) rfl
theorem ou_cover : Finset.univ.biUnion ouSet = Finset.univ :=
  Ring.lead_cover (s := S2x512x2048) 0 1 (fun b : Fin 2 => slab b.val) S1x512x2048.size ou_inb (fun b => (Nat.one_mul b.val).symm) (fun b => slab_rest b.val) rfl (by decide) rfl

section Split
variable (c : Dev nD) (XI : Buf (Elt F) (wiM.view.loc (c : Thread nD τ))) (XO : Buf (Elt F) (woM.view.loc (c : Thread nD τ)))

/-- The input weights whole are their eleven blocks. -/
theorem wi_eq : (((c : Thread nD τ).loc main_v3) ↦{fullShare} XI : sProp 𝕄) = bigSep Finset.univ (wiP c XI) := by
  rw [Ring.pointsTo_blocks (ℓ := (c : Thread nD τ).loc main_v3) wiSet wi_disj wi_cover]
  exact bigSep_congr fun b _ => by rw [← wiB_set]; rfl
/-- The output weights whole are their eleven blocks. -/
theorem wo_eq : (((c : Thread nD τ).loc main_v7) ↦{fullShare} XO : sProp 𝕄) = bigSep Finset.univ (woP c XO) := by
  rw [Ring.pointsTo_blocks (ℓ := (c : Thread nD τ).loc main_v7) woSet wo_disj wo_cover]
  exact bigSep_congr fun b _ => by rw [← woB_set]; rfl

theorem inP_eq (s : Fin 2) (f) : inP c s f = (((c : Thread nD τ).loc cc0_scratch1) ↦[inSet s]{fullShare} f : sProp 𝕄) :=
  congrArg (fun S => (_ ↦[S]{fullShare} f : sProp 𝕄)) (inS_set s)
theorem ouP_eq (s : Fin 2) (f) : ouP c s f = (((c : Thread nD τ).loc cc0_scratch2) ↦[ouSet s]{fullShare} f : sProp 𝕄) :=
  congrArg (fun S => (_ ↦[S]{fullShare} f : sProp 𝕄)) (ouS_set s)

/-- Two pieces. -/
theorem two_pieces (Φ : Fin 2 → sProp 𝕄) : bigSep Finset.univ Φ = iprop(Φ 0 ∗ Φ 1) :=
  bigSep_univ_eq_bigSepL [(0 : Fin 2), (1 : Fin 2)] (by decide) (by decide) Φ

/-- A ring's buffer comes apart into its slots, and together again. -/
theorem in_split : iprop(∃ f : Buf (Elt F) ((c : Thread nD τ).loc cc0_scratch1), ((c : Thread nD τ).loc cc0_scratch1) ↦{fullShare} f)
    ⊢ (iprop((∃ f, inP c 0 f) ∗ ∃ f, inP c 1 f) : sProp 𝕄) := by
  simp only [inP_eq]
  iintro ⟨%f, H⟩
  ihave H2 := (entails_of_eq ((Ring.pointsTo_blocks (Ix := Unit) (Name := ℕ) (U := UU nD τ) (Lvl := ℕ) (q := fullShare) (ℓ := (c : Thread nD τ).loc cc0_scratch1) inSet in_disj in_cover f).trans (two_pieces _))) $$ H
  icases H2 with ⟨H0, H1⟩
  isplitl [H0]; · iexists f; iexact H0
  iexists f; iexact H1
theorem in_join : iprop((∃ f, inP c 0 f) ∗ ∃ f, inP c 1 f)
    ⊢ (iprop(∃ f : Buf (Elt F) ((c : Thread nD τ).loc cc0_scratch1), ((c : Thread nD τ).loc cc0_scratch1) ↦{fullShare} f) : sProp 𝕄) := by
  simp only [inP_eq]
  iintro ⟨⟨%f0, H0⟩, H1⟩
  iapply (Ring.pointsTo_blocks_join_exists (ℓ := (c : Thread nD τ).loc cc0_scratch1) inSet in_disj in_cover f0)
  irw [two_pieces]
  isplitl [H0]; · iexists f0; iexact H0
  iexact H1
theorem ou_split : iprop(∃ f : Buf (Elt F) ((c : Thread nD τ).loc cc0_scratch2), ((c : Thread nD τ).loc cc0_scratch2) ↦{fullShare} f)
    ⊢ (iprop((∃ f, ouP c 0 f) ∗ ∃ f, ouP c 1 f) : sProp 𝕄) := by
  simp only [ouP_eq]
  iintro ⟨%f, H⟩
  ihave H2 := (entails_of_eq ((Ring.pointsTo_blocks (Ix := Unit) (Name := ℕ) (U := UU nD τ) (Lvl := ℕ) (q := fullShare) (ℓ := (c : Thread nD τ).loc cc0_scratch2) ouSet ou_disj ou_cover f).trans (two_pieces _))) $$ H
  icases H2 with ⟨H0, H1⟩
  isplitl [H0]; · iexists f; iexact H0
  iexists f; iexact H1
theorem ou_join : iprop((∃ f, ouP c 0 f) ∗ ∃ f, ouP c 1 f)
    ⊢ (iprop(∃ f : Buf (Elt F) ((c : Thread nD τ).loc cc0_scratch2), ((c : Thread nD τ).loc cc0_scratch2) ↦{fullShare} f) : sProp 𝕄) := by
  simp only [ouP_eq]
  iintro ⟨⟨%f0, H0⟩, H1⟩
  iapply (Ring.pointsTo_blocks_join_exists (ℓ := (c : Thread nD τ).loc cc0_scratch2) ouSet ou_disj ou_cover f0)
  irw [two_pieces]
  isplitl [H0]; · iexists f0; iexact H0
  iexact H1

end Split

/-! ## The kernel's own cells -/

/-- The four cells, row by row. -/
def osem (k : Fin 2 × Fin 2) : SemLoc sig := SemLoc.dma (sem k.1 k.2).sem

theorem ownSemFacts : Pipeline.OwnSemFacts spec0 osem := by decide

theorem ownSems0_eq (c : Dev nD) : (Pipeline.ownSems0 (Ix := Unit) (Name := ℕ) (U := UU nD τ) (Lvl := ℕ) (Val := Elt F) (τ := τ) osem c : sProp 𝕄)
    = iprop(cellP c 0 0 ∗ cellP c 1 0 ∗ cellP c 0 1 ∗ cellP c 1 1) :=
  bigSep_univ_eq_bigSepL [((0 : Fin 2), (0 : Fin 2)), (1, 0), (0, 1), (1, 1)] (by decide) (by decide) _

/-! ## What is held between grid points -/

section Launch
variable (m : (ℓ : Loc nD τ sig) → Buf (Elt F) ℓ) (ρ : Dev nD → PrngReg)

/-- The weights as the region finds them. -/
abbrev xi (c : Dev nD) : Buf (Elt F) (wiM.view.loc (c : Thread nD τ)) := V m c main_v3
abbrev xo (c : Dev nD) : Buf (Elt F) (woM.view.loc (c : Thread nD τ)) := V m c main_v7

/-- The ring before grid point `n`: at first nothing is under way. -/
def ringAt (c : Dev nD) (n : ℕ) : sProp 𝕄 := if n = 0 then idle c (xi m c) (xo m c) 0 1 else ring c (xi m c) (xo m c) (11 * n)

def Φ (c : Dev nD) (n : ℕ) : sProp 𝕄 := iprop((∃ r, prngReg c r) ∗ (∃ fx, xnP c fx) ∗ ringAt m c n)

theorem ringAt_zero (c : Dev nD) : ringAt m c 0 = idle c (xi m c) (xo m c) 0 1 := if_pos rfl
theorem ringAt_later (c : Dev nD) {n : ℕ} (h : n ≠ 0) : ringAt m c n = ring c (xi m c) (xo m c) (11 * n) := if_neg h
theorem ringAt_end (c : Dev nD) : ringAt m c 32 = idle c (xi m c) (xo m c) 0 1 := by
  unfold ringAt ring
  rw [if_neg (by omega), if_neg (by omega)]
  rfl
theorem ringAt_next (c : Dev nD) (n : ℕ) : ring c (xi m c) (xo m c) (11 * n + k0_t1_loop.trips) = ringAt m c (n + 1) := by
  unfold ringAt
  rw [if_neg (by omega), trips_eq, Nat.mul_add]

/-! ## The staged blocks -/

abbrev hst0 (t : Fin cfg0.N) : (st0_0 t).IsWhole := hstage0_0 ((cfg0.slots t 0).cast nbuf0_0)
abbrev hst1 (t : Fin cfg0.N) : (st0_1 t).IsWhole := hstage0_1 ((cfg0.slots t 1).cast nbuf0_1)
abbrev hst2 (t : Fin cfg0.N) : (st0_2 t).IsWhole := hstage0_2 ((cfg0.slots t 2).cast nbuf0_2)
abbrev hst3 (t : Fin cfg0.N) : (st0_3 t).IsWhole := hstage0_3 ((cfg0.slots t 3).cast nbuf0_3)

/-- The output block's buffer as point `t` leaves it. -/
def outBuf (c : Dev nD) (t : Fin cfg0.N) : Buf (Elt F) ((st0_3 t).view.loc (c : Thread nD τ)) :=
  outOf c (xi m c) (xo m c) t (st0_0 t) (st0_1 t) (st0_2 t) (st0_3 t)
    ((st0_0 t).view.rep (iblk m c 0 t)) ((st0_1 t).view.rep (iblk m c 1 t)) ((st0_2 t).view.rep (iblk m c 2 t))
def outAt (c : Dev nD) (t : Fin cfg0.N) : (cfg0.win 3).block.Idx → Elt F (cfg0.win 3).elt := (st0_3 t).view.read (Elt F) (outBuf m c t)

def dats (_ : Fin 1) (c : Dev nD) : Dat τ (Elt F) Unit ℕ (UU nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
  Φ t := Φ m c t.val
  q _ := fullShare
  owed _ := 0

theorem before_w0 (c : Dev nD) (t : Fin cfg0.N) (d) : (dats m 0 c).before 0 t d = iblk m c 0 t :=
  ((dats m 0 c).before_in_eq_fetched 0 rfl (fun _ => rfl) (fun _ _ _ => rfl) (fun _ => rfl) t d).trans rfl
theorem before_w1 (c : Dev nD) (t : Fin cfg0.N) (d) : (dats m 0 c).before 1 t d = iblk m c 1 t :=
  ((dats m 0 c).before_in_eq_fetched 1 rfl (fun _ => rfl) (fun _ _ _ => rfl) (fun _ => rfl) t d).trans rfl
theorem before_w2 (c : Dev nD) (t : Fin cfg0.N) (d) : (dats m 0 c).before 2 t d = iblk m c 2 t :=
  ((dats m 0 c).before_in_eq_fetched 2 rfl (fun _ => rfl) (fun _ _ _ => rfl) (fun _ => rfl) t d).trans rfl
theorem after_w0 (c : Dev nD) (t : Fin cfg0.N) : (dats m 0 c).after 0 t = iblk m c 0 t := rfl
theorem after_w1 (c : Dev nD) (t : Fin cfg0.N) : (dats m 0 c).after 1 t = iblk m c 1 t := rfl
theorem after_w2 (c : Dev nD) (t : Fin cfg0.N) : (dats m 0 c).after 2 t = iblk m c 2 t := rfl
theorem after_w3 (c : Dev nD) (t : Fin cfg0.N) : (dats m 0 c).after 3 t = outAt m c t := rfl

/-! ## The body obligation -/

theorem defs_tc : (defs₀ (F := F)) .tc cfg0.body
    = fun a => bodyP (F := F) a.1 (win0_0.stage (a.2 0)) (hstage0_0 ((a.2 0).cast nbuf0_0)) (win0_1.stage (a.2 1)) (hstage0_1 ((a.2 1).cast nbuf0_1))
        (win0_2.stage (a.2 2)) (hstage0_2 ((a.2 2).cast nbuf0_2)) (win0_3.stage (a.2 3)) (hstage0_3 ((a.2 3).cast nbuf0_3)) := rfl
theorem prog_eq (t : Fin cfg0.N) : (defs₀ (F := F)) .tc cfg0.body (cfg0.bodyArgs t (cfg0.slots t))
    = bodyP (F := F) t (st0_0 t) (hst0 t) (st0_1 t) (hst1 t) (st0_2 t) (hst2 t) (st0_3 t) (hst3 t) :=
  (congrFun defs_tc _).trans rfl

/-- The body at any point, from the ring before it. -/
theorem body_run (c : Dev nD) (t : Fin cfg0.N) (go : Buf (Elt F) ((st0_3 t).view.loc (c : Thread nD τ))) (fx : Buf (Elt F) (xnM.view.loc (c : Thread nD τ)))
    (W : Waits sig Unit) (g0 : Buf (Elt F) ((st0_0 t).view.loc (c : Thread nD τ))) (g1 : Buf (Elt F) ((st0_1 t).view.loc (c : Thread nD τ)))
    (g2 : Buf (Elt F) ((st0_2 t).view.loc (c : Thread nD τ))) (Q : PUnit → sProp 𝕄) :
    iprop((gP c (st0_0 t) g0 ∗ gP c (st0_1 t) g1 ∗ gP c (st0_2 t) g2 ∗ oP c (st0_3 t) go ∗ xnP c fx ∗ owes (c : Thread nD τ) 0 W
          ∗ ringAt m c t.val)
        ∗ (bodyPost c (xi m c) (xo m c) t (st0_0 t) (st0_1 t) (st0_2 t) (st0_3 t) g0 g1 g2 -∗ Q ⟨⟩))
      ⊢ wp frame (wpE (defs₀ (F := F)) 𝒱₀ (c : Thread nD τ) none) Set.univ
          (bodyP t (st0_0 t) (hst0 t) (st0_1 t) (hst1 t) (st0_2 t) (hst2 t) (st0_3 t) (hst3 t)) Q := by
  by_cases ht : t.val = 0
  · rw [ht, ringAt_zero]
    exact body_first c (xi m c) (xo m c) t (st0_0 t) (hst0 t) (st0_1 t) (hst1 t) (st0_2 t) (hst2 t) (st0_3 t) (hst3 t) g0 g1 g2 ht go fx W Q
  · rw [ringAt_later m c ht]
    exact body_later c (xi m c) (xo m c) t (st0_0 t) (hst0 t) (st0_1 t) (hst1 t) (st0_2 t) (hst2 t) (st0_3 t) (hst3 t) g0 g1 g2 ht go fx W Q

set_option backward.isDefEq.respectTransparency.types false in
theorem body_obligation (c : Dev nD) : BodyObligation (dats m 0 c) (defs₀ (F := F)) 𝒱₀ () Set.univ := fun t => by
  rw [bigSep_W0, bigSep_W0]
  dsimp only
  simp only [before_w0, before_w1, before_w2, after_w0, after_w1, after_w2, after_w3]
  rw [show (dats m 0 c).Φ t.castSucc = Φ m c t.val from rfl, show (dats m 0 c).Φ t.succ = Φ m c (t.val + 1) from rfl]
  unfold Dat.owesAt Pipeline.owesWithin
  rw [show (dats m 0 c).owed t.castSucc = 0 from rfl, show (dats m 0 c).owed t.succ = 0 from rfl]
  unfold owns Φ
  iintro ⟨⟨Hr, ⟨%fx, Hx⟩, HR⟩, ⟨%W, -, HW⟩, ⟨%d0, %g0, %h0, H0⟩, ⟨%d1, %g1, %h1, H1⟩, ⟨%d2, %g2, %h2, H2⟩, ⟨%d3, %go, -, HO⟩⟩
  ihave H0' := (pointsTo_rep_entails (c : Thread nD τ) (st0_0 t) g0 fullShare) $$ H0
  ihave H1' := (pointsTo_rep_entails (c : Thread nD τ) (st0_1 t) g1 fullShare) $$ H1
  ihave H2' := (pointsTo_rep_entails (c : Thread nD τ) (st0_2 t) g2 fullShare) $$ H2
  rw [h0, h1, h2]
  sl_rw [prog_eq t]
  iapply (body_run m c t go fx W)
  isplitl [H0' H1' H2' HO Hx HW HR]
  · isplitl [H0']; · iexact H0'
    isplitl [H1']; · iexact H1'
    isplitl [H2']; · iexact H2'
    isplitl [HO]; · iexact HO
    isplitl [Hx]; · iexact Hx
    isplitl [HW]; · iexact HW
    iexact HR
  · unfold bodyPost
    iintro ⟨H0, H1, H2, HO, Hx, ⟨%W', HW⟩, HR⟩
    isplitl [Hr Hx HR]
    · isplitl [Hr]; · iexact Hr
      isplitl [Hx]; · iexact Hx
      iapply (entails_of_eq (ringAt_next m c t.val)); iexact HR
    isplitl [HW]
    · iexists W'; isplitr; · ipureintro; exact fun _ _ => Or.inl trivial
      iexact HW
    isplitl [H0]
    · iexists _; isplitr; · ipureintro; exact View.read_rep _ _
      iexact H0
    isplitl [H1]
    · iexists _; isplitr; · ipureintro; exact View.read_rep _ _
      iexact H1
    isplitl [H2]
    · iexists _; isplitr; · ipureintro; exact View.read_rep _ _
      iexact H2
    iexists _; isplitr; · ipureintro; rfl
    iexact HO

/-! ## The run -/

/-- The weights are the arrays the kernel reads itself. -/
def held : Finset (Ref sig .tc) := {main_v3, main_v7}

theorem held_eq (c : Dev nD) :
    bigSep held (fun b => (((c : Thread nD τ).loc b) ↦{fullShare} V m c b : sProp 𝕄))
      = iprop(bigSep Finset.univ (wiP c (xi m c)) ∗ bigSep Finset.univ (woP c (xo m c))) := by
  rw [← wi_eq, ← wo_eq]
  unfold held
  rw [bigSep_insert (by decide), bigSep_singleton]
  rfl

theorem into_Φ (c : Dev nD) : Pipeline.ΦD osem spec0 held (V m) c ⊢ (Φ m c 0 : sProp 𝕄) := by
  rw [Pipeline.ΦD_eq, scopedRest0_eq, ownSems0_eq, held_eq]
  unfold Φ
  rw [ringAt_zero]
  unfold idle
  iintro ⟨⟨Hx, Hi, Ho⟩, Hr, ⟨Hc0, Hc1, Hc2, Hc3⟩, Hwi, Hwo⟩
  ihave Hi' := (in_split c) $$ Hi
  icases Hi' with ⟨Hi0, Hi1⟩
  ihave Ho' := (ou_split c) $$ Ho
  icases Ho' with ⟨Ho0, Ho1⟩
  isplitl [Hr]; · iexact Hr
  isplitl [Hx]; · iexact Hx
  isplitl [Hi0]; · iexact Hi0
  isplitl [Ho0]; · iexact Ho0
  isplitl [Hc0]; · iexact Hc0
  isplitl [Hc1]; · iexact Hc1
  isplitl [Hi1]; · iexact Hi1
  isplitl [Ho1]; · iexact Ho1
  isplitl [Hc2]; · iexact Hc2
  isplitl [Hc3]; · iexact Hc3
  isplitl [Hwi]; · iexact Hwi
  iexact Hwo
theorem out_Φ (c : Dev nD) : (Φ m c 32 : sProp 𝕄) ⊢ Pipeline.ΦD osem spec0 held (V m) c := by
  rw [Pipeline.ΦD_eq, scopedRest0_eq, ownSems0_eq, held_eq]
  unfold Φ
  rw [ringAt_end]
  unfold idle
  iintro ⟨Hr, Hx, Hi0, Ho0, Hc0, Hc1, Hi1, Ho1, Hc2, Hc3, Hwi, Hwo⟩
  isplitl [Hx Hi0 Hi1 Ho0 Ho1]
  · isplitl [Hx]; · iexact Hx
    isplitl [Hi0 Hi1]
    · iapply (in_join c)
      isplitl [Hi0]; · iexact Hi0
      iexact Hi1
    iapply (ou_join c)
    isplitl [Ho0]; · iexact Ho0
    iexact Ho1
  isplitl [Hr]; · iexact Hr
  isplitl [Hc0 Hc1 Hc2 Hc3]
  · isplitl [Hc0]; · iexact Hc0
    isplitl [Hc1]; · iexact Hc1
    isplitl [Hc2]; · iexact Hc2
    iexact Hc3
  isplitl [Hwi]; · iexact Hwi
  iexact Hwo

/-- @main up to its region. -/
theorem main_to : Pipeline.HMain (Ix := Unit) (Name := ℕ) (U := UU nD τ) (Lvl := ℕ) cfgs 0 defs₀ 𝒱₀ m (main (F := F)) (V m) :=
  Pipeline.hmain_prefix cfgs 0 defs₀ 𝒱₀ m main hostOps0 hostOps0_sub hostOps0_fresh main_chain

/-- What every run leaves: the arguments as they were, and the result array as the proof data says. -/
def Post (r : PUnit × MemSt nD τ sig (Elt F)) : Prop :=
  (∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4))
  ∧ ∀ c : Dev nD, r.2.mem ((c.tc : Thread nD τ).loc main_v8) = (dats m 0 c).arrAt 3 cfg0.N

theorem post_of (r : PUnit × MemSt nD τ sig (Elt F)) (h : Pipeline.FramePost cfgs (dats m) 0 (V m) r) : Post m r :=
  ⟨fun c => ⟨((h c).2 main_arg0 (Pipeline.mem_restRefs_of main_arg0 (by decide) (by decide))).trans (V_main_arg0 m c),
    ((h c).1 1).trans (((dats m 0 c).arrAt_in 1 rfl _).trans (V_main_arg1 m c)),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c)⟩,
   fun c => (h c).1 3⟩

set_option backward.isDefEq.respectTransparency.types false in
/-- Every run of the kernel terminates, leaving `Post` and every semaphore at zero. -/
theorem run_main : θ_run defs (onTc (τ := τ) (main (F := F))) (s₀ m ρ) (fun r => Post m r ∧ r.2.sem = fun _ => 0) :=
  (θ_run defs _ _).mono (fun r h => ⟨post_of m r h.1, h.2⟩)
    (Pipeline.θ_run_frame_dma cfgs (dats m) 0 launch0 osem defs₀ 𝒱₀ ownSemFacts held (by decide) m ρ main
      (fun c => (body_obligation m c).loose) (fun c => (dats m 0 c).share_full fun _ => rfl) (fun _ _ => rfl) (V m) (main_to m) (fun _ _ => rfl)
      (fun c => into_Φ m c) (fun c => out_Φ m c)
      (fun r => Pipeline.FramePost cfgs (dats m) 0 (V m) r ∧ r.2.sem = fun _ => 0) (fun _ h => h))

end Launch

end Cert.Proof.Ffn1

end
-- ==== Proof.Ffn1.Blocks.lean ====
module

public import proofs.«01_k».proof.Proof.Ffn1.Frame
public import Idealize.ShloMosaic.Lib.StableHlo.ReadAt
public import Idealize.ShloMosaic.Lib.Pointwise
public import Idealize.ShloMosaic.Lib.VecWindow
public import Idealize.ShloMosaic.Lib.ValueLayout

/-!
# What the first half-step's kernel reads

Grid point `t` works on rows `512 t …` of the 16384, all of batch entry `t / 16`. The host packs the input weights by
blocks of 512 gate columns followed by the matching 512 of the other half.
-/

@[expose] public section

set_option maxRecDepth 16384

noncomputable section

namespace Cert.Ffn1

open Cert.Kernel3Ideal Cert.Kernel3Ideal.Gen Cert.Proof.Ffn1
open Idealize.ShloMosaic Idealize.ShloMosaic.TcCoe Idealize.ShloMosaic.Tactic
open Idealize.SL Idealize.SL.Sem

variable (m : (ℓ : Loc nD τ sig) → Buf (Elt Ideal) ℓ) (c : Dev nD)

/-- The step's arguments on a device. -/
abbrev arg0 : FVec Ideal S2x8192x2048 .f32 := m ((c : Thread nD τ).loc main_arg0)
@[inherit_doc arg0] abbrev arg1 : FVec Ideal S2x3x2048 .f32 := m ((c : Thread nD τ).loc main_arg1)
@[inherit_doc arg0] abbrev arg2 : FVec Ideal S2048 .f32 := m ((c : Thread nD τ).loc main_arg2)
@[inherit_doc arg0] abbrev arg3 : FVec Ideal S2048x11264 .f32 := m ((c : Thread nD τ).loc main_arg3)
@[inherit_doc arg0] abbrev arg4 : FVec Ideal S5632x2048 .f32 := m ((c : Thread nD τ).loc main_arg4)

/-! ## What the host lays out -/

theorem V_v5 (i : Fin 16384) (e : Fin 2048) :
    (V m c main_v5 : Vec Ideal S16384x2048 .f32) (ix2 i e)
      = arg0 m c (ix3 ⟨i.val / 8192, by omega⟩ ⟨i.val % 8192, by omega⟩ e) := by
  after_reads_at

theorem V_v6 (e : Fin 2048) : (V m c main_v6 : Vec Ideal S1x2048 .f32) (ix2 0 e) = arg2 m c (ix1 e) := by
  after_reads_at

theorem V_v7 (k : Fin 11) (j : Fin 512) (e : Fin 2048) :
    (V m c main_v7 : Vec Ideal S11x512x2048 .bf16) (ix3 k j e) = arg4 m c (ix2 ⟨k.val * 512 + j.val, by omega⟩ e) := by
  after_reads_at

theorem V_v3 (k : Fin 11) (i : Fin 2048) (j : Fin 1024) :
    (V m c main_v3 : Vec Ideal S11x2048x1024 .bf16) (ix3 k i j)
      = arg3 m c (ix2 i ⟨j.val / 512 * 5632 + k.val * 512 + j.val % 512, by omega⟩) := by
  after_reads_at

/-! ## The staged blocks -/

theorem index_x : ∀ t : Fin grid0.N, win0_0.index t (0 : Fin 2) = t.val ∧ win0_0.index t (1 : Fin 2) = 0 := by decide +kernel
theorem index_m : ∀ t : Fin grid0.N, win0_1.index t (0 : Fin 3) = t.val / 16 ∧ win0_1.index t (1 : Fin 3) = 0
    ∧ win0_1.index t (2 : Fin 3) = 0 := by decide +kernel
theorem index_g : ∀ t : Fin grid0.N, win0_2.index t (0 : Fin 2) = 0 ∧ win0_2.index t (1 : Fin 2) = 0 := by decide +kernel
theorem index_o : ∀ t : Fin grid0.N, win0_3.index t (0 : Fin 2) = t.val ∧ win0_3.index t (1 : Fin 2) = 0 := by decide +kernel

theorem lt_points (t : Fin grid0.N) : t.val < 32 := t.isLt

/-- The batch entry of a grid point, and the place of its row `r` in it. -/
abbrev batchOf (t : Fin grid0.N) : Fin 2 := ⟨t.val / 16, by have := lt_points t; omega⟩
abbrev placeOf (t : Fin grid0.N) (r : Fin 512) : Fin 8192 := ⟨512 * (t.val % 16) + r.val, by omega⟩

theorem blk_x (t : Fin grid0.N) (r : Fin 512) (e : Fin 2048) :
    (iblk m c 0 t : Vec Ideal S512x2048 .f32) (ix2 r e) = arg0 m c (ix3 (batchOf t) (placeOf t r) e) := by
  have ht := lt_points t
  obtain ⟨h0, h1⟩ := index_x t
  have h : (iblk m c 0 t : Vec Ideal S512x2048 .f32) (ix2 r e)
      = (V m c main_v5 : Vec Ideal S16384x2048 .f32) (ix2 ⟨512 * t.val + r.val, by omega⟩ e) := by
    refine congrArg (V m c main_v5 : Vec Ideal S16384x2048 .f32) (funext fun a => Fin.ext ?_)
    match a with
    | ⟨0, _⟩ => show win0_0.index t (0 : Fin 2) * 512 + 1 * r.val = 512 * t.val + r.val; omega
    | ⟨1, _⟩ => show win0_0.index t (1 : Fin 2) * 2048 + 1 * e.val = e.val; omega
  rw [h, V_v5]
  refine congrArg (arg0 m c) ((ix3_inj _ _ _ _ _ _).2 ⟨Fin.ext ?_, Fin.ext ?_, rfl⟩)
  · show (512 * t.val + r.val) / 8192 = t.val / 16; omega
  · show (512 * t.val + r.val) % 8192 = 512 * (t.val % 16) + r.val; omega

theorem blk_m (t : Fin grid0.N) (a : Fin 3) (e : Fin 2048) :
    (iblk m c 1 t : Vec Ideal S1x3x2048 .f32) (ix3 0 a e) = arg1 m c (ix3 (batchOf t) a e) := by
  obtain ⟨h0, h1, h2⟩ := index_m t
  have h : (iblk m c 1 t : Vec Ideal S1x3x2048 .f32) (ix3 0 a e)
      = (V m c main_arg1 : Vec Ideal S2x3x2048 .f32) (ix3 (batchOf t) a e) := by
    refine congrArg (V m c main_arg1 : Vec Ideal S2x3x2048 .f32) (funext fun d => Fin.ext ?_)
    match d with
    | ⟨0, _⟩ => show win0_1.index t (0 : Fin 3) * 1 + 1 * 0 = t.val / 16; omega
    | ⟨1, _⟩ => show win0_1.index t (1 : Fin 3) * 3 + 1 * a.val = a.val; omega
    | ⟨2, _⟩ => show win0_1.index t (2 : Fin 3) * 2048 + 1 * e.val = e.val; omega
  rw [h, V_main_arg1]

theorem blk_g (t : Fin grid0.N) (e : Fin 2048) :
    (iblk m c 2 t : Vec Ideal S1x2048 .f32) (ix2 0 e) = arg2 m c (ix1 e) := by
  obtain ⟨h0, h1⟩ := index_g t
  rw [← V_v6]
  refine congrArg (V m c main_v6 : Vec Ideal S1x2048 .f32) (funext fun a => Fin.ext ?_)
  match a with
  | ⟨0, _⟩ => show win0_2.index t (0 : Fin 2) * 1 + 1 * 0 = 0; omega
  | ⟨1, _⟩ => show win0_2.index t (1 : Fin 2) * 2048 + 1 * e.val = e.val; omega

/-! ## The blocks of weights, read from their slots -/

section Slots
variable (XI : Buf (Elt Ideal) (wiM.view.loc (c : Thread nD τ))) (XO : Buf (Elt Ideal) (woM.view.loc (c : Thread nD τ)))

theorem inB_emb (b : Fin 11) (i : Fin 2048) (j : Fin 1024) : (wiB b).view.emb (ix2 i j) = (ix3 b i j : S11x2048x1024.Idx) := by
  show (Rect.unit (s := S11x2048x1024) (slab b.val) S1x2048x1024.size (wi_inb b)).emb (Shape.reshapeEquiv _ (ix2 i j)) = _
  refine (congrArg _ (ValueIdx.reshapeEquiv_ix2_1ab _ i j)).trans (funext fun a => Fin.ext ?_)
  match a with
  | ⟨0, _⟩ => show b.val + 1 * 0 = b.val; omega
  | ⟨1, _⟩ => show 0 + 1 * i.val = i.val; omega
  | ⟨2, _⟩ => show 0 + 1 * j.val = j.val; omega

theorem ouB_emb (b : Fin 11) (i : Fin 512) (j : Fin 2048) : (woB b).view.emb (ix2 i j) = (ix3 b i j : S11x512x2048.Idx) := by
  show (Rect.unit (s := S11x512x2048) (slab b.val) S1x512x2048.size (wo_inb b)).emb (Shape.reshapeEquiv _ (ix2 i j)) = _
  refine (congrArg _ (ValueIdx.reshapeEquiv_ix2_1ab _ i j)).trans (funext fun a => Fin.ext ?_)
  match a with
  | ⟨0, _⟩ => show b.val + 1 * 0 = b.val; omega
  | ⟨1, _⟩ => show 0 + 1 * i.val = i.val; omega
  | ⟨2, _⟩ => show 0 + 1 * j.val = j.val; omega

theorem inS_emb (s : Fin 2) (i : Fin 2048) (j : Fin 1024) : (inS s).view.emb (ix2 i j) = (ix3 s i j : S2x2048x1024.Idx) := by
  show (Rect.unit (s := S2x2048x1024) (slab s.val) S1x2048x1024.size (in_inb s)).emb (Shape.reshapeEquiv _ (ix2 i j)) = _
  refine (congrArg _ (ValueIdx.reshapeEquiv_ix2_1ab _ i j)).trans (funext fun a => Fin.ext ?_)
  match a with
  | ⟨0, _⟩ => show s.val + 1 * 0 = s.val; omega
  | ⟨1, _⟩ => show 0 + 1 * i.val = i.val; omega
  | ⟨2, _⟩ => show 0 + 1 * j.val = j.val; omega

theorem ouS_emb (s : Fin 2) (i : Fin 512) (j : Fin 2048) : (ouS s).view.emb (ix2 i j) = (ix3 s i j : S2x512x2048.Idx) := by
  show (Rect.unit (s := S2x512x2048) (slab s.val) S1x512x2048.size (ou_inb s)).emb (Shape.reshapeEquiv _ (ix2 i j)) = _
  refine (congrArg _ (ValueIdx.reshapeEquiv_ix2_1ab _ i j)).trans (funext fun a => Fin.ext ?_)
  match a with
  | ⟨0, _⟩ => show s.val + 1 * 0 = s.val; omega
  | ⟨1, _⟩ => show 0 + 1 * i.val = i.val; omega
  | ⟨2, _⟩ => show 0 + 1 * j.val = j.val; omega

theorem bk_val (k : Fin k0_t1_loop.trips) : (Ring.bk 11 k.val).val = k.val := by
  have : k.val < 11 := k.isLt
  simp [Ring.bk, Fin.ofNat]; omega

/-- Reading a slot's slab out of both slots is reading the slot. -/
theorem inSlab_at (f : Buf (Elt Ideal) (inM.view.loc (c : Thread nD τ))) (s : Fin 2) (off : Fin 3 → ℕ) (ho : off = slab s.val)
    (inb : ∀ a, off a + S1x2048x1024.size a ≤ S2x2048x1024.size a) (i : Fin 2048) (j : Fin 1024) :
    (View.readAt (Elt Ideal) inM.view (Rect.unit (s := S2x2048x1024) off S1x2048x1024.size inb).toLoadRect f : Vec Ideal S1x2048x1024 .bf16) (ix3 0 i j)
      = ((inS s).view.read (Elt Ideal) f : Vec Ideal S2048x1024 .bf16) (ix2 i j) := by
  subst ho
  refine Eq.trans ?_ (congrArg (f : Vec Ideal S2x2048x1024 .bf16) (inS_emb s i j)).symm
  refine congrArg (f : Vec Ideal S2x2048x1024 .bf16) (funext fun a => Fin.ext ?_)
  match a with
  | ⟨0, _⟩ => show s.val + 1 * 0 = s.val; omega
  | ⟨1, _⟩ => show 0 + 1 * i.val = i.val; omega
  | ⟨2, _⟩ => show 0 + 1 * j.val = j.val; omega

theorem ouSlab_at (f : Buf (Elt Ideal) (ouM.view.loc (c : Thread nD τ))) (s : Fin 2) (off : Fin 3 → ℕ) (ho : off = slab s.val)
    (inb : ∀ a, off a + S1x512x2048.size a ≤ S2x512x2048.size a) (i : Fin 512) (j : Fin 2048) :
    (View.readAt (Elt Ideal) ouM.view (Rect.unit (s := S2x512x2048) off S1x512x2048.size inb).toLoadRect f : Vec Ideal S1x512x2048 .bf16) (ix3 0 i j)
      = ((ouS s).view.read (Elt Ideal) f : Vec Ideal S512x2048 .bf16) (ix2 i j) := by
  subst ho
  refine Eq.trans ?_ (congrArg (f : Vec Ideal S2x512x2048 .bf16) (ouS_emb s i j)).symm
  refine congrArg (f : Vec Ideal S2x512x2048 .bf16) (funext fun a => Fin.ext ?_)
  match a with
  | ⟨0, _⟩ => show s.val + 1 * 0 = s.val; omega
  | ⟨1, _⟩ => show 0 + 1 * i.val = i.val; omega
  | ⟨2, _⟩ => show 0 + 1 * j.val = j.val; omega

/-- Trip `k` reads block `k` of the input weights. -/
theorem inRead_at (t : Fin grid0.N) (k : Fin k0_t1_loop.trips) (i : Fin 2048) (j : Fin 1024) :
    (inRead c XI t k : Vec Ideal S1x2048x1024 .bf16) (ix3 0 i j) = (XI : Vec Ideal S11x2048x1024 .bf16) (ix3 (Ring.bk 11 k.val) i j) :=
  (inSlab_at c _ _ _ (slots_all t k).2.2.2.2.1 _ i j).trans
    ((congrFun (View.read_writes_whole _ _ _) (ix2 i j)).trans (congrArg (XI : Vec Ideal S11x2048x1024 .bf16) (inB_emb (Ring.bk 11 k.val) i j)))

/-- Trip `k` reads block `k` of the output weights. -/
theorem ouRead_at (t : Fin grid0.N) (k : Fin k0_t1_loop.trips) (i : Fin 512) (j : Fin 2048) :
    (ouRead c XO t k : Vec Ideal S1x512x2048 .bf16) (ix3 0 i j) = (XO : Vec Ideal S11x512x2048 .bf16) (ix3 (Ring.bk 11 k.val) i j) :=
  (ouSlab_at c _ _ _ (slots_all t k).2.2.2.2.2 _ i j).trans
    ((congrFun (View.read_writes_whole _ _ _) (ix2 i j)).trans (congrArg (XO : Vec Ideal S11x512x2048 .bf16) (ouB_emb (Ring.bk 11 k.val) i j)))

end Slots

end Cert.Ffn1

end

end
-- ==== Proof.Ffn1.Tiles.lean ====
module

public import proofs.«01_k».proof.Proof.Ffn.Tiles
public import proofs.«01_k».proof.Proof.Gen.Kernel3Ideal.Skeleton

/-!
# The first half-step's operations at an index

Up to its last block the kernel does the same operations as the one with the last normalization.
-/

@[expose] public section

set_option maxRecDepth 16384

noncomputable section

namespace Cert.Ffn1

open Idealize.ShloMosaic Idealize.ShloMosaic.Tactic Cert.Kernel3Ideal Cert.Kernel3Ideal.Gen
open Cert.Ffn (normed gated half)

theorem normed_at (x : Vec Ideal S512x2048 .f32) (g : Vec Ideal S1x2048 .f32) (scale shift : Vec Ideal S1x1x2048 .f32) (r : Fin 512) (e : Fin 2048) :
    (k0_pay4 x g scale shift : Vec Ideal S512x2048 .bf16) (ix2 r e)
      = normed (fun k => x (ix2 r k)) (fun k => g (ix2 0 k)) (fun k => scale (ix3 0 0 k)) (fun k => shift (ix3 0 0 k)) e :=
  Cert.Ffn.normed_at x g scale shift r e

theorem zero_at (r : Fin 512) (e : Fin 2048) : (k0_pay5 (F := Ideal) : Vec Ideal S512x2048 .f32) (ix2 r e) = 0 :=
  Cert.Ffn.zero_at r e

theorem trip_at (xn : Vec Ideal S512x2048 .bf16) (wi : Vec Ideal S1x2048x1024 .bf16) (o : Vec Ideal S512x2048 .f32) (wo : Vec Ideal S1x512x2048 .bf16)
    (r : Fin 512) (e : Fin 2048) :
    (k0_pay1 xn (k0_pay3 wi) o wo : Vec Ideal S512x2048 .f32) (ix2 r e)
      = o (ix2 r e) + ∑ j : Fin 512, gated (fun k => xn (ix2 r k)) (fun k => wi (ix3 0 k ⟨j.val, by omega⟩))
          (fun k => wi (ix3 0 k ⟨512 + j.val, by omega⟩)) * wo (ix3 0 j e) :=
  Cert.Ffn.trip_at xn wi o wo r e

/-- The last block: the rows and half of the scaled step. -/
theorem stepped_at (x : Vec Ideal S512x2048 .f32) (scale : Vec Ideal S1x1x2048 .f32) (o : Vec Ideal S512x2048 .f32) (r : Fin 512) (e : Fin 2048) :
    (k0_pay2 x scale o : Vec Ideal S512x2048 .f32) (ix2 r e) = x (ix2 r e) + half * scale (ix3 0 0 e) * o (ix2 r e) := by
  unfold k0_pay2 half
  pointwise

end Cert.Ffn1

end

end
-- ==== Proof.Ffn1.Reference.lean ====
module

public import proofs.«01_k».proof.Proof.Gen.Reference3Ideal.Read
public import proofs.«01_k».proof.Proof.Ffn.Reference

/-!
# The reference's first half-step at an index
-/

@[expose] public section

set_option maxRecDepth 16384

noncomputable section

namespace Cert.Ffn1

open Idealize.ShloMosaic Idealize.ShloMosaic.Tactic Cert.Reference3Ideal Cert.Reference3Ideal.Read
open Cert.Ffn (half mixed rowIn)

variable (x0 : FVec Ideal S2x8192x2048 .f32) (x1 : FVec Ideal S2x3x2048 .f32) (x2 : FVec Ideal S2048 .f32)
  (x3 : FVec Ideal S2048x11264 .f32) (x4 : FVec Ideal S5632x2048 .f32)

/-- Row `n` of batch entry `b` after the half-step. -/
def rowStep (b : Fin 2) (n : Fin 8192) (e : Fin 2048) : EReal :=
  x0 (ix3 b n e) + half * x1 (ix3 b 2 e) * mixed x3 x4 (rowIn x0 x1 x2 b n) e

/-- The same lines as the half-step before the last normalization. -/
theorem val_main_v36_at (b : Fin 2) (n : Fin 8192) (e : Fin 2048) :
    val_main_v36 (F := Ideal) x0 x1 x2 x3 x4 (ix3 b n e) = rowStep x0 x1 x2 x3 x4 b n e :=
  (show val_main_v36 (F := Ideal) x0 x1 x2 x3 x4 (ix3 b n e)
      = Cert.Reference2Ideal.Read.val_main_v36 (F := Ideal) x0 x1 x2 x3 x4 (ix3 b n e) from rfl).trans
    (Cert.Ffn.val_main_v36_at x0 x1 x2 x3 x4 b n e)

/-- The reference's result at an index. -/
theorem val_main_v37_at (i : Fin 16384) (e : Fin 2048) :
    val_main_v37 (F := Ideal) x0 x1 x2 x3 x4 (ix2 i e)
      = rowStep x0 x1 x2 x3 x4 ⟨i.val / 8192, by omega⟩ ⟨i.val % 8192, by omega⟩ e := by
  have hi : idx_main_v37 (ix2 i e) = ix3 (⟨i.val / 8192, by omega⟩ : Fin 2) (⟨i.val % 8192, by omega⟩ : Fin 8192) e := by
    refine (eq_ix3 _).trans ((ix3_inj _ _ _ _ _ _).2 ⟨?_, ?_, ?_⟩) <;> refine Fin.ext ?_ <;> simp [ix2] <;> omega
  rw [val_main_v37_apply, hi, val_main_v36_at]

end Cert.Ffn1

end

end
-- ==== Proof.Ffn1.Value.lean ====
module

public import proofs.«01_k».proof.Proof.Ffn1.Blocks
public import proofs.«01_k».proof.Proof.Ffn1.Tiles
public import proofs.«01_k».proof.Proof.Ffn1.Reference
public import proofs.«01_k».proof.Proof.Ffn.Value
public import Idealize.ShloMosaic.Lib.Pipeline.ValueKit

/-!
# What the first half-step's kernel writes

Over the extended reals the trips of a grid point add up to the whole sum over the 5632 gated products, so each row
the kernel writes is the reference's row.
-/

@[expose] public section

set_option maxRecDepth 16384

noncomputable section

namespace Cert.Ffn1

open Cert.Ffn (gated half normed term term_lt sum_term sum_term_succ unit mixed rowIn)

open Cert.Kernel3Ideal Cert.Kernel3Ideal.Gen Cert.Proof.Ffn1
open Idealize.ShloMosaic Idealize.ShloMosaic.TcCoe Idealize.ShloMosaic.Tactic
open Idealize.SL Idealize.SL.Sem

variable (m : (ℓ : Loc nD τ sig) → Buf (Elt Ideal) ℓ) (c : Dev nD) (t : Fin grid0.N)
  (a7 : Memref sig .tc .vmem S512x2048 .f32)

/-- Words `j` of trip `k`'s block give the network's term `512 k + j`. -/
theorem trip_term (k : Fin k0_t1_loop.trips) (v : Fin 2048 → EReal) (j : Fin 512) (e : Fin 2048) :
    gated v (fun i => (inRead c (xi m c) t k : Vec Ideal S1x2048x1024 .bf16) (ix3 0 i ⟨j.val, by omega⟩))
        (fun i => (inRead c (xi m c) t k : Vec Ideal S1x2048x1024 .bf16) (ix3 0 i ⟨512 + j.val, by omega⟩))
        * (ouRead c (xo m c) t k : Vec Ideal S1x512x2048 .bf16) (ix3 0 j e)
      = term (arg3 m c) (arg4 m c) v e (k.val * 512 + j.val) := by
  have hk : k.val < 11 := k.isLt
  have hb := bk_val k
  rw [term_lt _ _ _ _ _ (by omega)]
  unfold unit
  refine congrArg₂ (· * ·) (congrArg₂ (gated v) (funext fun i => ?_) (funext fun i => ?_)) ?_
  · refine (inRead_at c _ t k i _).trans ((V_v3 m c _ i _).trans (congrArg (arg3 m c) ((ix2_inj _ _ _ _).2 ⟨rfl, Fin.ext ?_⟩)))
    show j.val / 512 * 5632 + (Ring.bk 11 k.val).val * 512 + j.val % 512 = k.val * 512 + j.val
    omega
  · refine (inRead_at c _ t k i _).trans ((V_v3 m c _ i _).trans (congrArg (arg3 m c) ((ix2_inj _ _ _ _).2 ⟨rfl, Fin.ext ?_⟩)))
    show (512 + j.val) / 512 * 5632 + (Ring.bk 11 k.val).val * 512 + (512 + j.val) % 512 = 5632 + (k.val * 512 + j.val)
    omega
  · refine (ouRead_at c _ t k j e).trans ((V_v7 m c _ j e).trans (congrArg (arg4 m c) ((ix2_inj _ _ _ _).2 ⟨Fin.ext ?_, rfl⟩)))
    show (Ring.bk 11 k.val).val * 512 + j.val = k.val * 512 + j.val
    omega

/-- A stored block read back. -/
theorem back {e : EltTy} (a : Memref sig .tc .vmem S512x2048 e) (f : Buf (Elt Ideal) (a.view.loc (c : Thread nD τ))) (w : (R00).shape.Idx → Elt Ideal e) :
    View.readAt (Elt Ideal) a.view (R00).toLoadRect (a.view.writes (Elt Ideal) f [⟨R00, w⟩]) = w :=
  View.readAt_writes_full a.view f _ _ w []

/-- One trip on the output block, at an index. -/
theorem tripW_at (k : Fin k0_t1_loop.trips) (fx : Buf (Elt Ideal) (xnM.view.loc (c : Thread nD τ))) (fo : Buf (Elt Ideal) (a7.view.loc (c : Thread nD τ)))
    (r : Fin 512) (e : Fin 2048) (v : Fin 2048 → EReal)
    (hv : (fun k => (View.readAt (Elt Ideal) xnM.view (R00).toLoadRect fx : Vec Ideal S512x2048 .bf16) (ix2 r k)) = v) :
    (tripW c (xi m c) (xo m c) t a7 k fx fo : Vec Ideal S512x2048 .f32) (ix2 r e)
      = (View.readAt (Elt Ideal) a7.view (R00).toLoadRect fo : Vec Ideal S512x2048 .f32) (ix2 r e)
        + ∑ j : Fin 512, term (arg3 m c) (arg4 m c) v e (k.val * 512 + j.val) := by
  subst hv
  have h := trip_at (View.readAt (Elt Ideal) xnM.view (R00).toLoadRect fx) (inRead c (xi m c) t k)
    (View.readAt (Elt Ideal) a7.view (R00).toLoadRect fo) (ouRead c (xo m c) t k) r e
  rw [Finset.sum_congr rfl fun j _ => trip_term m c t k _ j e] at h
  exact h

/-- The output block after `n` trips: the first `512 n` terms. -/
theorem acc_at (fx : Buf (Elt Ideal) (xnM.view.loc (c : Thread nD τ))) (o0 : Buf (Elt Ideal) (a7.view.loc (c : Thread nD τ)))
    (v : Fin 512 → Fin 2048 → EReal) (hv : ∀ r k, (View.readAt (Elt Ideal) xnM.view (R00).toLoadRect fx : Vec Ideal S512x2048 .bf16) (ix2 r k) = v r k)
    (h0 : ∀ r e, (View.readAt (Elt Ideal) a7.view (R00).toLoadRect o0 : Vec Ideal S512x2048 .f32) (ix2 r e) = 0)
    (r : Fin 512) (e : Fin 2048) (n : ℕ) (hn : n ≤ 11) :
    (View.readAt (Elt Ideal) a7.view (R00).toLoadRect (oAcc c (xi m c) (xo m c) t a7 fx o0 n) : Vec Ideal S512x2048 .f32) (ix2 r e)
      = ∑ i ∈ Finset.range (n * 512), term (arg3 m c) (arg4 m c) (v r) e i := by
  induction n with
  | zero => rw [Nat.zero_mul, Finset.sum_range_zero]; exact h0 r e
  | succ n ih =>
    have hk : n < k0_t1_loop.trips := Nat.lt_of_succ_le hn
    rw [oAcc_succ _ _ _ _ _ _ _ _ hk, sum_term_succ, ← ih (Nat.le_of_succ_le hn)]
    rw [back]
    exact tripW_at m c t a7 ⟨n, hk⟩ fx _ r e (v r) (funext (hv r))

/-- A staged input block, read whole. -/
theorem whole_x (a1 : Memref sig .tc .vmem S512x2048 .f32) (x : Vec Ideal S512x2048 .f32) :
    View.readAt (Elt Ideal) a1.view (R00).toLoadRect (a1.view.rep x) = x := View.readAt_rep_full a1.view x _
theorem whole_g (a : Memref sig .tc .vmem S1x2048 .f32) (x : Vec Ideal S1x2048 .f32) :
    View.readAt (Elt Ideal) a.view (Rect.unit (s := S1x2048) ![0, 0] S1x2048.size inb_S1x2048_S1x2048_0_0).toLoadRect (a.view.rep x) = x :=
  View.readAt_rep_full a.view x _

/-- Row `n` of the three modulation rows. -/
theorem mod_at (a : Memref sig .tc .vmem S1x3x2048 .f32) (x : Vec Ideal S1x3x2048 .f32) (n : Fin 3)
    (inb : ∀ d, (![0, n.val, 0] : Fin 3 → ℕ) d + S1x1x2048.size d ≤ S1x3x2048.size d) (e : Fin 2048) :
    (View.readAt (Elt Ideal) a.view (Rect.unit (s := S1x3x2048) ![0, n.val, 0] S1x1x2048.size inb).toLoadRect (a.view.rep x)
      : Vec Ideal S1x1x2048 .f32) (ix3 0 0 e) = x (ix3 0 n e) := by
  rw [View.readAt_rep]
  refine congrArg x (funext fun d => Fin.ext ?_)
  match d with
  | ⟨0, _⟩ => rfl
  | ⟨1, _⟩ => show n.val + 1 * 0 = n.val; omega
  | ⟨2, _⟩ => show 0 + 1 * e.val = e.val; omega

section Out
variable (a1 : Memref sig .tc .vmem S512x2048 .f32) (a2 : Memref sig .tc .vmem S1x3x2048 .f32) (a3 : Memref sig .tc .vmem S1x2048 .f32)

/-- The kept block at an index. -/
theorem xn_at (r : Fin 512) (e : Fin 2048) :
    (View.readAt (Elt Ideal) xnM.view (R00).toLoadRect (xnOf c a1 a2 a3 (a1.view.rep (iblk m c 0 t)) (a2.view.rep (iblk m c 1 t)) (a3.view.rep (iblk m c 2 t)))
      : Vec Ideal S512x2048 .bf16) (ix2 r e)
      = rowIn (arg0 m c) (arg1 m c) (arg2 m c) (batchOf t) (placeOf t r) e := by
  unfold xnOf
  rw [back c xnM, whole_x, whole_g, normed_at]
  unfold rowIn
  congr 1
  · exact funext fun k => blk_x m c t r k
  · exact funext fun k => blk_g m c t k
  · exact funext fun k => (mod_at a2 (iblk m c 1 t) 1 _ k).trans (blk_m m c t 1 k)
  · exact funext fun k => (mod_at a2 (iblk m c 1 t) 0 _ k).trans (blk_m m c t 0 k)

/-- The output block at an index. -/
theorem out_at (r : Fin 512) (e : Fin 2048) :
    (a7.view.read (Elt Ideal) (outOf c (xi m c) (xo m c) t a1 a2 a3 a7 (a1.view.rep (iblk m c 0 t)) (a2.view.rep (iblk m c 1 t))
        (a3.view.rep (iblk m c 2 t))) : Vec Ideal S512x2048 .f32) (ix2 r e)
      = rowStep (arg0 m c) (arg1 m c) (arg2 m c) (arg3 m c) (arg4 m c) (batchOf t) (placeOf t r) e := by
  have ho : ∀ k : Fin 2048, (View.readAt (Elt Ideal) a7.view (R00).toLoadRect (oLoop c (xi m c) (xo m c) t a1 a2 a3 a7 (a1.view.rep (iblk m c 0 t))
        (a2.view.rep (iblk m c 1 t)) (a3.view.rep (iblk m c 2 t))) : Vec Ideal S512x2048 .f32) (ix2 r k)
      = mixed (arg3 m c) (arg4 m c) (rowIn (arg0 m c) (arg1 m c) (arg2 m c) (batchOf t) (placeOf t r)) k := by
    intro k
    rw [← sum_term]
    unfold oLoop
    refine acc_at m c t a7 _ _ (fun r => rowIn (arg0 m c) (arg1 m c) (arg2 m c) (batchOf t) (placeOf t r)) (fun r k => xn_at m c t a1 a2 a3 r k) (fun r e => ?_) r k 11 le_rfl
    unfold oZero
    rw [back c]
    exact zero_at r e
  unfold outOf
  generalize oLoop c (xi m c) (xo m c) t a1 a2 a3 a7 (a1.view.rep (iblk m c 0 t)) (a2.view.rep (iblk m c 1 t)) (a3.view.rep (iblk m c 2 t)) = fo at ho ⊢
  rw [whole_x]
  refine (congrFun (View.read_writes_full a7.view fo _ _ []) (ix2 r e)).trans ?_
  rw [stepped_at, blk_x, ho e]
  exact congrArg (fun y => arg0 m c (ix3 (batchOf t) (placeOf t r) e) + half * y * _)
    ((mod_at a2 (iblk m c 1 t) 2 _ e).trans (blk_m m c t 2 e))

end Out

/-- What the kernel leaves in its output array. -/
def G (i : S16384x2048.Idx) : EReal :=
  rowStep (arg0 m c) (arg1 m c) (arg2 m c) (arg3 m c) (arg4 m c) ⟨(i 0).val / 8192, by have : (i 0).val < 16384 := (i 0).isLt; omega⟩
    ⟨(i 0).val % 8192, by omega⟩ (i 1)

theorem outAt_at (r : Fin 512) (e : Fin 2048) :
    (outAt m c t : Vec Ideal S512x2048 .f32) (ix2 r e) = G m c (ix2 ⟨512 * t.val + r.val, by have := lt_points t; omega⟩ e) := by
  have ht := lt_points t
  refine (out_at m c t (st0_3 t) (st0_0 t) (st0_1 t) (st0_2 t) r e).trans ?_
  unfold G
  refine congrArg₂ (fun b n => rowStep (arg0 m c) (arg1 m c) (arg2 m c) (arg3 m c) (arg4 m c) b n e) (Fin.ext ?_) (Fin.ext ?_)
  · show t.val / 16 = (512 * t.val + r.val) / 8192
    omega
  · show 512 * (t.val % 16) + r.val = (512 * t.val + r.val) % 8192
    omega

theorem emb_o (r : Fin 512) (e : Fin 2048) :
    (((cfg0.win 3).blk t).view.emb (ix2 r e : S512x2048.Idx) : S16384x2048.Idx) = ix2 ⟨512 * t.val + r.val, by have := lt_points t; omega⟩ e := by
  obtain ⟨h0, h1⟩ := index_o t
  refine funext fun a => Fin.ext ?_
  match a with
  | ⟨0, _⟩ => show win0_3.index t (0 : Fin 2) * 512 + 1 * r.val = 512 * t.val + r.val; omega
  | ⟨1, _⟩ => show win0_3.index t (1 : Fin 2) * 2048 + 1 * e.val = e.val; omega

theorem covers_o : (cfg0.win 3).Covers := by decide +kernel

theorem flushed_o (y : S512x2048.Idx) :
    (outAt m c t : Vec Ideal S512x2048 .f32) y = (G m c : Vec Ideal S16384x2048 .f32) (((cfg0.win 3).blk t).view.emb y : S16384x2048.Idx) := by
  obtain ⟨r, e, rfl⟩ : ∃ (r : Fin 512) (e : Fin 2048), y = ix2 r e := ⟨_, _, eq_ix2 y⟩
  exact (outAt_at m c t r e).trans (congrArg (G m c) (emb_o t r e).symm)

/-- The output array after the run. -/
theorem final : (dats m 0 c).arrAt 3 cfg0.N = (G m c : Vec Ideal S16384x2048 .f32) := by
  refine (dats m 0 c).arrAt_eq_of_covers 3 (G m c) covers_o (fun t _ y => ?_) (Memref.isWhole_whole _)
  have h := flushed_o m c t y
  blk_simp
  rw [after_w3]
  exact h

end Cert.Ffn1

end

end
-- ==== Proof.Mix.Value.lean ====
module

public import proofs.«01_k».proof.Proof.Gen.Kernel4Ideal.Value
public import proofs.«01_k».proof.Proof.Gen.Reference4Ideal.Read
public import Idealize.ShloMosaic.Lib.StableHlo.ReadAt
public import Idealize.ShloMosaic.Lib.Pointwise
public import Idealize.ShloMosaic.Lib.VecWindow
public import Idealize.ShloMosaic.Lib.ValueLayout
public import Idealize.ShloMosaic.Lib.Pipeline.ValueKit

/-!
# The joining of the two mixers

Grid point `t` works on rows `512 t …` of the 16384, all of batch entry `t / 16`. The kernel multiplies each mixer's
rows with its half of the output weights; the reference multiplies the rows side by side with the whole.
-/

@[expose] public section

set_option maxRecDepth 16384

noncomputable section

namespace Cert.Mix

open Idealize.ShloMosaic Idealize.ShloMosaic.TcCoe Idealize.ShloMosaic.Tactic
open Idealize.SL Idealize.SL.Sem

/-! ## The reference -/

section Reference
open Cert.Reference4Ideal Cert.Reference4Ideal.Read

variable (x0 : FVec Ideal S2x8192x2048 .f32) (x1 : FVec Ideal S2x3x2048 .f32) (x2 x3 : FVec Ideal S2x8192x1024 .bf16)
  (x4 : FVec Ideal S2048x2048 .f32)

/-- Row `n` of batch entry `b`, with the mixers' part added. -/
def joined (b : Fin 2) (n : Fin 8192) (e : Fin 2048) : EReal :=
  x0 (ix3 b n e) + x1 (ix3 b 2 e) * ((∑ k : Fin 1024, x2 (ix3 b n k) * x4 (ix2 ⟨k.val, by omega⟩ e))
    + ∑ k : Fin 1024, x3 (ix3 b n k) * x4 (ix2 ⟨1024 + k.val, by omega⟩ e))

theorem val_main_v2_low (b : Fin 2) (n : Fin 8192) (k : Fin 1024) :
    val_main_v2 (F := Ideal) x2 x3 (ix3 b n ⟨k.val, by omega⟩) = x2 (ix3 b n k) := by
  unfold val_main_v2 val_main_v0 val_main_v1
  pointwise

theorem val_main_v2_high (b : Fin 2) (n : Fin 8192) (k : Fin 1024) :
    val_main_v2 (F := Ideal) x2 x3 (ix3 b n ⟨1024 + k.val, by omega⟩) = x3 (ix3 b n k) := by
  unfold val_main_v2 val_main_v0 val_main_v1
  pointwise

theorem val_main_v3_at (b : Fin 2) (n : Fin 8192) (e : Fin 2048) :
    val_main_v3 (F := Ideal) x2 x3 x4 (ix3 b n e)
      = (∑ k : Fin 1024, x2 (ix3 b n k) * x4 (ix2 ⟨k.val, by omega⟩ e)) + ∑ k : Fin 1024, x3 (ix3 b n k) * x4 (ix2 ⟨1024 + k.val, by omega⟩ e) := by
  rw [val_main_v3_apply]
  refine (Fin.sum_univ_add (a := 1024) (b := 1024) _).trans (congrArg₂ (· + ·) (Finset.sum_congr rfl fun k _ => ?_) (Finset.sum_congr rfl fun k _ => ?_))
  · rw [← val_main_v2_low x2 x3]
    exact congrArg₂ (· * ·) (congrArg _ (eq_ix3 _)) (congrArg x4 (eq_ix2 _))
  · rw [← val_main_v2_high x2 x3]
    exact congrArg₂ (· * ·) (congrArg _ (eq_ix3 _)) (congrArg x4 (eq_ix2 _))

theorem val_main_v7_at (b : Fin 2) (n : Fin 8192) (e : Fin 2048) :
    val_main_v7 (F := Ideal) x1 (ix3 b n e) = x1 (ix3 b 2 e) := by
  unfold val_main_v7 val_main_v6 val_main_v5 val_main_v4
  pointwise

/-- The reference's result at an index. -/
theorem val_main_v10_at (i : Fin 16384) (e : Fin 2048) :
    val_main_v10 (F := Ideal) x0 x1 x2 x3 x4 (ix2 i e)
      = joined x0 x1 x2 x3 x4 ⟨i.val / 8192, by omega⟩ ⟨i.val % 8192, by omega⟩ e := by
  have hi : idx_main_v10 (ix2 i e) = ix3 (⟨i.val / 8192, by omega⟩ : Fin 2) (⟨i.val % 8192, by omega⟩ : Fin 8192) e := by
    refine (eq_ix3 _).trans ((ix3_inj _ _ _ _ _ _).2 ⟨?_, ?_, ?_⟩) <;> refine Fin.ext ?_ <;> simp [ix2] <;> omega
  rw [val_main_v10_apply, hi, val_main_v9_apply, val_main_v8_apply, val_main_v7_at, val_main_v3_at]
  rfl

end Reference

/-! ## The kernel -/

open Cert.Kernel4Ideal Cert.Kernel4Ideal.Gen

/-- The body's result at an index. -/
theorem pay_at (y0 : Vec Ideal S512x1024 .bf16) (w0 : Vec Ideal S1024x2048 .bf16) (y1 : Vec Ideal S512x1024 .bf16) (w1 : Vec Ideal S1024x2048 .bf16)
    (x : Vec Ideal S512x2048 .f32) (scale : Vec Ideal S1x1x2048 .f32) (r : Fin 512) (e : Fin 2048) :
    (k0_pay1 y0 w0 y1 w1 x scale : Vec Ideal S512x2048 .f32) (ix2 r e)
      = x (ix2 r e) + scale (ix3 0 0 e) * ((∑ k : Fin 1024, y0 (ix2 r k) * w0 (ix2 k e)) + ∑ k : Fin 1024, y1 (ix2 r k) * w1 (ix2 k e)) := by
  unfold k0_pay1
  pointwise

theorem ld_mod (x : Vec Ideal S1x3x2048 .f32) (e : Fin 2048) : (View.ld x r0_4 : Vec Ideal S1x1x2048 .f32) (ix3 0 0 e) = x (ix3 0 2 e) := by
  refine congrArg x (funext fun a => Fin.ext ?_)
  match a with
  | ⟨0, _⟩ => rfl
  | ⟨1, _⟩ => rfl
  | ⟨2, _⟩ => show 0 + 1 * e.val = e.val; omega

theorem ld_low (x : Vec Ideal S2048x2048 .bf16) (k : Fin 1024) (e : Fin 2048) :
    (View.ld x r0_1 : Vec Ideal S1024x2048 .bf16) (ix2 k e) = x (ix2 ⟨k.val, by omega⟩ e) := by
  refine congrArg x (funext fun a => Fin.ext ?_)
  match a with
  | ⟨0, _⟩ => show 0 + 1 * k.val = k.val; omega
  | ⟨1, _⟩ => show 0 + 1 * e.val = e.val; omega

theorem ld_high (x : Vec Ideal S2048x2048 .bf16) (k : Fin 1024) (e : Fin 2048) :
    (View.ld x r0_2 : Vec Ideal S1024x2048 .bf16) (ix2 k e) = x (ix2 ⟨1024 + k.val, by omega⟩ e) := by
  refine congrArg x (funext fun a => Fin.ext ?_)
  match a with
  | ⟨0, _⟩ => show 1024 + 1 * k.val = 1024 + k.val; omega
  | ⟨1, _⟩ => show 0 + 1 * e.val = e.val; omega

theorem ld_mixer (x : Vec Ideal S512x1024 .bf16) (r : Fin 512) (k : Fin 1024) :
    (View.ld x r0_0 : Vec Ideal S512x1024 .bf16) (ix2 r k) = x (ix2 r k) := by
  refine congrArg x (funext fun a => Fin.ext ?_)
  match a with
  | ⟨0, _⟩ => show 0 + 1 * r.val = r.val; omega
  | ⟨1, _⟩ => show 0 + 1 * k.val = k.val; omega

theorem emb_rows (r : Fin 512) (e : Fin 2048) : (r0_3.emb (ix2 r e) : S512x2048.Idx) = ix2 r e := by
  refine funext fun a => Fin.ext ?_
  match a with
  | ⟨0, _⟩ => show 0 + 1 * r.val = r.val; omega
  | ⟨1, _⟩ => show 0 + 1 * e.val = e.val; omega

/-- What the body leaves of a block, at an index. -/
theorem out_at (x : Vec Ideal S512x2048 .f32) (md : Vec Ideal S1x3x2048 .f32) (y0 y1 : Vec Ideal S512x1024 .bf16) (w : Vec Ideal S2048x2048 .bf16)
    (r : Fin 512) (e : Fin 2048) :
    (out0_5 x md y0 y1 w : Vec Ideal S512x2048 .f32) (ix2 r e)
      = x (ix2 r e) + md (ix3 0 2 e) * ((∑ k : Fin 1024, y0 (ix2 r k) * w (ix2 ⟨k.val, by omega⟩ e))
          + ∑ k : Fin 1024, y1 (ix2 r k) * w (ix2 ⟨1024 + k.val, by omega⟩ e)) := by
  unfold out0_5
  refine (congrArg _ (emb_rows r e).symm).trans ((View.canon_cons_emb _ _ _ _).trans ?_)
  rw [pay_at, ld_mod]
  refine congrArg₂ (fun a b => a + md (ix3 0 2 e) * b) (congrArg x (emb_rows r e)) ?_
  refine congrArg₂ (· + ·) (Finset.sum_congr rfl fun k _ => ?_) (Finset.sum_congr rfl fun k _ => ?_)
  · exact congrArg₂ (· * ·) (ld_mixer y0 r k) (ld_low w k e)
  · exact congrArg₂ (· * ·) (ld_mixer y1 r k) (ld_high w k e)

variable (m : (ℓ : Loc nD τ sig) → Buf (Elt Ideal) ℓ) (c : Dev nD)

/-- The arguments on a device. -/
abbrev arg0 : FVec Ideal S2x8192x2048 .f32 := m ((c : Thread nD τ).loc main_arg0)
@[inherit_doc arg0] abbrev arg1 : FVec Ideal S2x3x2048 .f32 := m ((c : Thread nD τ).loc main_arg1)
@[inherit_doc arg0] abbrev arg2 : FVec Ideal S2x8192x1024 .bf16 := m ((c : Thread nD τ).loc main_arg2)
@[inherit_doc arg0] abbrev arg3 : FVec Ideal S2x8192x1024 .bf16 := m ((c : Thread nD τ).loc main_arg3)
@[inherit_doc arg0] abbrev arg4 : FVec Ideal S2048x2048 .f32 := m ((c : Thread nD τ).loc main_arg4)

theorem V_v0 (i : Fin 16384) (e : Fin 2048) :
    (V m c main_v0 : Vec Ideal S16384x2048 .f32) (ix2 i e) = arg0 m c (ix3 ⟨i.val / 8192, by omega⟩ ⟨i.val % 8192, by omega⟩ e) := by
  after_reads_at

theorem V_v1 (i : Fin 16384) (k : Fin 1024) :
    (V m c main_v1 : Vec Ideal S16384x1024 .bf16) (ix2 i k) = arg2 m c (ix3 ⟨i.val / 8192, by omega⟩ ⟨i.val % 8192, by omega⟩ k) := by
  after_reads_at

theorem V_v2 (i : Fin 16384) (k : Fin 1024) :
    (V m c main_v2 : Vec Ideal S16384x1024 .bf16) (ix2 i k) = arg3 m c (ix3 ⟨i.val / 8192, by omega⟩ ⟨i.val % 8192, by omega⟩ k) := by
  after_reads_at

theorem V_v3 (k e : Fin 2048) : (V m c main_v3 : Vec Ideal S2048x2048 .bf16) (ix2 k e) = arg4 m c (ix2 k e) := by
  after_reads_at

/-! ## The staged blocks -/

theorem index_x : ∀ t : Fin grid0.N, win0_0.index t (0 : Fin 2) = t.val ∧ win0_0.index t (1 : Fin 2) = 0 := by decide +kernel
theorem index_m : ∀ t : Fin grid0.N, win0_1.index t (0 : Fin 3) = t.val / 16 ∧ win0_1.index t (1 : Fin 3) = 0
    ∧ win0_1.index t (2 : Fin 3) = 0 := by decide +kernel
theorem index_r : ∀ t : Fin grid0.N, win0_2.index t (0 : Fin 2) = t.val ∧ win0_2.index t (1 : Fin 2) = 0 := by decide +kernel
theorem index_a : ∀ t : Fin grid0.N, win0_3.index t (0 : Fin 2) = t.val ∧ win0_3.index t (1 : Fin 2) = 0 := by decide +kernel
theorem index_w : ∀ t : Fin grid0.N, win0_4.index t (0 : Fin 2) = 0 ∧ win0_4.index t (1 : Fin 2) = 0 := by decide +kernel
theorem index_o : ∀ t : Fin grid0.N, win0_5.index t (0 : Fin 2) = t.val ∧ win0_5.index t (1 : Fin 2) = 0 := by decide +kernel

theorem lt_points (t : Fin grid0.N) : t.val < 32 := t.isLt

/-- The row of the 16384 that is row `r` of grid point `t`. -/
abbrev rowOf (t : Fin grid0.N) (r : Fin 512) : Fin 16384 := ⟨512 * t.val + r.val, by have := lt_points t; omega⟩

theorem blk_x (t : Fin grid0.N) (r : Fin 512) (e : Fin 2048) :
    (iblk m c 0 t : Vec Ideal S512x2048 .f32) (ix2 r e) = (V m c main_v0 : Vec Ideal S16384x2048 .f32) (ix2 (rowOf t r) e) := by
  obtain ⟨h0, h1⟩ := index_x t
  refine congrArg (V m c main_v0 : Vec Ideal S16384x2048 .f32) (funext fun a => Fin.ext ?_)
  match a with
  | ⟨0, _⟩ => show win0_0.index t (0 : Fin 2) * 512 + 1 * r.val = 512 * t.val + r.val; omega
  | ⟨1, _⟩ => show win0_0.index t (1 : Fin 2) * 2048 + 1 * e.val = e.val; omega

theorem blk_m (t : Fin grid0.N) (a : Fin 3) (e : Fin 2048) :
    (iblk m c 1 t : Vec Ideal S1x3x2048 .f32) (ix3 0 a e) = arg1 m c (ix3 ⟨(rowOf t 0).val / 8192, by omega⟩ a e) := by
  obtain ⟨h0, h1, h2⟩ := index_m t
  have ht := lt_points t
  have h : (iblk m c 1 t : Vec Ideal S1x3x2048 .f32) (ix3 0 a e)
      = (V m c main_arg1 : Vec Ideal S2x3x2048 .f32) (ix3 ⟨(rowOf t 0).val / 8192, by omega⟩ a e) := by
    refine congrArg (V m c main_arg1 : Vec Ideal S2x3x2048 .f32) (funext fun d => Fin.ext ?_)
    match d with
    | ⟨0, _⟩ => show win0_1.index t (0 : Fin 3) * 1 + 1 * 0 = (512 * t.val + 0) / 8192; omega
    | ⟨1, _⟩ => show win0_1.index t (1 : Fin 3) * 3 + 1 * a.val = a.val; omega
    | ⟨2, _⟩ => show win0_1.index t (2 : Fin 3) * 2048 + 1 * e.val = e.val; omega
  rw [h, V_main_arg1]

theorem blk_r (t : Fin grid0.N) (r : Fin 512) (k : Fin 1024) :
    (iblk m c 2 t : Vec Ideal S512x1024 .bf16) (ix2 r k) = (V m c main_v1 : Vec Ideal S16384x1024 .bf16) (ix2 (rowOf t r) k) := by
  obtain ⟨h0, h1⟩ := index_r t
  refine congrArg (V m c main_v1 : Vec Ideal S16384x1024 .bf16) (funext fun a => Fin.ext ?_)
  match a with
  | ⟨0, _⟩ => show win0_2.index t (0 : Fin 2) * 512 + 1 * r.val = 512 * t.val + r.val; omega
  | ⟨1, _⟩ => show win0_2.index t (1 : Fin 2) * 1024 + 1 * k.val = k.val; omega

theorem blk_a (t : Fin grid0.N) (r : Fin 512) (k : Fin 1024) :
    (iblk m c 3 t : Vec Ideal S512x1024 .bf16) (ix2 r k) = (V m c main_v2 : Vec Ideal S16384x1024 .bf16) (ix2 (rowOf t r) k) := by
  obtain ⟨h0, h1⟩ := index_a t
  refine congrArg (V m c main_v2 : Vec Ideal S16384x1024 .bf16) (funext fun a => Fin.ext ?_)
  match a with
  | ⟨0, _⟩ => show win0_3.index t (0 : Fin 2) * 512 + 1 * r.val = 512 * t.val + r.val; omega
  | ⟨1, _⟩ => show win0_3.index t (1 : Fin 2) * 1024 + 1 * k.val = k.val; omega

theorem blk_w (t : Fin grid0.N) (k e : Fin 2048) :
    (iblk m c 4 t : Vec Ideal S2048x2048 .bf16) (ix2 k e) = arg4 m c (ix2 k e) := by
  obtain ⟨h0, h1⟩ := index_w t
  rw [← V_v3]
  refine congrArg (V m c main_v3 : Vec Ideal S2048x2048 .bf16) (funext fun a => Fin.ext ?_)
  match a with
  | ⟨0, _⟩ => show win0_4.index t (0 : Fin 2) * 2048 + 1 * k.val = k.val; omega
  | ⟨1, _⟩ => show win0_4.index t (1 : Fin 2) * 2048 + 1 * e.val = e.val; omega

/-! ## The whole array -/

/-- What the kernel leaves in its output array. -/
def G (i : S16384x2048.Idx) : EReal :=
  joined (arg0 m c) (arg1 m c) (arg2 m c) (arg3 m c) (arg4 m c) ⟨(i 0).val / 8192, by have : (i 0).val < 16384 := (i 0).isLt; omega⟩
    ⟨(i 0).val % 8192, by omega⟩ (i 1)

theorem outAt_at (t : Fin grid0.N) (r : Fin 512) (e : Fin 2048) :
    (out0_5 (iblk m c 0 t) (iblk m c 1 t) (iblk m c 2 t) (iblk m c 3 t) (iblk m c 4 t) : Vec Ideal S512x2048 .f32) (ix2 r e)
      = G m c (ix2 (rowOf t r) e) := by
  have ht := lt_points t
  have hb : (⟨(rowOf t 0).val / 8192, by omega⟩ : Fin 2) = ⟨(rowOf t r).val / 8192, by omega⟩ :=
    Fin.ext (by show (512 * t.val + 0) / 8192 = (512 * t.val + r.val) / 8192; omega)
  refine (out_at (iblk m c 0 t) (iblk m c 1 t) (iblk m c 2 t) (iblk m c 3 t) (iblk m c 4 t) r e).trans ?_
  show _ = joined (arg0 m c) (arg1 m c) (arg2 m c) (arg3 m c) (arg4 m c) ⟨(rowOf t r).val / 8192, by omega⟩ ⟨(rowOf t r).val % 8192, by omega⟩ e
  unfold joined
  refine congrArg₂ (· + ·) ((blk_x m c t r e).trans (V_v0 m c _ e)) (congrArg₂ (· * ·) ((blk_m m c t 2 e).trans ?_)
    (congrArg₂ (· + ·) (Finset.sum_congr rfl fun k _ => ?_) (Finset.sum_congr rfl fun k _ => ?_)))
  · exact congrArg (fun b => arg1 m c (ix3 b 2 e)) hb
  · exact congrArg₂ (· * ·) ((blk_r m c t r k).trans (V_v1 m c _ k)) (blk_w m c t _ e)
  · exact congrArg₂ (· * ·) ((blk_a m c t r k).trans (V_v2 m c _ k)) (blk_w m c t _ e)

theorem emb_o (t : Fin grid0.N) (r : Fin 512) (e : Fin 2048) :
    (((cfg0.win 5).blk t).view.emb (ix2 r e : S512x2048.Idx) : S16384x2048.Idx) = ix2 (rowOf t r) e := by
  obtain ⟨h0, h1⟩ := index_o t
  refine funext fun a => Fin.ext ?_
  match a with
  | ⟨0, _⟩ => show win0_5.index t (0 : Fin 2) * 512 + 1 * r.val = 512 * t.val + r.val; omega
  | ⟨1, _⟩ => show win0_5.index t (1 : Fin 2) * 2048 + 1 * e.val = e.val; omega

theorem covers_o : (cfg0.win 5).Covers := by decide +kernel

theorem flushed_o (t : Fin grid0.N) (y : S512x2048.Idx) :
    (out0_5 (iblk m c 0 t) (iblk m c 1 t) (iblk m c 2 t) (iblk m c 3 t) (iblk m c 4 t) : Vec Ideal S512x2048 .f32) y
      = (G m c : Vec Ideal S16384x2048 .f32) (((cfg0.win 5).blk t).view.emb y : S16384x2048.Idx) := by
  obtain ⟨r, e, rfl⟩ : ∃ (r : Fin 512) (e : Fin 2048), y = ix2 r e := ⟨_, _, eq_ix2 y⟩
  exact (outAt_at m c t r e).trans (congrArg (G m c) (emb_o t r e).symm)

/-- The output array after the run. -/
theorem final : (dats m 0 c).arrAt 5 cfg0.N = (G m c : Vec Ideal S16384x2048 .f32) := by
  refine (dats m 0 c).arrAt_eq_of_covers 5 (G m c) covers_o (fun t _ y => ?_) (Memref.isWhole_whole _)
  have h := flushed_o m c t y
  blk_simp
  rw [after0_5]
  exact h

end Cert.Mix

end

end
-- ==== Proof.Attention.Softmax.lean ====
module

public import Idealize.ShloMosaic.Lib.Pointwise

/-!
# The softmax of a row, taken key block by key block

For one query row: `s k` is the score of key `k` and `w k` the value that the key carries. Over the keys `S`
seen so far, `top s S` is the largest score and `mass s w S` the sum of the values, each weighted by two to the
power of its score less the largest. `mass_step` is the step by which a block of keys is added, `div_mass` the
quotient at the end: the weighted mean with the weights of the softmax.
-/

@[expose] public section

noncomputable section

namespace Cert.Softmax

open Idealize.ShloMosaic

variable {κ : Type*}

/-- The largest score over the keys `S`. -/
def top (s : κ → EReal) (S : Finset κ) : EReal := S.sup s

/-- The values of the keys `S`, weighted by two to the power of the score less the largest one. -/
def mass (s w : κ → EReal) (S : Finset κ) : EReal := ∑ k ∈ S, Ideal.exp2 (s k - top s S) * w k

theorem fold_max (s : κ → EReal) (S : Finset κ) : S.fold max ⊥ s = top s S := rfl

theorem exp2_sub (a b : ℝ) : Ideal.exp2 ((a : EReal) - (b : EReal)) = ((2 : ℝ) ^ (a - b) : ℝ) := by
  rw [← EReal.coe_sub]; rfl

theorem exp_sub (a b : ℝ) : Ideal.exp ((a : EReal) - (b : EReal)) = (Real.exp (a - b) : ℝ) := by
  rw [← EReal.coe_sub]; rfl

/-- A nonnegative real distributes over a sum of extended reals. -/
theorem mul_sum_of_nonneg (a : ℝ) (ha : 0 ≤ a) (f : κ → EReal) (S : Finset κ) :
    (a : EReal) * ∑ k ∈ S, f k = ∑ k ∈ S, (a : EReal) * f k := by
  classical
  induction S using Finset.induction_on with
  | empty => simp
  | insert x S hx ih =>
    rw [Finset.sum_insert hx, Finset.sum_insert hx,
      EReal.left_distrib_of_nonneg_of_ne_top (by exact_mod_cast ha) (EReal.coe_ne_top a), ih]

theorem coe_sum (f : κ → ℝ) (S : Finset κ) : ((∑ k ∈ S, f k : ℝ) : EReal) = ∑ k ∈ S, (f k : EReal) := by
  classical
  induction S using Finset.induction_on with
  | empty => simp
  | insert x S hx ih => rw [Finset.sum_insert hx, Finset.sum_insert hx, EReal.coe_add, ih]

/-- The largest of finitely many real scores, of at least one, is a real. -/
theorem top_coe (σ : κ → ℝ) (S : Finset κ) (hS : S.Nonempty) :
    top (fun k => (σ k : EReal)) S = ((S.sup' hS σ : ℝ) : EReal) := by
  apply le_antisymm
  · exact Finset.sup_le fun k hk => by exact_mod_cast Finset.le_sup' σ hk
  · obtain ⟨k, hk, h⟩ := Finset.exists_mem_eq_sup' hS σ
    rw [h]; exact Finset.le_sup (f := fun k => (σ k : EReal)) hk

theorem top_union [DecidableEq κ] (s : κ → EReal) (S T : Finset κ) : top s (S ∪ T) = max (top s S) (top s T) :=
  Finset.sup_union

/-- A block of keys `T` is added to the keys `S`: what was gathered is rescaled to the new largest score. -/
theorem mass_step [DecidableEq κ] (s w : κ → EReal) (hs : ∀ k, ∃ r : ℝ, s k = r) (S T : Finset κ) (hS : S.Nonempty)
    (hd : Disjoint S T) :
    Ideal.exp2 (top s S - max (top s S) (top s T)) * mass s w S
        + ∑ k ∈ T, Ideal.exp2 (s k - max (top s S) (top s T)) * w k
      = mass s w (S ∪ T) := by
  choose σ hσ using hs
  obtain rfl : s = fun k => (σ k : EReal) := funext hσ
  rw [← top_union]
  unfold mass
  rw [Finset.sum_union hd, top_coe σ S hS, top_coe σ (S ∪ T) (hS.mono Finset.subset_union_left), exp2_sub,
    mul_sum_of_nonneg _ (Real.rpow_nonneg (by norm_num) _)]
  congr 1
  refine Finset.sum_congr rfl fun k _ => ?_
  rw [exp2_sub, exp2_sub, ← mul_assoc, ← EReal.coe_mul, ← Real.rpow_add (by norm_num)]
  congr 3; ring

/-- A step over scores that are all minus infinity changes nothing: the largest score stays. -/
theorem exp2_bot_sub (x : EReal) : Ideal.exp2 (⊥ - x) = 0 := by rw [EReal.bot_sub]; rfl

theorem exp2_self (r : ℝ) : Ideal.exp2 ((r : EReal) - r) = 1 := by
  rw [exp2_sub, sub_self, Real.rpow_zero, EReal.coe_one]

/-- The quotient at the end. The kernel's scores are the reference's divided by the logarithm of two; the
    reference weighs each value by its own quotient. -/
theorem div_mass (s t w : κ → EReal) (ht : ∀ k, ∃ r : ℝ, t k = r)
    (hst : ∀ k, s k = t k * ((1 / Real.log 2 : ℝ) : EReal)) (S : Finset κ) (hS : S.Nonempty) :
    Ideal.div (mass s w S) (mass s (fun _ => 1) S)
      = ∑ k ∈ S, Ideal.div (Ideal.exp (t k - top t S)) (∑ l ∈ S, Ideal.exp (t l - top t S)) * w k := by
  choose τ hτ using ht
  obtain rfl : t = fun k => (τ k : EReal) := funext hτ
  have hlog : 0 < Real.log 2 := Real.log_pos (by norm_num)
  obtain rfl : s = fun k => ((τ k * (1 / Real.log 2) : ℝ) : EReal) := funext fun k => by
    rw [hst, EReal.coe_mul]
  have htop : S.sup' hS (fun k => τ k * (1 / Real.log 2)) = S.sup' hS τ * (1 / Real.log 2) := by
    apply le_antisymm
    · exact Finset.sup'_le _ _ fun k hk =>
        mul_le_mul_of_nonneg_right (Finset.le_sup' τ hk) (by positivity)
    · obtain ⟨k, hk, h⟩ := Finset.exists_mem_eq_sup' hS τ
      rw [h]; exact Finset.le_sup' (fun k => τ k * (1 / Real.log 2)) hk
  have he : ∀ k, Ideal.exp2 (((τ k * (1 / Real.log 2) : ℝ) : EReal)
      - top (fun k => ((τ k * (1 / Real.log 2) : ℝ) : EReal)) S) = (Real.exp (τ k - S.sup' hS τ) : ℝ) := fun k => by
    rw [top_coe _ S hS, exp2_sub, htop, ← sub_mul, Real.rpow_def_of_pos (by norm_num)]
    congr 2
    field_simp
  have he' : ∀ k, Ideal.exp ((τ k : EReal) - top (fun k => (τ k : EReal)) S)
      = (Real.exp (τ k - S.sup' hS τ) : ℝ) := fun k => by rw [top_coe _ S hS, exp_sub]
  have hpos : 0 < ∑ l ∈ S, Real.exp (τ l - S.sup' hS τ) := Finset.sum_pos (fun _ _ => Real.exp_pos _) hS
  unfold mass
  simp only [he, he', mul_one, ← coe_sum]
  rw [Ideal.div_coe hpos.ne', mul_comm, mul_sum_of_nonneg _ (by positivity)]
  refine Finset.sum_congr rfl fun k _ => ?_
  rw [Ideal.div_coe hpos.ne', ← mul_assoc, mul_comm ((1 / _ : ℝ) : EReal)]

end Cert.Softmax

end
-- ==== Proof.Attention.Tiles.lean ====
module

public import proofs.«01_k».proof.Proof.Attention.Softmax
public import proofs.«01_k».proof.Proof.Gen.KernelIdeal.Value
public import Idealize.ShloMosaic.Lib.Pipeline.ValueKit
public import Idealize.ShloMosaic.Lib.Pipeline.ReadBack
public import Idealize.ShloMosaic.Lib.Pointwise

/-!
# One row tile of the attention kernel

The kernel walks 512 rows at a time. `newTop`, `newMass` are what it stores of a tile's largest scores and weighted
sums, from the ones before, the tile's scores and the values beside a column block of ones; each is read at an
index here, whatever the tile.
-/

@[expose] public section

set_option maxRecDepth 16384

noncomputable section

namespace Cert.KernelIdeal.Tile

open Cert.KernelIdeal Cert.KernelIdeal.Gen Idealize.ShloMosaic Idealize.ShloMosaic.Tactic

/-- A tile's largest scores after the block of keys with the scores `s`. -/
def newTop (mo : FVec Ideal S512x128 .f32) (s : FVec Ideal S512x2048 .f32) : FVec Ideal S512x128 .f32 :=
  maximumf mo (broadcastTo S512x128 (shapeCast S512x1 (multiReduction .maximumf [1] S512 s 0xFF800000#32
    reduces_S512x2048_S512 (.inl rfl) rfl) shapeCasts_S512_S512x1) broadcasts_S512x1_S512x128)

/-- The tile's largest scores, one per row, laid along a block of keys. -/
def lanes (M : FVec Ideal S512x128 .f32) : FVec Ideal S512x2048 .f32 :=
  concatenate S512x2048 1 [⟨S512x128, M⟩, ⟨S512x128, M⟩, ⟨S512x128, M⟩, ⟨S512x128, M⟩, ⟨S512x128, M⟩, ⟨S512x128, M⟩,
    ⟨S512x128, M⟩, ⟨S512x128, M⟩, ⟨S512x128, M⟩, ⟨S512x128, M⟩, ⟨S512x128, M⟩, ⟨S512x128, M⟩, ⟨S512x128, M⟩,
    ⟨S512x128, M⟩, ⟨S512x128, M⟩, ⟨S512x128, M⟩]
    concatenates_S512x128_S512x128_S512x128_S512x128_S512x128_S512x128_S512x128_S512x128_S512x128_S512x128_S512x128_S512x128_S512x128_S512x128_S512x128_S512x128_S512x2048_d1

/-- The values beside ones. -/
def withOnes (v : FVec Ideal S1x1x2048x128 .bf16) : FVec Ideal S2048x256 .bf16 :=
  concatenate S2048x256 1 [⟨S2048x128, shapeCast S2048x128 v shapeCasts_S1x1x2048x128_S2048x128⟩,
    ⟨S2048x128, broadcast S2048x128 (FloatOps.ofBits FTy.bf16 0x3F80#16)⟩] concatenates_S2048x128_S2048x128_S2048x256_d1

/-- A tile's weighted sums after the block: the sums before, rescaled, and the block's own. -/
def newMass (mo M : FVec Ideal S512x128 .f32) (acc : FVec Ideal S512x256 .f32) (s : FVec Ideal S512x2048 .f32)
    (v : FVec Ideal S2048x256 .bf16) : FVec Ideal S512x256 .f32 :=
  shapeCast S512x256 (addf
    (mulf (concatenate S512x256 1 [⟨S512x128, exp2 (subf mo M)⟩, ⟨S512x128, exp2 (subf mo M)⟩]
      concatenates_S512x128_S512x128_S512x256_d1) acc)
    (matmul dot_S512x2048_S2048x256_S512x256_1_0_0_1_n_n none (truncf .bf16 (exp2 (subf s (lanes M))) bitsLt_bf16_f32) v
      (constant S512x256 .f32 0#32))) shapeCasts_S512x256_S512x256

/-- A tile's scores: its queries against a block of keys. -/
def tileScores (q : FVec Ideal S512x256 .bf16) (k : FVec Ideal S2048x256 .bf16) : FVec Ideal S512x2048 .f32 :=
  matmul dot_S512x256_S2048x256_S512x2048_1_1_0_0_n_n none q k (constant S512x2048 .f32 0#32)

theorem ofBits_neg_inf : Ideal.ofBits .f32 0xFF800000#32 = ⊥ := by
  simp [Ideal.ofBits, Ideal.ieee]

theorem newTop_at (mo : FVec Ideal S512x128 .f32) (s : FVec Ideal S512x2048 .f32) (r : Fin 512) (l : Fin 128) :
    newTop mo s (ix2 r l) = max (mo (ix2 r l)) (Softmax.top (fun a : Fin 2048 => s (ix2 r a)) Finset.univ) := by
  unfold newTop
  pointwise [ofBits_neg_inf]
  rw [Softmax.fold_max]

theorem lanes_at (M : FVec Ideal S512x128 .f32) (r : Fin 512) (a : Fin 2048) :
    lanes M (ix2 r a) = M (ix2 r ⟨a % 128, by omega⟩) := by
  exact concatenate_replicate_apply (t := S512x2048) (s₁ := S512x128) 1 16 M _ rfl (ix2 r a) (ix2 r ⟨a % 128, by omega⟩) rfl
    fun b hb => by
      fin_cases b
      · rfl
      · exact absurd rfl hb

theorem withOnes_at (v : FVec Ideal S1x1x2048x128 .bf16) (a : Fin 2048) (e : Fin 256) :
    withOnes v (ix2 a e) = if h : e.val < 128 then v (ix4 0 0 a ⟨e, h⟩) else 1 := by
  unfold withOnes
  pointwise

theorem newMass_at (mo M : FVec Ideal S512x128 .f32) (acc : FVec Ideal S512x256 .f32) (s : FVec Ideal S512x2048 .f32)
    (v : FVec Ideal S2048x256 .bf16) (r : Fin 512) (e : Fin 256) :
    newMass mo M acc s v (ix2 r e)
      = Ideal.exp2 (mo (ix2 r ⟨e % 128, by omega⟩) - M (ix2 r ⟨e % 128, by omega⟩)) * acc (ix2 r e)
        + ∑ a : Fin 2048, Ideal.exp2 (s (ix2 r a) - M (ix2 r ⟨a % 128, by omega⟩)) * v (ix2 a e) := by
  unfold newMass
  pointwise [lanes_at]
  refine congrArg (· * _ + _) ?_
  by_cases h : e.val < 128
  · rw [dif_pos h, show (⟨e.val % 128, by omega⟩ : Fin 128) = ⟨e.val, h⟩ from Fin.ext (by simp; omega)]
    rfl
  · rw [dif_neg h, show (⟨e.val % 128, by omega⟩ : Fin 128) = ⟨e.val - 128, by omega⟩ from Fin.ext (by simp; omega)]
    rfl

theorem tileScores_at (q : FVec Ideal S512x256 .bf16) (k : FVec Ideal S2048x256 .bf16) (r : Fin 512) (a : Fin 2048) :
    tileScores q k (ix2 r a) = ∑ d : Fin 256, q (ix2 r d) * k (ix2 a d) := by
  unfold tileScores
  pointwise

/-! ## The same, row by row -/

/-- A row's largest score after a block of keys with the scores `σ`. -/
def rowTop (μ : EReal) (σ : Fin 2048 → EReal) : EReal := max μ (Softmax.top σ Finset.univ)

/-- One of a row's weighted sums after the block: `μ` are the copies kept of the largest score before, `α` the sum
    before, `w` the values of the block. -/
def rowMass (μ : Fin 128 → EReal) (σ : Fin 2048 → EReal) (α : EReal) (w : Fin 2048 → EReal) (e : Fin 256) : EReal :=
  Ideal.exp2 (μ ⟨e % 128, by omega⟩ - rowTop (μ ⟨e % 128, by omega⟩) σ) * α
    + ∑ a : Fin 2048, Ideal.exp2 (σ a - rowTop (μ ⟨a % 128, by omega⟩) σ) * w a

/-- The values beside ones, at an index. -/
def valueAt (v : FVec Ideal S1x1x2048x128 .bf16) (e : Fin 256) (a : Fin 2048) : EReal :=
  if h : e.val < 128 then v (ix4 0 0 a ⟨e, h⟩) else 1

/-- The scores of a query row against a block of keys. -/
def blockScores (q : FVec Ideal S1x1x8192x256 .bf16) (k : FVec Ideal S1x1x2048x256 .bf16) (r : Fin 8192)
    (a : Fin 2048) : EReal := ∑ d : Fin 256, q (ix4 0 0 r d) * k (ix4 0 0 a d)

/-- The scores a row takes up at a grid point: the last 512 rows take up the ones kept from the point before. -/
def rowScores (q : FVec Ideal S1x1x8192x256 .bf16) (k : FVec Ideal S1x1x2048x256 .bf16) (s : FVec Ideal S512x2048 .f32)
    (r : Fin 8192) (a : Fin 2048) : EReal :=
  if r.val < 7680 then blockScores q k r a else s (ix2 ⟨r.val - 7680, by omega⟩ a)

/-- The values that go with them. -/
def rowValues (v vp : FVec Ideal S1x1x2048x128 .bf16) (r : Fin 8192) (e : Fin 256) (a : Fin 2048) : EReal :=
  if r.val < 7680 then valueAt v e a else valueAt vp e a

theorem top_piece (mo : FVec Ideal S512x128 .f32) (s : FVec Ideal S512x2048 .f32) (r : Fin 512) (l : Fin 128)
    (h : Shape.ShapeCasts S512x128 S512x128) (μ : EReal) (σ : Fin 2048 → EReal) (hμ : mo (ix2 r l) = μ)
    (hσ : ∀ a, s (ix2 r a) = σ a) :
    shapeCast S512x128 (newTop mo s) h (ix2 r l) = rowTop μ σ := by
  rw [shapeCast_self, newTop_at, hμ]
  exact congrArg (fun f => max μ (Softmax.top f Finset.univ)) (funext hσ)

theorem mass_piece (mo : FVec Ideal S512x128 .f32) (acc : FVec Ideal S512x256 .f32) (s : FVec Ideal S512x2048 .f32)
    (v : FVec Ideal S1x1x2048x128 .bf16) (r : Fin 512) (e : Fin 256) (μ : Fin 128 → EReal) (σ : Fin 2048 → EReal)
    (α : EReal) (w : Fin 2048 → EReal) (hμ : ∀ l, mo (ix2 r l) = μ l) (hσ : ∀ a, s (ix2 r a) = σ a)
    (hα : acc (ix2 r e) = α) (hw : ∀ a, valueAt v e a = w a) :
    newMass mo (newTop mo s) acc s (withOnes v) (ix2 r e) = rowMass μ σ α w e := by
  obtain rfl : (fun a => s (ix2 r a)) = σ := funext hσ
  obtain rfl : (fun l => mo (ix2 r l)) = μ := funext hμ
  obtain rfl : valueAt v e = w := funext hw
  obtain rfl := hα
  rw [newMass_at]
  simp only [newTop_at, withOnes_at]
  rfl

theorem cast_queries (X : FVec Ideal S1x1x512x256 .bf16) (r : Fin 512) (d : Fin 256) :
    shapeCast S512x256 X shapeCasts_S1x1x512x256_S512x256 (ix2 r d) = X (ix4 0 0 r d) := by
  pointwise

theorem cast_keys (X : FVec Ideal S1x1x2048x256 .bf16) (a : Fin 2048) (d : Fin 256) :
    shapeCast S2048x256 X shapeCasts_S1x1x2048x256_S2048x256 (ix2 a d) = X (ix4 0 0 a d) := by
  pointwise

/-- A tile's scores, its queries loaded from the block. -/
theorem scores_piece (q : FVec Ideal S1x1x8192x256 .bf16) (k : FVec Ideal S1x1x2048x256 .bf16) (o : ℕ)
    (inb : ∀ a, (![0, 0, o, 0] : Fin 4 → ℕ) a + (![1, 1, 512, 256] : Fin 4 → ℕ) a ≤ S1x1x8192x256.size a)
    (x0 : Fin 512) (a : Fin 2048) (y0 : Fin 8192) (h0 : y0.val = o + x0.val) :
    tileScores (shapeCast S512x256 (View.ld (Val := Elt Ideal) (e' := .bf16) q (Rect.unit (s := S1x1x8192x256) ![0, 0, o, 0] ![1, 1, 512, 256] inb))
        shapeCasts_S1x1x512x256_S512x256) (shapeCast S2048x256 k shapeCasts_S1x1x2048x256_S2048x256) (ix2 x0 a)
      = blockScores q k y0 a := by
  rw [tileScores_at]
  refine Finset.sum_congr rfl fun d _ => congrArg₂ (· * ·) ((cast_queries _ _ _).trans ?_) (cast_keys _ _ _)
  refine View.ld_unit_apply_of _ _ _ _ _ _ fun b => ?_
  fin_cases b <;> simp [ix4] <;> omega

theorem ld_rows {n : ℕ} (X : (⟨2, ![8192, n]⟩ : Shape).Idx → EReal) (o : ℕ)
    (inb : ∀ a, (![o, 0] : Fin 2 → ℕ) a + (![512, n] : Fin 2 → ℕ) a ≤ (⟨2, ![8192, n]⟩ : Shape).size a)
    (x0 : Fin 512) (x1 : Fin n) (y0 : Fin 8192) (h0 : y0.val = o + x0.val) :
    View.ld (Val := Elt Ideal) (e' := .f32) X (Rect.unit (s := ⟨2, ![8192, n]⟩) ![o, 0] ![512, n] inb) (ix2 x0 x1) = X (ix2 y0 x1) := by
  refine View.ld_unit_apply_of _ _ _ _ _ _ fun a => ?_
  fin_cases a <;> simp [ix2] <;> omega

/-! ## A buffer stored tile by tile, read in a row -/

/-- The last store to a buffer holds the row, or else the earlier stores are read. -/
theorem canon_rows {n : ℕ} (o : ℕ)
    (inb : ∀ a, (![o, 0] : Fin 2 → ℕ) a + (![512, n] : Fin 2 → ℕ) a ≤ (⟨2, ![8192, n]⟩ : Shape).size a)
    (w : (⟨2, ![512, n]⟩ : Shape).Idx → EReal) (L : List (View.Piece (Elt Ideal) ⟨2, ![8192, n]⟩ .f32))
    (y0 : Fin 8192) (y1 : Fin n) (v : EReal)
    (h2 : y0.val < o ∨ o + 512 ≤ y0.val → View.canon L (ix2 y0 y1) = v)
    (h1 : ∀ x0 : Fin 512, y0.val = o + x0.val → w (ix2 x0 y1) = v) :
    View.canon ((⟨Rect.unit ![o, 0] ![512, n] inb, w⟩ : View.Piece (Elt Ideal) ⟨2, ![8192, n]⟩ .f32) :: L) (ix2 y0 y1) = v := by
  by_cases h : o ≤ y0.val ∧ y0.val < o + 512
  · have e : (Rect.unit (s := ⟨2, ![8192, n]⟩) ![o, 0] ![512, n] inb).emb (ix2 ⟨y0.val - o, by omega⟩ y1) = ix2 y0 y1 := by
      funext a; refine Fin.ext ?_
      rw [Rect.emb_apply]
      fin_cases a <;> simp [ix2, Rect.unit] <;> omega
    rw [← e]
    exact (View.canon_cons_emb _ _ _ _).trans (h1 ⟨y0.val - o, by omega⟩ (by simp; omega))
  · refine (View.canon_cons_of_not_mem _ _ ?_).trans (h2 (by omega))
    intro hm
    obtain ⟨x, hx⟩ := (Rect.unit (s := ⟨2, ![8192, n]⟩) ![o, 0] ![512, n] inb).exists_idx_of_mem hm
    have hx0 : (x 0).val < 512 := (x 0).isLt
    have h3 : o + (x 0).val = y0.val := (Rect.idx_unit_val _ _ _ x 0).symm.trans
      (congrArg (fun j : Shape.Idx ⟨2, ![8192, n]⟩ => (j 0).val) hx)
    omega

end Cert.KernelIdeal.Tile

end

end
-- ==== Proof.Attention.Cases.lean ====
module

public import proofs.«01_k».proof.Proof.Attention.Tiles

/-!
# What a grid point of the attention kernel leaves behind

The first point of a head starts the scores and sums from the context and takes up the first block of keys, the
points between take up one block each, the last one also brings the last 512 rows up to date and divides.
-/

@[expose] public section

set_option maxRecDepth 16384

noncomputable section

namespace Cert.KernelIdeal.Tile

open Cert.KernelIdeal Cert.KernelIdeal.Gen
open Idealize.ShloMosaic Idealize.ShloMosaic.TcCoe Idealize.ShloMosaic.Tactic
open Idealize.SL Idealize.SL.Sem

variable (c : Dev nD) (i : grid0.Coords) (arg4 : Memref sig .tc .vmem S1x1x8192x256 .bf16) (harg4 : arg4.IsWhole)
  (arg5 : Memref sig .tc .vmem S1x1x2048x256 .bf16) (harg5 : arg5.IsWhole)
  (arg6 : Memref sig .tc .vmem S1x1x2048x128 .bf16) (harg6 : arg6.IsWhole)
  (arg7 : Memref sig .tc .vmem S1x1x2048x128 .bf16) (harg7 : arg7.IsWhole)
  (arg8 : Memref sig .tc .vmem S1x1x256x256 .bf16) (harg8 : arg8.IsWhole)
  (arg9 : Memref sig .tc .vmem S1x1x256x128 .bf16) (harg9 : arg9.IsWhole)
  (arg10 : Memref sig .tc .vmem S1x8192x128 .bf16) (harg10 : arg10.IsWhole)
  (arg11 : Memref sig .tc .vmem S8192x128 .f32) (harg11 : arg11.IsWhole)
  (arg12 : Memref sig .tc .vmem S8192x256 .f32) (harg12 : arg12.IsWhole)
  (arg13 : Memref sig .tc .vmem S512x2048 .f32) (harg13 : arg13.IsWhole)
  (x0 : Vec Ideal S1x1x8192x256 .bf16) (x1 : Vec Ideal S1x1x2048x256 .bf16) (x2 : Vec Ideal S1x1x2048x128 .bf16)
  (x3 : Vec Ideal S1x1x2048x128 .bf16) (x4 : Vec Ideal S1x1x256x256 .bf16) (x5 : Vec Ideal S1x1x256x128 .bf16)
  (xs0 : Vec Ideal S8192x128 .f32) (xs1 : Vec Ideal S8192x256 .f32) (xs2 : Vec Ideal S512x2048 .f32)

theorem kept_scores (q : FVec Ideal S1x1x8192x256 .bf16) (k : FVec Ideal S1x1x2048x256 .bf16) (s : FVec Ideal S512x2048 .f32)
    (x : Fin 512) (a : Fin 2048) (r : Fin 8192) (h0 : r.val = 7680 + x.val) : s (ix2 x a) = rowScores q k s r a := by
  rw [rowScores, if_neg (by omega)]
  exact congrArg (fun t => s (ix2 t a)) (Fin.ext (by simp; omega))

theorem top_B (hc0 : ¬cond0_0 i) (hc1 : ¬cond0_1 i) (r : Fin 8192) (l : Fin 128) :
    sout0_B_0 (F := Ideal) c i arg4 harg4 arg5 harg5 arg6 harg6 arg7 harg7 arg8 harg8 arg9 harg9 arg10 harg10 arg11 harg11 arg12 harg12 arg13 harg13 hc0 hc1 x0 x1 x2 x3 x4 x5 xs0 xs1 xs2 (ix2 r l)
      = rowTop (xs0 (ix2 r l)) (rowScores x0 x1 xs2 r) := by
  unfold sout0_B_0
  frame_open
  simp (disch := decide) only [↓ View.readCov_skip, ↓ View.readCov_cons_toLoadRect, ↓ View.readCov_fill]
  frame_out
  iterate 16 refine canon_rows _ _ _ _ _ _ _ (fun h => ?_) (fun x h0 => ?_)
  all_goals first
    | (exfalso; omega)
    | skip
  all_goals open_payloads
  all_goals first
    | (refine top_piece _ _ _ _ _ _ _ (ld_rows _ _ _ _ _ _ h0) fun a => ?_
       refine (scores_piece _ _ _ _ _ _ _ h0).trans ?_
       rw [rowScores, if_pos (by omega)])
    | (refine top_piece _ _ _ _ _ _ _ (ld_rows _ _ _ _ _ _ h0) fun a => ?_
       exact kept_scores _ _ _ _ _ _ h0)

theorem mass_B (hc0 : ¬cond0_0 i) (hc1 : ¬cond0_1 i) (r : Fin 8192) (e : Fin 256) :
    sout0_B_1 (F := Ideal) c i arg4 harg4 arg5 harg5 arg6 harg6 arg7 harg7 arg8 harg8 arg9 harg9 arg10 harg10 arg11 harg11 arg12 harg12 arg13 harg13 hc0 hc1 x0 x1 x2 x3 x4 x5 xs0 xs1 xs2 (ix2 r e)
      = rowMass (fun l => xs0 (ix2 r l)) (rowScores x0 x1 xs2 r) (xs1 (ix2 r e)) (rowValues x3 x2 r e) e := by
  unfold sout0_B_1
  frame_open
  simp (disch := decide) only [↓ View.readCov_skip, ↓ View.readCov_cons_toLoadRect, ↓ View.readCov_fill]
  frame_out
  iterate 16 refine canon_rows _ _ _ _ _ _ _ (fun h => ?_) (fun x h0 => ?_)
  all_goals first
    | (exfalso; omega)
    | skip
  all_goals open_payloads
  all_goals first
    | (refine mass_piece _ _ _ _ _ _ _ _ _ _ (fun l => ld_rows _ _ _ _ _ _ h0) (fun a => ?_) (ld_rows _ _ _ _ _ _ h0) fun a => ?_
       · refine (scores_piece _ _ _ _ _ _ _ h0).trans ?_
         rw [rowScores, if_pos (by omega)]
       · rw [rowValues, if_pos (by omega)])
    | (refine mass_piece _ _ _ _ _ _ _ _ _ _ (fun l => ld_rows _ _ _ _ _ _ h0) (fun a => ?_) (ld_rows _ _ _ _ _ _ h0) fun a => ?_
       · exact kept_scores _ _ _ _ _ _ h0
       · rw [rowValues, if_neg (by omega)])

theorem scores_B (hc0 : ¬cond0_0 i) (hc1 : ¬cond0_1 i) (p : Fin 512) (a : Fin 2048) :
    sout0_B_2 (F := Ideal) c i arg4 harg4 arg5 harg5 arg6 harg6 arg7 harg7 arg8 harg8 arg9 harg9 arg10 harg10 arg11 harg11 arg12 harg12 arg13 harg13 hc0 hc1 x0 x1 x2 x3 x4 x5 xs0 xs1 xs2 (ix2 p a)
      = blockScores x0 x1 ⟨7680 + p, by omega⟩ a := by
  unfold sout0_B_2
  frame_open
  simp (disch := decide) only [↓ View.readCov_skip, ↓ View.readCov_cons_toLoadRect, ↓ View.readCov_fill]
  frame_out
  open_payloads
  rw [shapeCast_self]
  exact scores_piece x0 x1 7680 _ p a ⟨7680 + p, by omega⟩ rfl

theorem top_A (hc0 : cond0_0 i) (hc1 : ¬cond0_1 i) (r : Fin 8192) (l : Fin 128) :
    sout0_A_0 (F := Ideal) c i arg4 harg4 arg5 harg5 arg6 harg6 arg7 harg7 arg8 harg8 arg9 harg9 arg10 harg10 arg11 harg11 arg12 harg12 arg13 harg13 hc0 hc1 x0 x1 x2 x3 x4 x5 (ix2 r l)
      = rowTop (k0_pay7 x0 x4 (ix2 r l)) (rowScores x0 x1 k0_pay9 r) := by
  unfold sout0_A_0
  frame_open
  simp (disch := decide) only [↓ View.readCov_skip, ↓ View.readCov_cons_toLoadRect, ↓ View.readCov_fill]
  frame_out
  generalize k0_pay7 x0 x4 = xs0
  generalize k0_pay9 (F := Ideal) = xs2
  iterate 16 refine canon_rows _ _ _ _ _ _ _ (fun h => ?_) (fun x h0 => ?_)
  all_goals first
    | (exfalso; omega)
    | skip
  all_goals open_payloads
  all_goals first
    | (refine top_piece _ _ _ _ _ _ _ (ld_rows _ _ _ _ _ _ h0) fun a => ?_
       refine (scores_piece _ _ _ _ _ _ _ h0).trans ?_
       rw [rowScores, if_pos (by omega)])
    | (refine top_piece _ _ _ _ _ _ _ (ld_rows _ _ _ _ _ _ h0) fun a => ?_
       exact kept_scores _ _ _ _ _ _ h0)

theorem mass_A (hc0 : cond0_0 i) (hc1 : ¬cond0_1 i) (r : Fin 8192) (e : Fin 256) :
    sout0_A_1 (F := Ideal) c i arg4 harg4 arg5 harg5 arg6 harg6 arg7 harg7 arg8 harg8 arg9 harg9 arg10 harg10 arg11 harg11 arg12 harg12 arg13 harg13 hc0 hc1 x0 x1 x2 x3 x4 x5 (ix2 r e)
      = rowMass (fun l => k0_pay7 x0 x4 (ix2 r l)) (rowScores x0 x1 k0_pay9 r) (k0_pay8 x0 x4 x5 (ix2 r e))
          (rowValues x3 x2 r e) e := by
  unfold sout0_A_1
  frame_open
  simp (disch := decide) only [↓ View.readCov_skip, ↓ View.readCov_cons_toLoadRect, ↓ View.readCov_fill]
  frame_out
  generalize k0_pay7 x0 x4 = xs0
  generalize k0_pay9 (F := Ideal) = xs2
  generalize k0_pay8 x0 x4 x5 = xs1
  iterate 16 refine canon_rows _ _ _ _ _ _ _ (fun h => ?_) (fun x h0 => ?_)
  all_goals first
    | (exfalso; omega)
    | skip
  all_goals open_payloads
  all_goals first
    | (refine mass_piece _ _ _ _ _ _ _ _ _ _ (fun l => ld_rows _ _ _ _ _ _ h0) (fun a => ?_) (ld_rows _ _ _ _ _ _ h0) fun a => ?_
       · refine (scores_piece _ _ _ _ _ _ _ h0).trans ?_
         rw [rowScores, if_pos (by omega)]
       · rw [rowValues, if_pos (by omega)])
    | (refine mass_piece _ _ _ _ _ _ _ _ _ _ (fun l => ld_rows _ _ _ _ _ _ h0) (fun a => ?_) (ld_rows _ _ _ _ _ _ h0) fun a => ?_
       · exact kept_scores _ _ _ _ _ _ h0
       · rw [rowValues, if_neg (by omega)])

theorem scores_A (hc0 : cond0_0 i) (hc1 : ¬cond0_1 i) (p : Fin 512) (a : Fin 2048) :
    sout0_A_2 (F := Ideal) c i arg4 harg4 arg5 harg5 arg6 harg6 arg7 harg7 arg8 harg8 arg9 harg9 arg10 harg10 arg11 harg11 arg12 harg12 arg13 harg13 hc0 hc1 x0 x1 x2 x3 x4 x5 (ix2 p a)
      = blockScores x0 x1 ⟨7680 + p, by omega⟩ a := by
  unfold sout0_A_2
  frame_open
  simp (disch := decide) only [↓ View.readCov_skip, ↓ View.readCov_cons_toLoadRect, ↓ View.readCov_fill]
  frame_out
  open_payloads
  rw [shapeCast_self]
  exact scores_piece x0 x1 7680 _ p a ⟨7680 + p, by omega⟩ rfl

/-- A row's weighted sums at the last point of a head. -/
def lastMass (r : Fin 8192) (e : Fin 256) : EReal :=
  if r.val < 7680 then
    rowMass (fun l => xs0 (ix2 r l)) (rowScores x0 x1 xs2 r) (xs1 (ix2 r e)) (rowValues x3 x2 r e) e
  else
    rowMass (fun l => rowTop (xs0 (ix2 r l)) (rowScores x0 x1 xs2 r)) (blockScores x0 x1 r)
      (rowMass (fun l => xs0 (ix2 r l)) (rowScores x0 x1 xs2 r) (xs1 (ix2 r e)) (rowValues x3 x2 r e) e) (valueAt x3 e) e

theorem readCov_whole (V : View sig .tc .vmem S8192x256 .f32) (L : List (View.Piece (Elt Ideal) S8192x256 .f32))
    (inb : ∀ a, (![0, 0] : Fin 2 → ℕ) a + (![8192, 256] : Fin 2 → ℕ) a ≤ S8192x256.size a) (r : Fin 8192) (e : Fin 256) :
    V.readCov L (Rect.unit (s := S8192x256) ![0, 0] ![8192, 256] inb).toLoadRect (ix2 r e) = View.canon L (ix2 r e) := by
  rw [View.readCov_eq_canon']
  refine congrArg (View.canon L) (funext fun a => Fin.ext ?_)
  refine (Rect.idx_unit_val _ _ _ _ a).trans ?_
  fin_cases a <;> exact Nat.zero_add _

theorem quotient_at (acc : FVec Ideal S8192x256 .f32) (r : Fin 8192) (e : Fin 128) :
    k0_pay4 (F := Ideal) acc (ix3 0 r e) = Ideal.div (acc (ix2 r ⟨e, by omega⟩)) (acc (ix2 r ⟨128 + e, by omega⟩)) := by
  unfold k0_pay4
  pointwise

theorem out_C (hc0 : ¬cond0_0 i) (hc1 : cond0_1 i) (r : Fin 8192) (e : Fin 128) :
    out0_C_6 (F := Ideal) c i arg4 harg4 arg5 harg5 arg6 harg6 arg7 harg7 arg8 harg8 arg9 harg9 arg10 harg10 arg11 harg11 arg12 harg12 arg13 harg13 hc0 hc1 x0 x1 x2 x3 x4 x5 xs0 xs1 xs2 (ix3 0 r e)
      = Ideal.div (lastMass x0 x1 x2 x3 xs0 xs1 xs2 r ⟨e, by omega⟩)
          (lastMass x0 x1 x2 x3 xs0 xs1 xs2 r ⟨128 + e, by omega⟩) := by
  unfold out0_C_6
  frame_open
  simp (disch := decide) only [↓ View.readCov_skip, ↓ View.readCov_cons_toLoadRect, ↓ View.readCov_fill]
  frame_out
  refine (quotient_at _ r e).trans (congrArg₂ Ideal.div ?_ ?_)
  all_goals
    refine (readCov_whole _ _ _ _ _).trans ?_
    iterate 17 refine canon_rows _ _ _ _ _ _ _ (fun h => ?_) (fun x h0 => ?_)
    all_goals first
      | (exfalso; omega)
      | skip
    all_goals unfold lastMass
    all_goals open_payloads
    all_goals first
      | (rw [if_pos (by omega)]
         refine mass_piece _ _ _ _ _ _ _ _ _ _ (fun l => ld_rows _ _ _ _ _ _ h0) (fun a => ?_) (ld_rows _ _ _ _ _ _ h0) fun a => ?_
         · refine (scores_piece _ _ _ _ _ _ _ h0).trans ?_
           rw [rowScores, if_pos (by omega)]
         · rw [rowValues, if_pos (by omega)])
      | (rw [if_neg (by omega)]
         refine mass_piece _ _ _ _ _ _ _ _ _ _
           (fun l => top_piece _ _ _ _ _ _ _ (ld_rows _ _ _ _ _ _ h0) fun a => ?_)
           (fun a => ?_)
           (mass_piece _ _ _ _ _ _ _ _ _ _ (fun l => ld_rows _ _ _ _ _ _ h0) (fun a => ?_) (ld_rows _ _ _ _ _ _ h0)
             fun a => ?_) fun a => rfl
         · exact kept_scores _ _ _ _ _ _ h0
         · rw [shapeCast_self]
           exact scores_piece _ _ _ _ _ _ _ h0
         · exact kept_scores _ _ _ _ _ _ h0
         · rw [rowValues, if_neg (by omega)])

/-! ## The start from the context -/

/-- The scores of a query row against the context. -/
def contextScores (q : FVec Ideal S1x1x8192x256 .bf16) (k : FVec Ideal S1x1x256x256 .bf16) (r : Fin 8192)
    (a : Fin 256) : EReal := ∑ d : Fin 256, q (ix4 0 0 r d) * k (ix4 0 0 a d)

theorem pay5_at (r : Fin 8192) (a : Fin 256) : k0_pay5 (F := Ideal) x0 x4 (ix2 r a) = contextScores x0 x4 r a := by
  unfold k0_pay5 contextScores
  pointwise

theorem pay6_at (r : Fin 8192) : k0_pay6 (F := Ideal) x0 x4 (ix2 r 0) = Softmax.top (contextScores x0 x4 r) Finset.univ := by
  unfold k0_pay6
  pointwise [ofBits_neg_inf, pay5_at]
  rw [Softmax.fold_max]

theorem pay7_at (r : Fin 8192) (l : Fin 128) :
    k0_pay7 (F := Ideal) x0 x4 (ix2 r l) = Softmax.top (contextScores x0 x4 r) Finset.univ := by
  unfold k0_pay7
  pointwise [pay6_at]

theorem pay8_at (r : Fin 8192) (e : Fin 256) :
    k0_pay8 (F := Ideal) x0 x4 x5 (ix2 r e)
      = Softmax.mass (contextScores x0 x4 r) (fun a : Fin 256 => if h : e.val < 128 then x5 (ix4 0 0 a ⟨e, h⟩) else 1)
          Finset.univ := by
  unfold k0_pay8 Softmax.mass
  pointwise [pay6_at, pay5_at]
  rfl

theorem pay9_at (p : Fin 512) (a : Fin 2048) : k0_pay9 (F := Ideal) (ix2 p a) = ⊥ := by
  unfold k0_pay9
  pointwise [ofBits_neg_inf]

end Cert.KernelIdeal.Tile

end

end
-- ==== Proof.Attention.Reference.lean ====
module

public import proofs.«01_k».proof.Proof.Attention.Softmax
public import proofs.«01_k».proof.Proof.Gen.ReferenceIdeal.Read
public import Idealize.ShloMosaic.Lib.Pointwise
public import Idealize.ShloMosaic.Lib.Tactic.CleanTypes

/-!
# The reference attention at an index

`score`, `key` and `value` say what the reference's scores, keys and values are; `val_main_v25_at` reads the
reference's result at an index as the softmax-weighted sum of the values.
-/

@[expose] public section

set_option maxRecDepth 16384

noncomputable section

namespace Cert.Attention

open Idealize.ShloMosaic Idealize.ShloMosaic.Tactic Cert.ReferenceIdeal Cert.ReferenceIdeal.Read

variable (x0 : FVec Ideal S2x8192x8x192 .f32) (x1 : FVec Ideal S2x8192x8x128 .f32) (x2 : FVec Ideal S2x8192x64 .f32) (x3 : FVec Ideal S2x8192x8x128 .f32)
  (x4 : FVec Ideal S2x256x8x128 .f32) (x5 : FVec Ideal S2x256x64 .f32) (x6 : FVec Ideal S2x256x8x128 .f32)

/-- Component `d` of key `k` of head `h`: a latent key for `k < 8192`, a context key after; 128 components of the
    head's own, then 64 rotary ones that all heads share. -/
def key (b : Fin 2) (h : Fin 8) (k : Fin 8448) (d : Fin 192) : EReal :=
  if hk : k.val < 8192 then
    if hd : d.val < 128 then x1 (ix4 b ⟨k, hk⟩ h ⟨d, hd⟩) else x2 (ix3 b ⟨k, hk⟩ ⟨d - 128, by omega⟩)
  else if hd : d.val < 128 then x4 (ix4 b ⟨k - 8192, by omega⟩ h ⟨d, hd⟩)
  else x5 (ix3 b ⟨k - 8192, by omega⟩ ⟨d - 128, by omega⟩)

/-- Component `e` of the value of key `k` of head `h`. -/
def value (b : Fin 2) (h : Fin 8) (k : Fin 8448) (e : Fin 128) : EReal :=
  if hk : k.val < 8192 then x3 (ix4 b ⟨k, hk⟩ h e) else x6 (ix4 b ⟨k - 8192, by omega⟩ h e)

/-- The factor of the scores: the 32-bit rounding of one over the square root of 192. -/
def factor : EReal := Ideal.ofBits .f32 0x3D93CD3A#32

/-- The score of key `k` for query `n` of head `h`. -/
def score (b : Fin 2) (h : Fin 8) (n : Fin 8192) (k : Fin 8448) : EReal :=
  (∑ d : Fin 192, x0 (ix4 b n h d) * key x1 x2 x4 x5 b h k d) * factor

theorem val_main_v6_at (b : Fin 2) (h : Fin 8) (k : Fin 8448) (d : Fin 192) :
    val_main_v6 (F := Ideal) x1 x2 x4 x5 (ix4 b k h d) = key x1 x2 x4 x5 b h k d := by
  unfold val_main_v6 val_main_v2 val_main_v5 val_main_v1 val_main_v0 val_main_v4 val_main_v3
  pointwise [key]

theorem val_main_v7_at (b : Fin 2) (h : Fin 8) (k : Fin 8448) (e : Fin 128) :
    val_main_v7 (F := Ideal) x3 x6 (ix4 b k h e) = value x3 x6 b h k e := by
  unfold val_main_v7
  pointwise [value]

theorem val_main_v10_at (b : Fin 2) (h : Fin 8) (n : Fin 8192) (k : Fin 8448) :
    val_main_v10 (F := Ideal) x0 x1 x2 x4 x5 (ix4 b h n k) = score x0 x1 x2 x4 x5 b h n k := by
  rw [val_main_v10_apply, val_main_v8_apply]
  unfold score factor
  refine congrArg₂ (· * ·) (Finset.sum_congr rfl fun d _ => ?_) rfl
  rw [← val_main_v6_at]
  refine congrArg₂ (· * ·) (congrArg x0 (eq_ix4 _)) (congrArg _ (eq_ix4 _))

theorem ofBits_neg_inf : Ideal.ofBits .f32 0xFF800000#32 = ⊥ := by
  simp [Ideal.ofBits, Ideal.ieee]

theorem val_main_v11_at (b : Fin 2) (h : Fin 8) (n : Fin 8192) :
    val_main_v11 (F := Ideal) x0 x1 x2 x4 x5 (ix3 b h n)
      = Softmax.top (score x0 x1 x2 x4 x5 b h n) Finset.univ := by
  unfold val_main_v11
  generalize hx : val_main_v10 (F := Ideal) x0 x1 x2 x4 x5 = x
  refine (Host.reduce_eq_fold_single (FloatOps.maximumf (F := Ideal) (φ := .f32)) x _ _
    (by decide : S2x8x8192x8448.Reduces [3] S2x8x8192) _ _).trans ?_
  have hi : val_main_cst_0 (F := Ideal) (Shape.Idx.first Gen.h_S_) = ⊥ := ofBits_neg_inf
  rw [hi, ← Softmax.fold_max]
  refine congrArg (fun f => Finset.fold max ⊥ f (Finset.univ : Finset (Fin 8448))) (funext fun k : Fin 8448 => ?_)
  subst hx
  exact (congrArg _ (eq_ix4 _)).trans (val_main_v10_at x0 x1 x2 x4 x5 b h n k)

theorem val_main_v13_at (b : Fin 2) (h : Fin 8) (n : Fin 8192) :
    val_main_v13 (F := Ideal) x0 x1 x2 x4 x5 (ix3 b h n)
      = Softmax.top (score x0 x1 x2 x4 x5 b h n) Finset.univ := by
  rw [val_main_v13_apply, val_main_v12_apply, val_main_v11_at]
  exact (congrArg (max · _) ofBits_neg_inf).trans (max_bot_left _)

theorem val_main_v17_at (b : Fin 2) (h : Fin 8) (n : Fin 8192) (k : Fin 8448) :
    val_main_v17 (F := Ideal) x0 x1 x2 x4 x5 (ix4 b h n k)
      = Ideal.exp (score x0 x1 x2 x4 x5 b h n k - Softmax.top (score x0 x1 x2 x4 x5 b h n) Finset.univ) := by
  rw [val_main_v17_apply, val_main_v16_apply, val_main_v15_apply, val_main_v14_apply, val_main_v10_at,
    ← val_main_v13_at]
  exact congrArg (fun i => Ideal.exp (_ - val_main_v13 (F := Ideal) x0 x1 x2 x4 x5 i)) (eq_ix3 _)

theorem val_main_v18_at (b : Fin 2) (h : Fin 8) (n : Fin 8192) :
    val_main_v18 (F := Ideal) x0 x1 x2 x4 x5 (ix3 b h n)
      = ∑ l, Ideal.exp (score x0 x1 x2 x4 x5 b h n l - Softmax.top (score x0 x1 x2 x4 x5 b h n) Finset.univ) := by
  rw [val_main_v18_apply]
  refine (congrArg₂ (· + ·) (Ideal.ofBits_zero_f32) (Finset.sum_congr rfl fun l _ => ?_)).trans (zero_add _)
  exact (congrArg _ (eq_ix4 _)).trans (val_main_v17_at x0 x1 x2 x4 x5 b h n l)

theorem val_main_v21_at (b : Fin 2) (h : Fin 8) (n : Fin 8192) (k : Fin 8448) :
    val_main_v21 (F := Ideal) x0 x1 x2 x4 x5 (ix4 b h n k)
      = Ideal.div
          (Ideal.exp (score x0 x1 x2 x4 x5 b h n k - Softmax.top (score x0 x1 x2 x4 x5 b h n) Finset.univ))
          (∑ l, Ideal.exp (score x0 x1 x2 x4 x5 b h n l - Softmax.top (score x0 x1 x2 x4 x5 b h n) Finset.univ)) := by
  rw [val_main_v21_apply, val_main_v20_apply, val_main_v19_apply, val_main_v17_at, ← val_main_v18_at]
  exact congrArg (fun i => Ideal.div _ (val_main_v18 (F := Ideal) x0 x1 x2 x4 x5 i)) (eq_ix3 _)

/-- The reference's result at an index: component `e` of head `h`. -/
theorem val_main_v25_at (b : Fin 2) (n : Fin 8192) (h : Fin 8) (e : Fin 128) (j : Fin 1024) (hj : j.val = h * 128 + e) :
    val_main_v25 (F := Ideal) x0 x1 x2 x3 x4 x5 x6 (ix3 b n j)
      = ∑ k, Ideal.div
          (Ideal.exp (score x0 x1 x2 x4 x5 b h n k - Softmax.top (score x0 x1 x2 x4 x5 b h n) Finset.univ))
          (∑ l, Ideal.exp (score x0 x1 x2 x4 x5 b h n l - Softmax.top (score x0 x1 x2 x4 x5 b h n) Finset.univ))
        * value x3 x6 b h k e := by
  have hi : idx_main_v23 (idx_main_v24 (ix3 b n j)) = ix4 b h e n := by
    refine (eq_ix4 _).trans ((ix4_inj _ _ _ _ _ _ _ _).2 ⟨?_, ?_, ?_, ?_⟩) <;> refine Fin.ext ?_ <;> simp [ix3] <;> omega
  rw [val_main_v25_apply, val_main_v24_apply, val_main_v23_apply, hi]
  show val_main_v22 (F := Ideal) x0 x1 x2 x3 x4 x5 x6 _ = _
  rw [val_main_v22_apply]
  refine Finset.sum_congr rfl fun k _ => ?_
  rw [← val_main_v21_at, ← val_main_v7_at, mul_comm]
  exact congrArg₂ (· * ·) (congrArg _ (eq_ix4 _)) (congrArg _ (eq_ix4 _))

end Cert.Attention

end

end
-- ==== Proof.Attention.Blocks.lean ====
module

public import proofs.«01_k».proof.Proof.Attention.Reference
public import proofs.«01_k».proof.Proof.Gen.KernelIdeal.Value
public import Idealize.ShloMosaic.Lib.StableHlo.ReadAt
public import Idealize.ShloMosaic.Lib.Pointwise

/-!
# What the attention kernel's windows read

Grid point `t` works on block `t % 4` of the keys of head `t / 4 % 8` of batch entry `t / 32`. The host lays the
queries, keys and values out by head, pads queries and keys with zeros and scales the queries.
-/

@[expose] public section

set_option maxRecDepth 16384

noncomputable section

namespace Cert.KernelIdeal.Tile

open Cert.KernelIdeal Cert.KernelIdeal.Gen
open Idealize.ShloMosaic Idealize.ShloMosaic.TcCoe Idealize.ShloMosaic.Tactic
open Idealize.SL Idealize.SL.Sem

variable (m : (ℓ : Loc nD τ sig) → Buf (Elt Ideal) ℓ) (c : Dev nD)

/-- The batch entry of a grid point. -/
abbrev batchOf (t : Fin grid0.N) : Fin 2 := ⟨t.val / 32, by have := t.isLt; have : grid0.N = 64 := by decide +kernel
                                                            omega⟩

/-- The head of a grid point. -/
abbrev headOf (t : Fin grid0.N) : Fin 8 := ⟨t.val / 4 % 8, by omega⟩

theorem index_q : ∀ t : Fin grid0.N, win0_0.index t (0 : Fin 4) = t.val / 32 ∧ win0_0.index t (1 : Fin 4) = t.val / 4 % 8
    ∧ win0_0.index t (2 : Fin 4) = 0 ∧ win0_0.index t (3 : Fin 4) = 0 := by decide +kernel

theorem index_k : ∀ t : Fin grid0.N, win0_1.index t (0 : Fin 4) = t.val / 32 ∧ win0_1.index t (1 : Fin 4) = t.val / 4 % 8
    ∧ win0_1.index t (2 : Fin 4) = t.val % 4 ∧ win0_1.index t (3 : Fin 4) = 0 := by decide +kernel

theorem index_vp : ∀ t : Fin grid0.N, win0_2.index t (0 : Fin 4) = t.val / 32 ∧ win0_2.index t (1 : Fin 4) = t.val / 4 % 8
    ∧ win0_2.index t (2 : Fin 4) = t.val % 4 - 1 ∧ win0_2.index t (3 : Fin 4) = 0 := by decide +kernel

theorem index_v : ∀ t : Fin grid0.N, win0_3.index t (0 : Fin 4) = t.val / 32 ∧ win0_3.index t (1 : Fin 4) = t.val / 4 % 8
    ∧ win0_3.index t (2 : Fin 4) = t.val % 4 ∧ win0_3.index t (3 : Fin 4) = 0 := by decide +kernel

theorem index_ck : ∀ t : Fin grid0.N, win0_4.index t (0 : Fin 4) = t.val / 32 ∧ win0_4.index t (1 : Fin 4) = t.val / 4 % 8
    ∧ win0_4.index t (2 : Fin 4) = 0 ∧ win0_4.index t (3 : Fin 4) = 0 := by decide +kernel

theorem index_cv : ∀ t : Fin grid0.N, win0_5.index t (0 : Fin 4) = t.val / 32 ∧ win0_5.index t (1 : Fin 4) = t.val / 4 % 8
    ∧ win0_5.index t (2 : Fin 4) = 0 ∧ win0_5.index t (3 : Fin 4) = 0 := by decide +kernel

/-- The attention's arguments on a device. -/
abbrev arg0 : FVec Ideal S2x8192x8x192 .f32 := m ((c : Thread nD τ).loc main_arg0)
@[inherit_doc arg0] abbrev arg1 : FVec Ideal S2x8192x8x128 .f32 := m ((c : Thread nD τ).loc main_arg1)
@[inherit_doc arg0] abbrev arg2 : FVec Ideal S2x8192x64 .f32 := m ((c : Thread nD τ).loc main_arg2)
@[inherit_doc arg0] abbrev arg3 : FVec Ideal S2x8192x8x128 .f32 := m ((c : Thread nD τ).loc main_arg3)
@[inherit_doc arg0] abbrev arg4 : FVec Ideal S2x256x8x128 .f32 := m ((c : Thread nD τ).loc main_arg4)
@[inherit_doc arg0] abbrev arg5 : FVec Ideal S2x256x64 .f32 := m ((c : Thread nD τ).loc main_arg5)
@[inherit_doc arg0] abbrev arg6 : FVec Ideal S2x256x8x128 .f32 := m ((c : Thread nD τ).loc main_arg6)

/-! ## The blocks -/

/-- Window 0's block of an array, and of what the region finds. -/
theorem read_q (X : Vec Ideal S2x8x8192x256 .bf16) (t : Fin grid0.N) (r : Fin 8192) (d : Fin 256) :
    (((cfg0.win 0).blk t).view.read (Elt Ideal) X : Vec Ideal S1x1x8192x256 .bf16) (ix4 0 0 r d)
      = X (ix4 (batchOf t) (headOf t) r d) := by
  obtain ⟨h0, h1, h2, h3⟩ := index_q t
  refine congrArg X (funext fun a => Fin.ext ?_)
  match a with
  | ⟨0, _⟩ => show win0_0.index t (0 : Fin 4) * 1 + 1 * 0 = t.val / 32; omega
  | ⟨1, _⟩ => show win0_0.index t (1 : Fin 4) * 1 + 1 * 0 = t.val / 4 % 8; omega
  | ⟨2, _⟩ => show win0_0.index t (2 : Fin 4) * 8192 + 1 * r.val = r.val; omega
  | ⟨3, _⟩ => show win0_0.index t (3 : Fin 4) * 256 + 1 * d.val = d.val; omega

@[inherit_doc read_q]
theorem blk_q (t : Fin grid0.N) (r : Fin 8192) (d : Fin 256) :
    (iblk m c 0 t : Vec Ideal S1x1x8192x256 .bf16) (ix4 0 0 r d)
      = (V m c main_v8 : Vec Ideal S2x8x8192x256 .bf16) (ix4 (batchOf t) (headOf t) r d) :=
  read_q _ t r d

/-- Window 1's block of an array, and of what the region finds. -/
theorem read_k (X : Vec Ideal S2x8x8192x256 .bf16) (t : Fin grid0.N) (r : Fin 2048) (d : Fin 256) :
    (((cfg0.win 1).blk t).view.read (Elt Ideal) X : Vec Ideal S1x1x2048x256 .bf16) (ix4 0 0 r d)
      = X (ix4 (batchOf t) (headOf t) ⟨2048 * (t.val % 4) + r.val, by omega⟩ d) := by
  obtain ⟨h0, h1, h2, h3⟩ := index_k t
  refine congrArg X (funext fun a => Fin.ext ?_)
  match a with
  | ⟨0, _⟩ => show win0_1.index t (0 : Fin 4) * 1 + 1 * 0 = t.val / 32; omega
  | ⟨1, _⟩ => show win0_1.index t (1 : Fin 4) * 1 + 1 * 0 = t.val / 4 % 8; omega
  | ⟨2, _⟩ => show win0_1.index t (2 : Fin 4) * 2048 + 1 * r.val = 2048 * (t.val % 4) + r.val; omega
  | ⟨3, _⟩ => show win0_1.index t (3 : Fin 4) * 256 + 1 * d.val = d.val; omega

@[inherit_doc read_k]
theorem blk_k (t : Fin grid0.N) (r : Fin 2048) (d : Fin 256) :
    (iblk m c 1 t : Vec Ideal S1x1x2048x256 .bf16) (ix4 0 0 r d)
      = (V m c main_v15 : Vec Ideal S2x8x8192x256 .bf16) (ix4 (batchOf t) (headOf t) ⟨2048 * (t.val % 4) + r.val, by omega⟩ d) :=
  read_k _ t r d

/-- Window 2's block of an array, and of what the region finds. -/
theorem read_vp (X : Vec Ideal S2x8x8192x128 .bf16) (t : Fin grid0.N) (r : Fin 2048) (d : Fin 128) :
    (((cfg0.win 2).blk t).view.read (Elt Ideal) X : Vec Ideal S1x1x2048x128 .bf16) (ix4 0 0 r d)
      = X (ix4 (batchOf t) (headOf t) ⟨2048 * (t.val % 4 - 1) + r.val, by omega⟩ d) := by
  obtain ⟨h0, h1, h2, h3⟩ := index_vp t
  refine congrArg X (funext fun a => Fin.ext ?_)
  match a with
  | ⟨0, _⟩ => show win0_2.index t (0 : Fin 4) * 1 + 1 * 0 = t.val / 32; omega
  | ⟨1, _⟩ => show win0_2.index t (1 : Fin 4) * 1 + 1 * 0 = t.val / 4 % 8; omega
  | ⟨2, _⟩ => show win0_2.index t (2 : Fin 4) * 2048 + 1 * r.val = 2048 * (t.val % 4 - 1) + r.val; omega
  | ⟨3, _⟩ => show win0_2.index t (3 : Fin 4) * 128 + 1 * d.val = d.val; omega

@[inherit_doc read_vp]
theorem blk_vp (t : Fin grid0.N) (r : Fin 2048) (d : Fin 128) :
    (iblk m c 2 t : Vec Ideal S1x1x2048x128 .bf16) (ix4 0 0 r d)
      = (V m c main_v17 : Vec Ideal S2x8x8192x128 .bf16) (ix4 (batchOf t) (headOf t) ⟨2048 * (t.val % 4 - 1) + r.val, by omega⟩ d) :=
  read_vp _ t r d

/-- Window 3's block of an array, and of what the region finds. -/
theorem read_v (X : Vec Ideal S2x8x8192x128 .bf16) (t : Fin grid0.N) (r : Fin 2048) (d : Fin 128) :
    (((cfg0.win 3).blk t).view.read (Elt Ideal) X : Vec Ideal S1x1x2048x128 .bf16) (ix4 0 0 r d)
      = X (ix4 (batchOf t) (headOf t) ⟨2048 * (t.val % 4) + r.val, by omega⟩ d) := by
  obtain ⟨h0, h1, h2, h3⟩ := index_v t
  refine congrArg X (funext fun a => Fin.ext ?_)
  match a with
  | ⟨0, _⟩ => show win0_3.index t (0 : Fin 4) * 1 + 1 * 0 = t.val / 32; omega
  | ⟨1, _⟩ => show win0_3.index t (1 : Fin 4) * 1 + 1 * 0 = t.val / 4 % 8; omega
  | ⟨2, _⟩ => show win0_3.index t (2 : Fin 4) * 2048 + 1 * r.val = 2048 * (t.val % 4) + r.val; omega
  | ⟨3, _⟩ => show win0_3.index t (3 : Fin 4) * 128 + 1 * d.val = d.val; omega

@[inherit_doc read_v]
theorem blk_v (t : Fin grid0.N) (r : Fin 2048) (d : Fin 128) :
    (iblk m c 3 t : Vec Ideal S1x1x2048x128 .bf16) (ix4 0 0 r d)
      = (V m c main_v17 : Vec Ideal S2x8x8192x128 .bf16) (ix4 (batchOf t) (headOf t) ⟨2048 * (t.val % 4) + r.val, by omega⟩ d) :=
  read_v _ t r d

/-- Window 4's block of an array, and of what the region finds. -/
theorem read_ck (X : Vec Ideal S2x8x256x256 .bf16) (t : Fin grid0.N) (r : Fin 256) (d : Fin 256) :
    (((cfg0.win 4).blk t).view.read (Elt Ideal) X : Vec Ideal S1x1x256x256 .bf16) (ix4 0 0 r d)
      = X (ix4 (batchOf t) (headOf t) r d) := by
  obtain ⟨h0, h1, h2, h3⟩ := index_ck t
  refine congrArg X (funext fun a => Fin.ext ?_)
  match a with
  | ⟨0, _⟩ => show win0_4.index t (0 : Fin 4) * 1 + 1 * 0 = t.val / 32; omega
  | ⟨1, _⟩ => show win0_4.index t (1 : Fin 4) * 1 + 1 * 0 = t.val / 4 % 8; omega
  | ⟨2, _⟩ => show win0_4.index t (2 : Fin 4) * 256 + 1 * r.val = r.val; omega
  | ⟨3, _⟩ => show win0_4.index t (3 : Fin 4) * 256 + 1 * d.val = d.val; omega

@[inherit_doc read_ck]
theorem blk_ck (t : Fin grid0.N) (r : Fin 256) (d : Fin 256) :
    (iblk m c 4 t : Vec Ideal S1x1x256x256 .bf16) (ix4 0 0 r d)
      = (V m c main_v24 : Vec Ideal S2x8x256x256 .bf16) (ix4 (batchOf t) (headOf t) r d) :=
  read_ck _ t r d

/-- Window 5's block of an array, and of what the region finds. -/
theorem read_cv (X : Vec Ideal S2x8x256x128 .bf16) (t : Fin grid0.N) (r : Fin 256) (d : Fin 128) :
    (((cfg0.win 5).blk t).view.read (Elt Ideal) X : Vec Ideal S1x1x256x128 .bf16) (ix4 0 0 r d)
      = X (ix4 (batchOf t) (headOf t) r d) := by
  obtain ⟨h0, h1, h2, h3⟩ := index_cv t
  refine congrArg X (funext fun a => Fin.ext ?_)
  match a with
  | ⟨0, _⟩ => show win0_5.index t (0 : Fin 4) * 1 + 1 * 0 = t.val / 32; omega
  | ⟨1, _⟩ => show win0_5.index t (1 : Fin 4) * 1 + 1 * 0 = t.val / 4 % 8; omega
  | ⟨2, _⟩ => show win0_5.index t (2 : Fin 4) * 256 + 1 * r.val = r.val; omega
  | ⟨3, _⟩ => show win0_5.index t (3 : Fin 4) * 128 + 1 * d.val = d.val; omega

@[inherit_doc read_cv]
theorem blk_cv (t : Fin grid0.N) (r : Fin 256) (d : Fin 128) :
    (iblk m c 5 t : Vec Ideal S1x1x256x128 .bf16) (ix4 0 0 r d)
      = (V m c main_v26 : Vec Ideal S2x8x256x128 .bf16) (ix4 (batchOf t) (headOf t) r d) :=
  read_cv _ t r d

/-! ## What the host hands the kernel -/

theorem V_v8 (b : Fin 2) (h : Fin 8) (n : Fin 8192) (d : Fin 256) :
    (V m c main_v8 : Vec Ideal S2x8x8192x256 .bf16) (ix4 b h n d)
      = if hd : d.val < 192 then Ideal.div (arg0 m c (ix4 b n h ⟨d, hd⟩) * Cert.Attention.factor) (Ideal.log (Ideal.ofBits .f32 0x40000000#32))
        else Ideal.ofBits .f32 0#32 := by
  after_reads_at
  repeat' first | rfl | contradiction | split | after_reads_at

theorem V_v11 (b : Fin 2) (h : Fin 8) (k : Fin 8192) (d : Fin 192) :
    (V m c main_v11 : Vec Ideal S2x8192x8x192 .f32) (ix4 b k h d)
      = if hd : d.val < 128 then arg1 m c (ix4 b k h ⟨d, hd⟩) else arg2 m c (ix3 b k ⟨d - 128, by omega⟩) := by
  after_reads_at
  repeat' first | rfl | contradiction | split | after_reads_at

theorem V_v15 (b : Fin 2) (h : Fin 8) (k : Fin 8192) (d : Fin 256) :
    (V m c main_v15 : Vec Ideal S2x8x8192x256 .bf16) (ix4 b h k d)
      = if hd : d.val < 192 then (V m c main_v11 : Vec Ideal S2x8192x8x192 .f32) (ix4 b k h ⟨d, hd⟩) else Ideal.ofBits .f32 0#32 := by
  after_reads_at
  repeat' first | rfl | contradiction | split | after_reads_at

theorem V_v20 (b : Fin 2) (h : Fin 8) (k : Fin 256) (d : Fin 192) :
    (V m c main_v20 : Vec Ideal S2x256x8x192 .f32) (ix4 b k h d)
      = if hd : d.val < 128 then arg4 m c (ix4 b k h ⟨d, hd⟩) else arg5 m c (ix3 b k ⟨d - 128, by omega⟩) := by
  after_reads_at
  repeat' first | rfl | contradiction | split | after_reads_at

theorem V_v24 (b : Fin 2) (h : Fin 8) (k : Fin 256) (d : Fin 256) :
    (V m c main_v24 : Vec Ideal S2x8x256x256 .bf16) (ix4 b h k d)
      = if hd : d.val < 192 then (V m c main_v20 : Vec Ideal S2x256x8x192 .f32) (ix4 b k h ⟨d, hd⟩) else Ideal.ofBits .f32 0#32 := by
  after_reads_at
  repeat' first | rfl | contradiction | split | after_reads_at

theorem V_v17 (b : Fin 2) (h : Fin 8) (k : Fin 8192) (e : Fin 128) :
    (V m c main_v17 : Vec Ideal S2x8x8192x128 .bf16) (ix4 b h k e) = arg3 m c (ix4 b k h e) := by
  after_reads_at

theorem V_v26 (b : Fin 2) (h : Fin 8) (k : Fin 256) (e : Fin 128) :
    (V m c main_v26 : Vec Ideal S2x8x256x128 .bf16) (ix4 b h k e) = arg6 m c (ix4 b k h e) := by
  after_reads_at

end Cert.KernelIdeal.Tile

end

end
-- ==== Proof.Attention.Rows.lean ====
module

public import proofs.«01_k».proof.Proof.Attention.Tiles

/-!
# One row taking up one block of keys

The keys are numbered with the latent ones first, 2048 to a block, and the context ones last. A row starts from the
context and takes up block after block; `upTo j` are the keys it has seen after `j` blocks.
-/

@[expose] public section

noncomputable section

namespace Cert.KernelIdeal.Tile

open Idealize.ShloMosaic Cert.Softmax

/-- Key `a` of block `j`. -/
def blockKey (j : ℕ) (hj : j < 4) : Fin 2048 ↪ Fin 8448 :=
  ⟨fun a => ⟨2048 * j + a, by omega⟩, fun a b h => Fin.ext (by have := congrArg Fin.val h; simp only at this; omega)⟩

/-- Key `a` of the context. -/
def contextKey : Fin 256 ↪ Fin 8448 :=
  ⟨fun a => ⟨8192 + a, by omega⟩, fun a b h => Fin.ext (by have := congrArg Fin.val h; simp only at this; omega)⟩

theorem blockKey_val (j : ℕ) (hj : j < 4) (a : Fin 2048) : (blockKey j hj a).val = 2048 * j + a := rfl

theorem contextKey_val (a : Fin 256) : (contextKey a).val = 8192 + a := rfl

/-- The context's keys and the first `j` blocks. -/
def upTo (j : ℕ) : Finset (Fin 8448) := Finset.univ.filter fun k => 8192 ≤ k.val ∨ k.val < 2048 * j

theorem upTo_zero : upTo 0 = Finset.univ.map contextKey := by
  ext k
  simp only [upTo, Finset.mem_filter, Finset.mem_univ, true_and, Finset.mem_map]
  constructor
  · intro h
    exact ⟨⟨k - 8192, by omega⟩, Fin.ext (by rw [contextKey_val]; simp only; omega)⟩
  · rintro ⟨a, rfl⟩
    rw [contextKey_val]
    omega

theorem upTo_four : upTo 4 = Finset.univ := by
  ext k
  simp only [upTo, Finset.mem_filter, Finset.mem_univ, true_and, iff_true]
  omega

theorem upTo_succ (j : ℕ) (hj : j < 4) : upTo (j + 1) = upTo j ∪ Finset.univ.map (blockKey j hj) := by
  ext k
  simp only [upTo, Finset.mem_union, Finset.mem_filter, Finset.mem_univ, true_and, Finset.mem_map]
  constructor
  · intro h
    by_cases h' : 8192 ≤ k.val ∨ k.val < 2048 * j
    · exact Or.inl h'
    · exact Or.inr ⟨⟨k - 2048 * j, by omega⟩, Fin.ext (by rw [blockKey_val]; simp only; omega)⟩
  · rintro (h | ⟨a, rfl⟩)
    · omega
    · rw [blockKey_val]
      omega

theorem upTo_disjoint (j : ℕ) (hj : j < 4) : Disjoint (upTo j) (Finset.univ.map (blockKey j hj)) := by
  rw [Finset.disjoint_left]
  intro k hk hk'
  simp only [upTo, Finset.mem_filter, Finset.mem_univ, true_and, Finset.mem_map] at hk hk'
  obtain ⟨a, rfl⟩ := hk'
  rw [blockKey_val] at hk
  omega

theorem upTo_nonempty (j : ℕ) : (upTo j).Nonempty :=
  ⟨⟨8192, by omega⟩, by simp [upTo]⟩

theorem top_map {ι κ : Type} (f : ι ↪ κ) (s : κ → EReal) (S : Finset ι) : top s (S.map f) = top (fun a => s (f a)) S :=
  Finset.sup_map S f s

theorem mass_map {ι κ : Type} (f : ι ↪ κ) (s w : κ → EReal) (S : Finset ι) :
    mass s w (S.map f) = mass (fun a => s (f a)) (fun a => w (f a)) S := by
  rw [mass, mass, Finset.sum_map, top_map]

variable (s w : Fin 8448 → EReal)

theorem top_context : top (fun a => s (contextKey a)) Finset.univ = top s (upTo 0) := by
  rw [upTo_zero, top_map]

theorem mass_context : mass (fun a => s (contextKey a)) (fun a => w (contextKey a)) Finset.univ = mass s w (upTo 0) := by
  rw [upTo_zero, mass_map]

/-- A block is taken up: the largest score. -/
theorem rowTop_block (j : ℕ) (hj : j < 4) :
    rowTop (top s (upTo j)) (fun a => s (blockKey j hj a)) = top s (upTo (j + 1)) := by
  rw [upTo_succ j hj, top_union, top_map, rowTop]

/-- A block is taken up: the weighted values. -/
theorem rowMass_block (hs : ∀ k, ∃ r : ℝ, s k = r) (j : ℕ) (hj : j < 4) (e : Fin 256) :
    rowMass (fun _ => top s (upTo j)) (fun a => s (blockKey j hj a)) (mass s w (upTo j)) (fun a => w (blockKey j hj a)) e
      = mass s w (upTo (j + 1)) := by
  rw [upTo_succ j hj, ← mass_step s w hs (upTo j) _ (upTo_nonempty j) (upTo_disjoint j hj), Finset.sum_map, top_map]
  rfl

theorem top_real (hs : ∀ k, ∃ r : ℝ, s k = r) (j : ℕ) : ∃ r : ℝ, top s (upTo j) = r := by
  choose σ hσ using hs
  exact ⟨_, (congrArg (fun f => top f (upTo j)) (funext hσ)).trans (top_coe σ (upTo j) (upTo_nonempty j))⟩

/-- Scores of minus infinity leave the largest score. -/
theorem rowTop_idle (μ : EReal) : rowTop μ (fun _ => ⊥) = μ := by
  have : top (fun _ : Fin 2048 => (⊥ : EReal)) Finset.univ = ⊥ := by simp [top]
  rw [rowTop, this, max_bot_right]

/-- Scores of minus infinity leave the weighted values. -/
theorem rowMass_idle (μ : EReal) (hμ : ∃ r : ℝ, μ = r) (α : EReal) (v : Fin 2048 → EReal) (e : Fin 256) :
    rowMass (fun _ => μ) (fun _ => ⊥) α v e = α := by
  obtain ⟨r, rfl⟩ := hμ
  rw [rowMass]
  simp only [rowTop_idle, exp2_bot_sub, exp2_self, zero_mul, one_mul, Finset.sum_const_zero, add_zero]

end Cert.KernelIdeal.Tile

end

end
-- ==== Proof.Attention.Fold.lean ====
module

public import proofs.«01_k».proof.Proof.Attention.Cases
public import proofs.«01_k».proof.Proof.Attention.Blocks
public import proofs.«01_k».proof.Proof.Attention.Rows

/-!
# The attention kernel over its grid

A head's four grid points in turn. After each, the rows below 7680 have taken up every block so far; the last 512 rows
are one block behind, the scores of that block kept. The last point catches them up and divides.
-/

@[expose] public section

set_option maxRecDepth 16384

noncomputable section

namespace Cert.KernelIdeal.Tile

open Cert.KernelIdeal Cert.KernelIdeal.Gen
open Idealize.ShloMosaic Idealize.ShloMosaic.TcCoe Idealize.ShloMosaic.Tactic
open Idealize.SL Idealize.SL.Sem

variable (m : (ℓ : Loc nD τ sig) → Buf (Elt Ideal) ℓ) (c : Dev nD)

/-- Component `d` of the query row `n` of head `h`, scaled for powers of two. -/
def query (b : Fin 2) (h : Fin 8) (n : Fin 8192) (d : Fin 192) : EReal :=
  Ideal.div (arg0 m c (ix4 b n h d) * Cert.Attention.factor) (Ideal.log (Ideal.ofBits .f32 0x40000000#32))

/-- Component `d` of key `k` of head `h`. -/
abbrev keyOf (b : Fin 2) (h : Fin 8) (k : Fin 8448) (d : Fin 192) : EReal :=
  Cert.Attention.key (arg1 m c) (arg2 m c) (arg4 m c) (arg5 m c) b h k d

/-- The kernel's score of key `k` for query `n` of head `h`. -/
def logit (b : Fin 2) (h : Fin 8) (n : Fin 8192) (k : Fin 8448) : EReal :=
  ∑ d : Fin 192, query m c b h n d * keyOf m c b h k d

/-- Column `e` of what a key contributes: its values, then ones. -/
def weight (b : Fin 2) (h : Fin 8) (e : Fin 256) (k : Fin 8448) : EReal :=
  if he : e.val < 128 then Cert.Attention.value (arg3 m c) (arg6 m c) b h k ⟨e, he⟩ else 1

/-- The padding adds nothing to a product of queries and keys. -/
theorem sum_padded (f g : Fin 192 → EReal) :
    (∑ d : Fin 256, (if hd : d.val < 192 then f ⟨d, hd⟩ else 0) * (if hd : d.val < 192 then g ⟨d, hd⟩ else 0))
      = ∑ d : Fin 192, f d * g d := by
  refine (Fin.sum_univ_add (a := 192) (b := 64) _).trans ?_
  have hz : (∑ i : Fin 64, (if hd : (Fin.natAdd 192 i).val < 192 then f ⟨(Fin.natAdd 192 i).val, hd⟩ else 0)
      * (if hd : (Fin.natAdd 192 i).val < 192 then g ⟨(Fin.natAdd 192 i).val, hd⟩ else 0)) = 0 :=
    Finset.sum_eq_zero fun i _ => by
      rw [dif_neg (by simp), zero_mul]
  refine (congrArg₂ (· + ·) (Finset.sum_congr rfl fun i _ => ?_) hz).trans (add_zero _)
  rw [dif_pos (by simp : (Fin.castAdd 64 i).val < 192), dif_pos (by simp : (Fin.castAdd 64 i).val < 192)]
  rfl

theorem q_at (t : Fin grid0.N) (r : Fin 8192) (d : Fin 256) :
    ((iblk m c 0 t : Vec Ideal S1x1x8192x256 .bf16) (ix4 0 0 r d) : EReal)
      = if hd : d.val < 192 then query m c (batchOf t) (headOf t) r ⟨d, hd⟩ else 0 := by
  refine (blk_q m c t r d).trans ((V_v8 m c _ _ _ _).trans ?_)
  split
  · rfl
  · exact Ideal.ofBits_zero_f32

theorem k_at (t : Fin grid0.N) (a : Fin 2048) (d : Fin 256) :
    ((iblk m c 1 t : Vec Ideal S1x1x2048x256 .bf16) (ix4 0 0 a d) : EReal)
      = if hd : d.val < 192 then keyOf m c (batchOf t) (headOf t) (blockKey (t.val % 4) (by omega) a) ⟨d, hd⟩ else 0 := by
  refine (blk_k m c t a d).trans ((V_v15 m c _ _ _ _).trans ?_)
  split
  · refine (V_v11 m c _ _ _ _).trans ?_
    rw [keyOf, Cert.Attention.key, dif_pos (show (blockKey _ _ a).val < 8192 by rw [blockKey_val]; omega)]
    rfl
  · exact Ideal.ofBits_zero_f32

theorem ck_at (t : Fin grid0.N) (a : Fin 256) (d : Fin 256) :
    ((iblk m c 4 t : Vec Ideal S1x1x256x256 .bf16) (ix4 0 0 a d) : EReal)
      = if hd : d.val < 192 then keyOf m c (batchOf t) (headOf t) (contextKey a) ⟨d, hd⟩ else 0 := by
  refine (blk_ck m c t a d).trans ((V_v24 m c _ _ _ _).trans ?_)
  have ha : (⟨(contextKey a).val - 8192, by rw [contextKey_val]; omega⟩ : Fin 256) = a :=
    Fin.ext (by simp only [contextKey_val]; omega)
  split
  · refine (V_v20 m c _ _ _ _).trans ?_
    rw [keyOf, Cert.Attention.key, dif_neg (show ¬(contextKey a).val < 8192 by rw [contextKey_val]; omega), ha]
  · exact Ideal.ofBits_zero_f32

theorem blockScores_at (t : Fin grid0.N) (j : ℕ) (hj : j < 4) (ht : t.val % 4 = j) (b : Fin 2) (h : Fin 8) (hb : batchOf t = b) (hh : headOf t = h)
    (r : Fin 8192) (a : Fin 2048) :
    blockScores (iblk m c 0 t) (iblk m c 1 t) r a = logit m c b h r (blockKey j hj a) := by
  subst hb hh ht
  rw [blockScores, logit]
  refine (Finset.sum_congr rfl fun d _ => congrArg₂ (fun x y : EReal => x * y) (q_at m c t r d) (k_at m c t a d)).trans ?_
  exact sum_padded _ _

theorem contextScores_at (t : Fin grid0.N) (b : Fin 2) (h : Fin 8) (hb : batchOf t = b) (hh : headOf t = h)
    (r : Fin 8192) (a : Fin 256) :
    contextScores (iblk m c 0 t) (iblk m c 4 t) r a = logit m c b h r (contextKey a) := by
  subst hb hh
  rw [contextScores, logit]
  refine (Finset.sum_congr rfl fun d _ => congrArg₂ (fun x y : EReal => x * y) (q_at m c t r d) (ck_at m c t a d)).trans ?_
  exact sum_padded _ _

theorem v_at (t : Fin grid0.N) (j : ℕ) (hj : j < 4) (ht : t.val % 4 = j) (b : Fin 2) (h : Fin 8) (hb : batchOf t = b) (hh : headOf t = h)
    (e : Fin 256) (a : Fin 2048) :
    valueAt (iblk m c 3 t) e a = weight m c b h e (blockKey j hj a) := by
  subst hb hh ht
  rw [valueAt, weight]
  split
  · refine (blk_v m c t a _).trans ((V_v17 m c _ _ _ _).trans ?_)
    rw [Cert.Attention.value, dif_pos (by rw [blockKey_val]; omega)]
    rfl
  · rfl

theorem vp_at (t : Fin grid0.N) (j : ℕ) (hj : j < 4) (ht : t.val % 4 = j + 1) (b : Fin 2) (h : Fin 8) (hb : batchOf t = b) (hh : headOf t = h)
    (e : Fin 256) (a : Fin 2048) :
    valueAt (iblk m c 2 t) e a = weight m c b h e (blockKey j hj a) := by
  subst hb hh
  obtain rfl : t.val % 4 - 1 = j := by omega
  rw [valueAt, weight]
  split
  · refine (blk_vp m c t a _).trans ((V_v17 m c _ _ _ _).trans ?_)
    rw [Cert.Attention.value, dif_pos (by rw [blockKey_val]; omega)]
    rfl
  · rfl

theorem cv_at (t : Fin grid0.N) (b : Fin 2) (h : Fin 8) (hb : batchOf t = b) (hh : headOf t = h)
    (e : Fin 256) (a : Fin 256) :
    ((if he : e.val < 128 then (iblk m c 5 t : Vec Ideal S1x1x256x128 .bf16) (ix4 0 0 a ⟨e, he⟩) else (1 : EReal)) : EReal)
      = weight m c b h e (contextKey a) := by
  subst hb hh
  have ha : (⟨(contextKey a).val - 8192, by rw [contextKey_val]; omega⟩ : Fin 256) = a :=
    Fin.ext (by simp only [contextKey_val]; omega)
  rw [weight]
  split
  · refine (blk_cv m c t a _).trans ((V_v26 m c _ _ _ _).trans ?_)
    rw [Cert.Attention.value, dif_neg (by rw [contextKey_val]; omega), ha]
  · rfl

/-- What the scratch holds for head `h` of batch entry `b` once `j` blocks are behind: the rows below 7680 have taken
    up one more block, whose scores are kept for the rows above. -/
structure Held (b : Fin 2) (h : Fin 8) (j : ℕ) (hj : j < 4) (xs0 : Vec Ideal S8192x128 .f32) (xs1 : Vec Ideal S8192x256 .f32)
    (xs2 : Vec Ideal S512x2048 .f32) : Prop where
  top : ∀ (r : Fin 8192) (l : Fin 128), xs0 (ix2 r l) = Softmax.top (logit m c b h r) (upTo (if r.val < 7680 then j + 1 else j))
  mass : ∀ (r : Fin 8192) (e : Fin 256),
    xs1 (ix2 r e) = Softmax.mass (logit m c b h r) (weight m c b h e) (upTo (if r.val < 7680 then j + 1 else j))
  scores : ∀ (p : Fin 512) (a : Fin 2048), xs2 (ix2 p a) = logit m c b h ⟨7680 + p, by omega⟩ (blockKey j hj a)

theorem rowScores_below (q : FVec Ideal S1x1x8192x256 .bf16) (k : FVec Ideal S1x1x2048x256 .bf16) (s : FVec Ideal S512x2048 .f32)
    (r : Fin 8192) (hr : r.val < 7680) : rowScores q k s r = blockScores q k r := funext fun a => if_pos hr

theorem rowValues_below (v vp : FVec Ideal S1x1x2048x128 .bf16) (r : Fin 8192) (hr : r.val < 7680) (e : Fin 256) :
    rowValues v vp r e = valueAt v e := funext fun a => if_pos hr

theorem rowValues_above (v vp : FVec Ideal S1x1x2048x128 .bf16) (r : Fin 8192) (hr : ¬r.val < 7680) (e : Fin 256) :
    rowValues v vp r e = valueAt vp e := funext fun a => if_neg hr

/-- The scores kept by the point before, read by a row above 7680. -/
theorem rowScores_above {b : Fin 2} {h : Fin 8} {j : ℕ} {hj : j < 4} {xs0 : Vec Ideal S8192x128 .f32} {xs1 : Vec Ideal S8192x256 .f32}
    {xs2 : Vec Ideal S512x2048 .f32} (H : Held m c b h j hj xs0 xs1 xs2)
    (q : FVec Ideal S1x1x8192x256 .bf16) (k : FVec Ideal S1x1x2048x256 .bf16)
    (r : Fin 8192) (hr : ¬r.val < 7680) : rowScores q k xs2 r = fun a => logit m c b h r (blockKey j hj a) := funext fun a => by
  rw [rowScores, if_neg hr, H.scores]
  exact congrArg (fun x => logit m c b h x (blockKey j hj a)) (Fin.ext (by simp only; omega))

/-- Row `p` of the last 512. -/
abbrev rowAbove (p : Fin 512) : Fin 8192 := ⟨7680 + p, by omega⟩

/-- The column of a value. -/
abbrev column (e : Fin 128) : Fin 256 := ⟨e, by omega⟩

/-- The column of ones that goes with it. -/
abbrev columnOfOnes (e : Fin 128) : Fin 256 := ⟨128 + e, by omega⟩

/-- What the point before left. -/
abbrev before (t : Fin grid0.N) := outsAt0 m c (t.val - 1) (Nat.lt_of_le_of_lt (Nat.sub_le _ _) t.isLt)

/-- What a point leaves. -/
abbrev left (t : Fin grid0.N) := outsAt0 m c t.val t.isLt

/-! ## The cases of `Cases.lean` at a grid point -/

theorem top_A_at (t : Fin grid0.N) (h0 : t.val % 4 = 0) (h1 : ¬t.val % 4 = 3) (r : Fin 8192) (l : Fin 128) :
    (left m c t).2.1 (ix2 r l)
      = rowTop (k0_pay7 (iblk m c 0 t) (iblk m c 4 t) (ix2 r l)) (rowScores (iblk m c 0 t) (iblk m c 1 t) k0_pay9 r) := by
  have hout := congrArg (fun o => o.2.1) (outsAt0_A m c t h0 h1)
  have hat := top_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
      scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t)
       ((hcond0_0 t).mpr h0) (fun h => h1 ((hcond0_1 t).mp h)) r l
  dsimp only at hout
  rw [left, hout]
  refine Eq.trans ?_ hat
  congr 1

theorem mass_A_at (t : Fin grid0.N) (h0 : t.val % 4 = 0) (h1 : ¬t.val % 4 = 3) (r : Fin 8192) (e : Fin 256) :
    (left m c t).2.2.1 (ix2 r e)
      = rowMass (fun l => k0_pay7 (iblk m c 0 t) (iblk m c 4 t) (ix2 r l)) (rowScores (iblk m c 0 t) (iblk m c 1 t) k0_pay9 r)
          (k0_pay8 (iblk m c 0 t) (iblk m c 4 t) (iblk m c 5 t) (ix2 r e)) (rowValues (iblk m c 3 t) (iblk m c 2 t) r e) e := by
  have hout := congrArg (fun o => o.2.2.1) (outsAt0_A m c t h0 h1)
  have hat := mass_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
      scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t)
       ((hcond0_0 t).mpr h0) (fun h => h1 ((hcond0_1 t).mp h)) r e
  dsimp only at hout
  rw [left, hout]
  refine Eq.trans ?_ hat
  congr 1

theorem scores_A_at (t : Fin grid0.N) (h0 : t.val % 4 = 0) (h1 : ¬t.val % 4 = 3) (p : Fin 512) (a : Fin 2048) :
    (left m c t).2.2.2 (ix2 p a)
      = blockScores (iblk m c 0 t) (iblk m c 1 t) (rowAbove p) a := by
  have hout := congrArg (fun o => o.2.2.2) (outsAt0_A m c t h0 h1)
  have hat := scores_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
      scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t)
       ((hcond0_0 t).mpr h0) (fun h => h1 ((hcond0_1 t).mp h)) p a
  dsimp only at hout
  rw [left, hout]
  refine Eq.trans ?_ hat
  congr 1

theorem top_B_at (t : Fin grid0.N) (h0 : ¬t.val % 4 = 0) (h1 : ¬t.val % 4 = 3) (r : Fin 8192) (l : Fin 128) :
    (left m c t).2.1 (ix2 r l)
      = rowTop ((before m c t).2.1 (ix2 r l)) (rowScores (iblk m c 0 t) (iblk m c 1 t) (before m c t).2.2.2 r) := by
  have hout := congrArg (fun o => o.2.1) (outsAt0_B m c t h0 h1)
  have hat := top_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
      scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t)
      (before m c t).2.1 (before m c t).2.2.1 (before m c t).2.2.2 (fun h => h0 ((hcond0_0 t).mp h)) (fun h => h1 ((hcond0_1 t).mp h)) r l
  dsimp only at hout
  rw [left, hout]
  refine Eq.trans ?_ hat
  congr 1

theorem mass_B_at (t : Fin grid0.N) (h0 : ¬t.val % 4 = 0) (h1 : ¬t.val % 4 = 3) (r : Fin 8192) (e : Fin 256) :
    (left m c t).2.2.1 (ix2 r e)
      = rowMass (fun l => (before m c t).2.1 (ix2 r l)) (rowScores (iblk m c 0 t) (iblk m c 1 t) (before m c t).2.2.2 r)
          ((before m c t).2.2.1 (ix2 r e)) (rowValues (iblk m c 3 t) (iblk m c 2 t) r e) e := by
  have hout := congrArg (fun o => o.2.2.1) (outsAt0_B m c t h0 h1)
  have hat := mass_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
      scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t)
      (before m c t).2.1 (before m c t).2.2.1 (before m c t).2.2.2 (fun h => h0 ((hcond0_0 t).mp h)) (fun h => h1 ((hcond0_1 t).mp h)) r e
  dsimp only at hout
  rw [left, hout]
  refine Eq.trans ?_ hat
  congr 1

theorem scores_B_at (t : Fin grid0.N) (h0 : ¬t.val % 4 = 0) (h1 : ¬t.val % 4 = 3) (p : Fin 512) (a : Fin 2048) :
    (left m c t).2.2.2 (ix2 p a)
      = blockScores (iblk m c 0 t) (iblk m c 1 t) (rowAbove p) a := by
  have hout := congrArg (fun o => o.2.2.2) (outsAt0_B m c t h0 h1)
  have hat := scores_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
      scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t)
      (before m c t).2.1 (before m c t).2.2.1 (before m c t).2.2.2 (fun h => h0 ((hcond0_0 t).mp h)) (fun h => h1 ((hcond0_1 t).mp h)) p a
  dsimp only at hout
  rw [left, hout]
  refine Eq.trans ?_ hat
  congr 1

theorem out_C_at (t : Fin grid0.N) (h0 : ¬t.val % 4 = 0) (h1 : t.val % 4 = 3) (r : Fin 8192) (e : Fin 128) :
    (left m c t).1 (ix3 0 r e)
      = Ideal.div (lastMass (iblk m c 0 t) (iblk m c 1 t) (iblk m c 2 t) (iblk m c 3 t)
          (before m c t).2.1 (before m c t).2.2.1 (before m c t).2.2.2 r (column e))
          (lastMass (iblk m c 0 t) (iblk m c 1 t) (iblk m c 2 t) (iblk m c 3 t)
          (before m c t).2.1 (before m c t).2.2.1 (before m c t).2.2.2 r (columnOfOnes e)) := by
  have hout := congrArg (fun o => o.1) (outsAt0_C m c t h0 h1)
  have hat := out_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
      scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t)
      (before m c t).2.1 (before m c t).2.2.1 (before m c t).2.2.2 (fun h => h0 ((hcond0_0 t).mp h)) ((hcond0_1 t).mpr h1) r e
  dsimp only at hout
  rw [left, hout]
  refine Eq.trans ?_ hat
  congr 1

variable (hs : ∀ b h n k, ∃ x : ℝ, logit m c b h n k = x)

include hs

/-- A row's largest score after a point that is not a head's first. -/
theorem step_top {b : Fin 2} {h : Fin 8} {j : ℕ} {hj : j < 4} {xs0 : Vec Ideal S8192x128 .f32} {xs1 : Vec Ideal S8192x256 .f32}
    {xs2 : Vec Ideal S512x2048 .f32} (H : Held m c b h j hj xs0 xs1 xs2) (t : Fin grid0.N) (hj' : j + 1 < 4) (ht : t.val % 4 = j + 1)
    (hb : batchOf t = b) (hh : headOf t = h) (r : Fin 8192) (l : Fin 128) :
    rowTop (xs0 (ix2 r l)) (rowScores (iblk m c 0 t) (iblk m c 1 t) xs2 r)
      = Softmax.top (logit m c b h r) (upTo (if r.val < 7680 then j + 1 + 1 else j + 1)) := by
  rw [H.top]
  by_cases hr : r.val < 7680
  · rw [if_pos hr, if_pos hr, rowScores_below _ _ _ _ hr, funext (blockScores_at m c t (j + 1) hj' ht b h hb hh r)]
    exact rowTop_block _ _ _
  · rw [if_neg hr, if_neg hr, rowScores_above m c H _ _ r hr]
    exact rowTop_block _ _ _

/-- A row's weighted values after a point that is not a head's first. -/
theorem step_mass {b : Fin 2} {h : Fin 8} {j : ℕ} {hj : j < 4} {xs0 : Vec Ideal S8192x128 .f32} {xs1 : Vec Ideal S8192x256 .f32}
    {xs2 : Vec Ideal S512x2048 .f32} (H : Held m c b h j hj xs0 xs1 xs2) (t : Fin grid0.N) (hj' : j + 1 < 4) (ht : t.val % 4 = j + 1)
    (hb : batchOf t = b) (hh : headOf t = h) (r : Fin 8192) (e : Fin 256) :
    rowMass (fun l => xs0 (ix2 r l)) (rowScores (iblk m c 0 t) (iblk m c 1 t) xs2 r) (xs1 (ix2 r e))
        (rowValues (iblk m c 3 t) (iblk m c 2 t) r e) e
      = Softmax.mass (logit m c b h r) (weight m c b h e) (upTo (if r.val < 7680 then j + 1 + 1 else j + 1)) := by
  rw [H.mass, funext (H.top r)]
  by_cases hr : r.val < 7680
  · rw [if_pos hr, if_pos hr, rowScores_below _ _ _ _ hr, rowValues_below _ _ _ hr,
      funext (blockScores_at m c t (j + 1) hj' ht b h hb hh r), funext (v_at m c t (j + 1) hj' ht b h hb hh e)]
    exact rowMass_block _ _ (hs b h r) _ _ _
  · rw [if_neg hr, if_neg hr, rowScores_above m c H _ _ r hr, rowValues_above _ _ _ hr, funext (vp_at m c t j hj ht b h hb hh e)]
    exact rowMass_block _ _ (hs b h r) _ _ _

/-- The sums a head's last point divides: every key has been taken up. -/
theorem last_mass {b : Fin 2} {h : Fin 8} {hj : 2 < 4} {xs0 : Vec Ideal S8192x128 .f32} {xs1 : Vec Ideal S8192x256 .f32}
    {xs2 : Vec Ideal S512x2048 .f32} (H : Held m c b h 2 hj xs0 xs1 xs2) (t : Fin grid0.N) (ht : t.val % 4 = 3)
    (hb : batchOf t = b) (hh : headOf t = h) (r : Fin 8192) (e : Fin 256) :
    lastMass (iblk m c 0 t) (iblk m c 1 t) (iblk m c 2 t) (iblk m c 3 t) xs0 xs1 xs2 r e
      = Softmax.mass (logit m c b h r) (weight m c b h e) Finset.univ := by
  rw [lastMass, step_mass m c hs H t (by omega) ht hb hh, ← upTo_four]
  by_cases hr : r.val < 7680
  · rw [if_pos hr, if_pos hr]
  · rw [if_neg hr, if_neg hr, funext (fun l => step_top m c hs H t (by omega) ht hb hh r l), if_neg hr,
      funext (blockScores_at m c t 3 (by omega) ht b h hb hh r), funext (v_at m c t 3 (by omega) ht b h hb hh e)]
    exact rowMass_block _ _ (hs b h r) _ _ _

/-- A head's first point. -/
theorem held_first (t : Fin grid0.N) (ht : t.val % 4 = 0) :
    Held m c (batchOf t) (headOf t) 0 (by omega) (left m c t).2.1 (left m c t).2.2.1
      (left m c t).2.2.2 := by
  have hctx : ∀ r, contextScores (iblk m c 0 t) (iblk m c 4 t) r = fun a => logit m c (batchOf t) (headOf t) r (contextKey a) :=
    fun r => funext (contextScores_at m c t _ _ rfl rfl r)
  have hidle : ∀ (q : FVec Ideal S1x1x8192x256 .bf16) (k : FVec Ideal S1x1x2048x256 .bf16) (r : Fin 8192), ¬r.val < 7680 →
      rowScores q k (k0_pay9 (F := Ideal)) r = fun _ => ⊥ := fun q k r hr => funext fun a => by
    rw [rowScores, if_neg hr, pay9_at]
  refine ⟨fun r l => ?_, fun r e => ?_, fun p a => ?_⟩
  · refine (top_A_at m c t ht (by omega) r l).trans ?_
    rw [pay7_at, hctx, top_context]
    by_cases hr : r.val < 7680
    · rw [if_pos hr, rowScores_below _ _ _ _ hr, funext (blockScores_at m c t 0 (by omega) ht _ _ rfl rfl r)]
      exact rowTop_block _ _ _
    · rw [if_neg hr, hidle _ _ _ hr]
      exact rowTop_idle _
  · refine (mass_A_at m c t ht (by omega) r e).trans ?_
    rw [pay8_at, hctx, funext (cv_at m c t _ _ rfl rfl e), mass_context, funext (fun l => pay7_at _ _ r l), hctx, top_context]
    by_cases hr : r.val < 7680
    · rw [if_pos hr, rowScores_below _ _ _ _ hr, rowValues_below _ _ _ hr,
        funext (blockScores_at m c t 0 (by omega) ht _ _ rfl rfl r), funext (v_at m c t 0 (by omega) ht _ _ rfl rfl e)]
      exact rowMass_block _ _ (hs _ _ r) _ _ _
    · rw [if_neg hr, hidle _ _ _ hr]
      exact rowMass_idle _ (top_real _ (hs _ _ r) 0) _ _ _
  · exact (scores_A_at m c t ht (by omega) p a).trans (blockScores_at m c t 0 (by omega) ht _ _ rfl rfl _ a)

/-- The points between. -/
theorem held_next (t : Fin grid0.N) (j : ℕ) (hj : j < 4) (hj' : j + 1 < 4) (ht : t.val % 4 = j + 1) (h3 : ¬t.val % 4 = 3)
    (H : Held m c (batchOf t) (headOf t) j hj (before m c t).2.1
      (before m c t).2.2.1
      (before m c t).2.2.2) :
    Held m c (batchOf t) (headOf t) (j + 1) hj' (left m c t).2.1 (left m c t).2.2.1
      (left m c t).2.2.2 := by
  refine ⟨fun r l => ?_, fun r e => ?_, fun p a => ?_⟩
  · exact (top_B_at m c t (by omega) h3 r l).trans (step_top m c hs H t hj' ht rfl rfl r l)
  · exact (mass_B_at m c t (by omega) h3 r e).trans (step_mass m c hs H t hj' ht rfl rfl r e)
  · exact (scores_B_at m c t (by omega) h3 p a).trans (blockScores_at m c t (j + 1) hj' ht _ _ rfl rfl _ a)

/-- Every point but a head's last. -/
theorem held (j : ℕ) (hj : j < 3) (t : Fin grid0.N) (ht : t.val % 4 = j) :
    Held m c (batchOf t) (headOf t) j (by omega) (left m c t).2.1 (left m c t).2.2.1
      (left m c t).2.2.2 := by
  induction j generalizing t with
  | zero => exact held_first m c hs t ht
  | succ j ih =>
    refine held_next m c hs t j (by omega) (by omega) ht (by omega) ?_
    have hb : batchOf (⟨t.val - 1, Nat.lt_of_le_of_lt (Nat.sub_le _ _) t.isLt⟩ : Fin grid0.N) = batchOf t := Fin.ext (by simp only; omega)
    have hh : headOf (⟨t.val - 1, Nat.lt_of_le_of_lt (Nat.sub_le _ _) t.isLt⟩ : Fin grid0.N) = headOf t := Fin.ext (by simp only; omega)
    have := ih (by omega) ⟨t.val - 1, Nat.lt_of_le_of_lt (Nat.sub_le _ _) t.isLt⟩ (by simp only; omega)
    rwa [hb, hh] at this

/-- What a head's last point leaves of the result. -/
theorem out_last (t : Fin grid0.N) (ht : t.val % 4 = 3) (r : Fin 8192) (e : Fin 128) :
    (left m c t).1 (ix3 0 r e)
      = Ideal.div (Softmax.mass (logit m c (batchOf t) (headOf t) r) (weight m c (batchOf t) (headOf t) ⟨e, by omega⟩) Finset.univ)
          (Softmax.mass (logit m c (batchOf t) (headOf t) r) (fun _ => 1) Finset.univ) := by
  have hb : batchOf (⟨t.val - 1, Nat.lt_of_le_of_lt (Nat.sub_le _ _) t.isLt⟩ : Fin grid0.N) = batchOf t := Fin.ext (by simp only; omega)
  have hh : headOf (⟨t.val - 1, Nat.lt_of_le_of_lt (Nat.sub_le _ _) t.isLt⟩ : Fin grid0.N) = headOf t := Fin.ext (by simp only; omega)
  have H := held m c hs 2 (by omega) ⟨t.val - 1, Nat.lt_of_le_of_lt (Nat.sub_le _ _) t.isLt⟩ (by simp only; omega)
  rw [hb, hh] at H
  have hone : weight m c (batchOf t) (headOf t) ⟨128 + e, by omega⟩ = fun _ => 1 :=
    funext fun k => dif_neg (by simp only; omega)
  refine (out_C_at m c t (by omega) ht r e).trans ?_
  rw [last_mass m c hs H t ht rfl rfl, last_mass m c hs H t ht rfl rfl, hone]

/-- The kernel's result at an index. -/
theorem result_at (b : Fin 2) (n : Fin 8192) (h : Fin 8) (e : Fin 128) (j : Fin 1024) (hj : j.val = h * 128 + e) :
    (Value.G6 m c : Vec Ideal S2x8192x1024 .bf16) (ix3 b n j)
      = Ideal.div (Softmax.mass (logit m c b h n) (fun k => Cert.Attention.value (arg3 m c) (arg6 m c) b h k e) Finset.univ)
          (Softmax.mass (logit m c b h n) (fun _ => 1) Finset.univ) := by
  have hN : grid0.N = 64 := by decide +kernel
  have hp : Value.pt6Of (ix3 b n j) = 4 * (8 * b.val + h.val) + 3 := by
    show 4 * (8 * (b.val / 1 - 0) + 8 * (n.val / 8192 - 0) + 1 * (j.val / 128 - 0)) + 3 = _
    omega
  have hlt : Value.pt6Of (ix3 b n j) < cfg0.N := by
    rw [hp]; show _ < grid0.N; omega
  have hl : Value.loc6Of (ix3 b n j) = (ix3 0 n e : S1x8192x128.Idx) := by
    funext a; apply Fin.ext
    match a with
    | ⟨0, _⟩ => show b.val % 1 = 0; omega
    | ⟨1, _⟩ => show n.val % 8192 = n.val; omega
    | ⟨2, _⟩ => show j.val % 128 = e.val; omega
  have hb : batchOf ⟨Value.pt6Of (ix3 b n j), hlt⟩ = b := Fin.ext (by simp only [hp]; omega)
  have hh : headOf ⟨Value.pt6Of (ix3 b n j), hlt⟩ = h := Fin.ext (by simp only [hp]; omega)
  have hw : weight m c b h ⟨e, by omega⟩ = fun k => Cert.Attention.value (arg3 m c) (arg6 m c) b h k e :=
    funext fun k => dif_pos e.isLt
  have hval : (Value.G6 m c : Vec Ideal S2x8192x1024 .bf16) (ix3 b n j)
      = (outsAt0 m c (Value.pt6Of (ix3 b n j)) hlt).1 (Value.loc6Of (ix3 b n j)) := by
    rw [Value.outsAt0_sweep]
    exact dif_pos hlt
  rw [hval, hl]
  refine (out_last m c hs ⟨Value.pt6Of (ix3 b n j), hlt⟩ (by simp only [hp]; omega) n e).trans ?_
  rw [hb, hh, hw]

end Cert.KernelIdeal.Tile

end

end
-- ==== Proof.Attention.Host.lean ====
module

public import proofs.«01_k».proof.Defs
public import proofs.«01_k».proof.Proof.Attention.Fold
public import Idealize.ShloMosaic.Lib.ReduceAll

/-!
# Finite scores

The precondition makes every query and key component a real number, hence every score; the kernel's scores are the
reference's divided by the logarithm of two.
-/

@[expose] public section

set_option maxRecDepth 16384

noncomputable section

namespace Cert.KernelIdeal.Tile

open Cert.KernelIdeal Cert.KernelIdeal.Gen
open Idealize.ShloMosaic Idealize.ShloMosaic.TcCoe Idealize.ShloMosaic.Tactic
open Idealize.SL Idealize.SL.Sem

theorem log_two : Ideal.log (Ideal.ofBits .f32 0x40000000#32) = (Real.log 2 : ℝ) := by
  have h : Ideal.ofBits .f32 0x40000000#32 = ((2 : ℝ) : EReal) := by
    simp [Ideal.ofBits, Ideal.ieee, -EReal.coe_mul]
    norm_num
  rw [h, Ideal.log_coe, if_neg (by norm_num)]

theorem factor_real : ∃ r : ℝ, Cert.Attention.factor = r := by
  refine ⟨(9686330 : ℝ) * 2 ^ (-27 : ℤ), ?_⟩
  simp [Cert.Attention.factor, Ideal.ofBits, Ideal.ieee, -EReal.coe_mul]

theorem inf_bits : Ideal.ofBits .f32 0x7F800000#32 = ⊤ := by
  simp [Ideal.ofBits, Ideal.ieee]

/-- A comparison of an absolute value with infinity that holds says the value is real. -/
theorem real_of_cmp (x : EReal) (h : Ideal.cmp .olt (max x (-x)) (Ideal.ofBits .f32 0x7F800000#32) = 1#1) : ∃ r : ℝ, x = r := by
  rw [inf_bits] at h
  induction x with
  | bot => exact absurd h (by simp [Ideal.cmp])
  | coe r => exact ⟨r, rfl⟩
  | top => exact absurd h (by simp [Ideal.cmp])

variable (m : (ℓ : Loc nD τ sig) → Buf (Elt Ideal) ℓ) (c : Dev nD)

theorem finite_args [Cert.Pre_finite_scores.Facts] (h : Cert.Pre_KernelIdeal_finite_scores m) :
    (∀ i, ∃ r : ℝ, arg0 m c i = r) ∧ (∀ i, ∃ r : ℝ, arg1 m c i = r) ∧ (∀ i, ∃ r : ℝ, arg2 m c i = r)
      ∧ (∀ i, ∃ r : ℝ, arg4 m c i = r) ∧ (∀ i, ∃ r : ℝ, arg5 m c i = r) := by
  have e := congrFun (h c) (fun a => a.elim0)
  obtain ⟨e, e5⟩ := IntOp.andi_eq_one.1 e
  obtain ⟨e, e4⟩ := IntOp.andi_eq_one.1 e
  obtain ⟨e, e2⟩ := IntOp.andi_eq_one.1 e
  obtain ⟨e0, e1⟩ := IntOp.andi_eq_one.1 e
  haveI : Subsingleton Cert.Pre_finite_scores.S_.Idx := ⟨fun a b => funext fun x => x.elim0⟩
  exact ⟨fun i => real_of_cmp _ (Host.reduce_andi_all _ _ _ _ _ e0 i), fun i => real_of_cmp _ (Host.reduce_andi_all _ _ _ _ _ e1 i),
    fun i => real_of_cmp _ (Host.reduce_andi_all _ _ _ _ _ e2 i), fun i => real_of_cmp _ (Host.reduce_andi_all _ _ _ _ _ e4 i),
    fun i => real_of_cmp _ (Host.reduce_andi_all _ _ _ _ _ e5 i)⟩

/-- The reference's score. -/
abbrev scoreOf (b : Fin 2) (h : Fin 8) (n : Fin 8192) (k : Fin 8448) : EReal :=
  Cert.Attention.score (arg0 m c) (arg1 m c) (arg2 m c) (arg4 m c) (arg5 m c) b h n k

theorem score_real [Cert.Pre_finite_scores.Facts] (hpre : Cert.Pre_KernelIdeal_finite_scores m) (b : Fin 2) (h : Fin 8)
    (n : Fin 8192) (k : Fin 8448) :
    ∃ x : ℝ, scoreOf m c b h n k = x ∧ logit m c b h n k = ((x * (1 / Real.log 2) : ℝ) : EReal) := by
  obtain ⟨h0, h1, h2, h4, h5⟩ := finite_args m c hpre
  obtain ⟨f, hf⟩ := factor_real
  have hk : ∀ d, ∃ r : ℝ, keyOf m c b h k d = r := fun d => by
    rw [keyOf, Cert.Attention.key]
    split <;> split
    · exact h1 _
    · exact h2 _
    · exact h4 _
    · exact h5 _
  choose κ hκ using hk
  choose q hq using fun d => h0 (ix4 b n h d)
  have hlog : (0 : ℝ) < Real.log 2 := Real.log_pos (by norm_num)
  refine ⟨(∑ d, q d * κ d) * f, ?_, ?_⟩
  · rw [scoreOf, Cert.Attention.score, hf, EReal.coe_mul, Softmax.coe_sum]
    refine congrArg (· * (f : EReal)) (Finset.sum_congr rfl fun d _ => ?_)
    rw [EReal.coe_mul, ← hq, ← hκ]
  · rw [logit]
    have : ∀ d, query m c b h n d * keyOf m c b h k d = ((q d * f * (1 / Real.log 2) * κ d : ℝ) : EReal) := fun d => by
      rw [query, log_two, Ideal.div_coe hlog.ne', hκ, hf, hq, EReal.coe_mul, EReal.coe_mul, EReal.coe_mul]
    rw [Finset.sum_congr rfl fun d _ => this d, ← Softmax.coe_sum]
    congr 1
    rw [Finset.sum_mul, Finset.sum_mul]
    exact Finset.sum_congr rfl fun d _ => by ring

/-- The kernel's result at an index is the reference's. -/
theorem result_eq [Cert.Pre_finite_scores.Facts] (hpre : Cert.Pre_KernelIdeal_finite_scores m) (b : Fin 2) (n : Fin 8192) (h : Fin 8) (e : Fin 128)
    (j : Fin 1024) (hj : j.val = h * 128 + e) :
    (Value.G6 m c : Vec Ideal S2x8192x1024 .bf16) (ix3 b n j)
      = Cert.ReferenceIdeal.Read.val_main_v25 (F := Ideal) (arg0 m c) (arg1 m c) (arg2 m c) (arg3 m c) (arg4 m c) (arg5 m c) (arg6 m c) (ix3 b n j) := by
  have hl : ∀ b h n k, ∃ x : ℝ, logit m c b h n k = x := fun b h n k => by
    obtain ⟨x, -, hx⟩ := score_real m c hpre b h n k
    exact ⟨_, hx⟩
  rw [result_at m c hl b n h e j hj]
  refine Eq.trans ?_ (Cert.Attention.val_main_v25_at (arg0 m c) (arg1 m c) (arg2 m c) (arg3 m c) (arg4 m c) (arg5 m c) (arg6 m c) b n h e j hj).symm
  exact Softmax.div_mass (logit m c b h n) (scoreOf m c b h n) _ (fun k => (score_real m c hpre b h n k).imp fun _ hx => hx.1)
    (fun k => by
      obtain ⟨x, hx, hy⟩ := score_real m c hpre b h n k
      rw [hy, hx, EReal.coe_mul]) Finset.univ ⟨0, Finset.mem_univ _⟩

end Cert.KernelIdeal.Tile

end

end
-- ==== Proof.lean ====
module

public import proofs.«01_k».proof.Proof.Ffn.Value
public import proofs.«01_k».proof.Proof.Ffn1.Value
public import proofs.«01_k».proof.Proof.Mix.Value
public import proofs.«01_k».proof.Proof.Gen.Kernel2
public import proofs.«01_k».proof.Proof.Gen.Kernel3
public import proofs.«01_k».proof.Proof.Gen.Kernel4.Frame
public import proofs.«01_k».proof.Proof.Gen.Reference4Ideal.Run
public import proofs.«01_k».proof.Proof.Gen.Reference3Ideal.Run
public import proofs.«01_k».proof.Proof.Gen.Reference2Ideal.Run
public import proofs.«01_k».proof.Defs
public import proofs.«01_k».proof.Proof.Gen.Kernel.Frame
public import proofs.«01_k».proof.Proof.Gen.ReferenceIdeal.Run
public import proofs.«01_k».proof.Proof.Gen.Pre_finite_scores
public import proofs.«01_k».proof.Proof.Attention.Host
public import Idealize.ShloMosaic.Adequacy
public import Idealize.ShloMosaic.Init
public import Idealize.ShloMosaic.Lib.Quiescent

@[expose] public section

noncomputable section

namespace Cert.Proof

open Idealize.ShloMosaic Idealize.ShloMosaic.TcCoe Idealize.ShloMosaic.Tactic Idealize.SL.Sem

theorem frame_reference : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem algebraic : algebraic_KernelIdeal_ReferenceIdeal_pre_finite_scores := by
  intro m ρ m' ρ' hpre hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  obtain ⟨a0, a1, a2, a3, a4, a5, a6⟩ := hagree c
  rw [Cert.ReferenceIdeal.Read.val_main_v25_eq, a0, a1, a2, a3, a4, a5, a6]
  funext i
  have hj : (i 2).val < 1024 := (i 2).isLt
  have hi : i = ix3 (i 0) (i 1) (i 2) := eq_ix3 i
  rw [hi]
  exact (Cert.KernelIdeal.Tile.result_eq m c hpre (i 0) (i 1) ⟨(i 2).val / 128, by omega⟩ ⟨(i 2).val % 128, by omega⟩ (i 2)
    (by simp only; omega)).symm

/-! ## The feed-forward kernel -/

/-- The two printed programs have the same text; the table of bodies is one label's, so it is compared label by label. -/
theorem defs₀_same : Cert.Kernel2.defs₀ (F := Bits) = Cert.Kernel2Ideal.defs₀ (F := Bits) := by
  unfold Cert.Kernel2.defs₀ Cert.Kernel2Ideal.defs₀
  refine congrArg Defs.onTc (funext fun a => ?_)
  match a with
  | 0 => rfl
  | ⟨n + 1, h⟩ => exact absurd h (Nat.not_lt.2 (Nat.le_add_left _ _))

theorem defs_same : Cert.Kernel2.defs (F := Bits) = Cert.Kernel2Ideal.defs (F := Bits) :=
  congrArg (Pipeline.defs Cert.Kernel2Ideal.pcfgs) defs₀_same

theorem frame_ffn : quiescent_Kernel2 := by
  intro m ρ _
  rw [defs_same]
  exact (θ_run Cert.Kernel2Ideal.defs _ _).mono (fun _ h => ⟨h.1.1, h.2⟩) (Cert.Proof.Ffn.run_main (F := Bits) m ρ)

theorem frame_ffn_ideal : quiescent_Kernel2Ideal := fun m ρ _ =>
  (θ_run Cert.Kernel2Ideal.defs _ _).mono (fun _ h => ⟨h.1.1, h.2⟩) (Cert.Proof.Ffn.run_main (F := Ideal) m ρ)

theorem frame_ffn_reference : quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

theorem algebraic_ffn : algebraic_Kernel2Ideal_Reference2Ideal := by
  intro m ρ m' ρ' _ hagree
  refine ⟨Cert.Ffn.G m, (θ_run Cert.Kernel2Ideal.defs _ _).mono (fun _ h c => ⟨(h.1.2 c).trans (Cert.Ffn.final m c), h.1.1 c⟩)
    (Cert.Proof.Ffn.run_main (F := Ideal) m ρ), ?_⟩
  refine (θ_run Cert.Reference2Ideal.defs _ _).mono (fun _ h c => ⟨?_, (h c).2⟩) (Cert.Reference2Ideal.Value.run (F := Ideal) m' ρ')
  rw [(h c).1]
  obtain ⟨a0, a1, a2, a3, a4, a5⟩ := hagree c
  rw [Cert.Reference2Ideal.Read.val_main_v50_eq, a0, a1, a2, a3, a4, a5]
  funext i
  obtain ⟨r, e, rfl⟩ : ∃ (r : Fin 16384) (e : Fin 2048), i = ix2 r e := ⟨_, _, eq_ix2 i⟩
  exact Cert.Ffn.val_main_v50_at _ _ _ _ _ _ r e

/-! ## The first half-step's kernel -/

/-- The two printed programs have the same text; the table of bodies is one label's, so it is compared label by label. -/
theorem defs₀_same_first : Cert.Kernel3.defs₀ (F := Bits) = Cert.Kernel3Ideal.defs₀ (F := Bits) := by
  unfold Cert.Kernel3.defs₀ Cert.Kernel3Ideal.defs₀
  refine congrArg Defs.onTc (funext fun a => ?_)
  match a with
  | 0 => rfl
  | ⟨n + 1, h⟩ => exact absurd h (Nat.not_lt.2 (Nat.le_add_left _ _))

theorem defs_same_first : Cert.Kernel3.defs (F := Bits) = Cert.Kernel3Ideal.defs (F := Bits) :=
  congrArg (Pipeline.defs Cert.Kernel3Ideal.pcfgs) defs₀_same_first

theorem frame_first : quiescent_Kernel3 := by
  intro m ρ _
  rw [defs_same_first]
  exact (θ_run Cert.Kernel3Ideal.defs _ _).mono (fun _ h => ⟨h.1.1, h.2⟩) (Cert.Proof.Ffn1.run_main (F := Bits) m ρ)

theorem frame_first_ideal : quiescent_Kernel3Ideal := fun m ρ _ =>
  (θ_run Cert.Kernel3Ideal.defs _ _).mono (fun _ h => ⟨h.1.1, h.2⟩) (Cert.Proof.Ffn1.run_main (F := Ideal) m ρ)

theorem frame_first_reference : quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

theorem algebraic_first : algebraic_Kernel3Ideal_Reference3Ideal := by
  intro m ρ m' ρ' _ hagree
  refine ⟨Cert.Ffn1.G m, (θ_run Cert.Kernel3Ideal.defs _ _).mono (fun _ h c => ⟨(h.1.2 c).trans (Cert.Ffn1.final m c), h.1.1 c⟩)
    (Cert.Proof.Ffn1.run_main (F := Ideal) m ρ), ?_⟩
  refine (θ_run Cert.Reference3Ideal.defs _ _).mono (fun _ h c => ⟨?_, (h c).2⟩) (Cert.Reference3Ideal.Value.run (F := Ideal) m' ρ')
  rw [(h c).1]
  obtain ⟨a0, a1, a2, a3, a4⟩ := hagree c
  rw [Cert.Reference3Ideal.Read.val_main_v37_eq, a0, a1, a2, a3, a4]
  funext i
  obtain ⟨r, e, rfl⟩ : ∃ (r : Fin 16384) (e : Fin 2048), i = ix2 r e := ⟨_, _, eq_ix2 i⟩
  exact Cert.Ffn1.val_main_v37_at _ _ _ _ _ r e

/-! ## The joining of the two mixers -/

theorem frame_mix_reference : quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

theorem algebraic_mix : algebraic_Kernel4Ideal_Reference4Ideal := by
  intro m ρ m' ρ' _ hagree
  refine ⟨Cert.Mix.G m, (θ_run Cert.Kernel4Ideal.defs _ _).mono (fun _ h c => ⟨(h c).1.trans (Cert.Mix.final m c), (h c).2⟩)
    (Cert.Kernel4Ideal.Value.run_blocks (F := Ideal) m ρ), ?_⟩
  refine (θ_run Cert.Reference4Ideal.defs _ _).mono (fun _ h c => ⟨?_, (h c).2⟩) (Cert.Reference4Ideal.Value.run (F := Ideal) m' ρ')
  rw [(h c).1]
  obtain ⟨a0, a1, a2, a3, a4⟩ := hagree c
  rw [Cert.Reference4Ideal.Read.val_main_v10_eq, a0, a1, a2, a3, a4]
  funext i
  obtain ⟨r, e, rfl⟩ : ∃ (r : Fin 16384) (e : Fin 2048), i = ix2 r e := ⟨_, _, eq_ix2 i⟩
  exact Cert.Mix.val_main_v10_at _ _ _ _ _ r e

theorem claim : Cert.Claim := ⟨Cert.Kernel.Gen.facts, Cert.KernelIdeal.Gen.facts, Cert.ReferenceIdeal.Gen.facts, Cert.Kernel2.Gen.facts,
  Cert.Kernel2Ideal.Gen.facts, Cert.Reference2Ideal.Gen.facts, Cert.Kernel3.Gen.facts, Cert.Kernel3Ideal.Gen.facts,
  Cert.Reference3Ideal.Gen.facts, Cert.Kernel4.Gen.facts, Cert.Kernel4Ideal.Gen.facts, Cert.Reference4Ideal.Gen.facts,
  Cert.Pre_finite_scores.Gen.facts,
  fun m ρ _ => Cert.Kernel.Gen.frame m ρ, fun m ρ _ => Cert.KernelIdeal.Gen.frame m ρ, fun m ρ _ => Cert.KernelIdeal.Gen.frame m ρ,
  frame_reference, fun m ρ _ => frame_reference m ρ trivial, frame_ffn, frame_ffn_ideal, frame_ffn_reference,
  frame_first, frame_first_ideal, frame_first_reference,
  fun m ρ _ => Cert.Kernel4.Gen.frame m ρ, fun m ρ _ => Cert.Kernel4Ideal.Gen.frame m ρ, frame_mix_reference,
  (trivial : preserves_Kernel_KernelIdeal), algebraic, (trivial : preserves_Kernel2_Kernel2Ideal), algebraic_ffn,
  (trivial : preserves_Kernel3_Kernel3Ideal), algebraic_first,
  (trivial : preserves_Kernel4_Kernel4Ideal), algebraic_mix⟩

end Cert.Proof

end
